-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 1024, 1024]⟩ ⟨5, ![2, 2, 2, 1024, 1024]⟩ (Layout.meshBlock [2, 2, 2] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x1024x1024 : Shape := ⟨5, ![1, 1, 1, 1024, 1024]⟩
abbrev S1024x1024 : Shape := ⟨2, ![1024, 1024]⟩
abbrev S6x168x1024 : Shape := ⟨3, ![6, 168, 1024]⟩
abbrev S6x10 : Shape := ⟨2, ![6, 10]⟩
abbrev S_ : Shape := ⟨0, ![]⟩
abbrev S1x1 : Shape := ⟨2, ![1, 1]⟩
abbrev S1x96x1024 : Shape := ⟨3, ![1, 96, 1024]⟩
abbrev S96x1024 : Shape := ⟨2, ![96, 1024]⟩
abbrev S1x1x1x96x1024 : Shape := ⟨5, ![1, 1, 1, 96, 1024]⟩
abbrev S1x64x1024 : Shape := ⟨3, ![1, 64, 1024]⟩
abbrev S64x1024 : Shape := ⟨2, ![64, 1024]⟩
abbrev S1x1x1x64x1024 : Shape := ⟨5, ![1, 1, 1, 64, 1024]⟩
abbrev S1x48x1024 : Shape := ⟨3, ![1, 48, 1024]⟩
abbrev S48x1024 : Shape := ⟨2, ![48, 1024]⟩
abbrev S1x32x1024 : Shape := ⟨3, ![1, 32, 1024]⟩
abbrev S32x1024 : Shape := ⟨2, ![32, 1024]⟩
abbrev S1x24x1024 : Shape := ⟨3, ![1, 24, 1024]⟩
abbrev S24x1024 : Shape := ⟨2, ![24, 1024]⟩
abbrev S1x16x1024 : Shape := ⟨3, ![1, 16, 1024]⟩
abbrev S16x1024 : Shape := ⟨2, ![16, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1x1x1x1024x1024, .f32⟩
  | .hbm, ⟨1, _⟩ => ⟨S1024x1024, .f32⟩
  | .local _ .vmem, ⟨0, _⟩ => ⟨S1x1x1x1024x1024, .f32⟩
  | .local _ .vmem, ⟨1, _⟩ => ⟨S1024x1024, .f32⟩
  | .local _ .vmem, ⟨2, _⟩ => ⟨S6x168x1024, .f32⟩
  | _, _ => ⟨S1x1x1x1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  (ofTc nBuf bufTy 1 122 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_28 : BitVec 32) (c4_i32 : BitVec 32) : Fin 5 → Nat :=
  let c0_i32_225 : BitVec 32 := 0#32
  let c0_i32_226 : BitVec 32 := 0#32
  let c0_i32_227 : BitVec 32 := 0#32
  let c1_i32_26 : BitVec 32 := 1#32
  let v0 : BitVec 32 := Dev.word d0
  let v1 : BitVec 32 := Scalar.divsi v0 c4_i32
  let c2_i32 : BitVec 32 := 2#32
  let v2 : BitVec 32 := Scalar.remsi v1 c2_i32
  let v43 : BitVec 32 := Scalar.subi c1_i32_26 v2
  let c96_i32_27 : BitVec 32 := 96#32
  let v44 : BitVec 32 := Scalar.muli v43 c96_i32_27
  let v45 : BitVec 32 := Scalar.addi c0_i32_28 v44
  let c0_i32_239 : BitVec 32 := 0#32
  ![0, 0, 0, v45.toNat, 0]
def k0_off1_at (r : Fin 4) : BitVec 32 × BitVec 32 :=
  if r.val < 2 then
    if r.val < 1 then
      (0#32, 4#32)
    else
      (384#32, 2#32)
  else
    if r.val < 3 then
      (704#32, 1#32)
    else
      (192#32, 4#32)
def k0_dev4 (d0 : Dev nD) : Nat :=
  let c0_i32_234 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_233 : BitVec 32 := 4#32
  let v325 : BitVec 32 := Scalar.muli v9 c4_i32_233
  let v326 : BitVec 32 := Scalar.addi c0_i32_234 v325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_235 : BitVec 32 := 2#32
  let v327 : BitVec 32 := Scalar.muli v5 c2_i32_235
  let v328 : BitVec 32 := Scalar.addi v326 v327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_236 : BitVec 32 := 1#32
  let v329 : BitVec 32 := Scalar.muli v8 c1_i32_236
  let v330 : BitVec 32 := Scalar.addi v328 v329
  v330.toNat
def k0_dev5 (d0 : Dev nD) : Nat :=
  let c0_i32_249 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_248 : BitVec 32 := 4#32
  let v339 : BitVec 32 := Scalar.muli v2 c4_i32_248
  let v340 : BitVec 32 := Scalar.addi c0_i32_249 v339
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_250 : BitVec 32 := 2#32
  let v341 : BitVec 32 := Scalar.muli v10 c2_i32_250
  let v342 : BitVec 32 := Scalar.addi v340 v341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_251 : BitVec 32 := 1#32
  let v343 : BitVec 32 := Scalar.muli v8 c1_i32_251
  let v344 : BitVec 32 := Scalar.addi v342 v343
  v344.toNat
def k0_dev6 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v353 : BitVec 32 := Scalar.muli v2 c4_i32_263
  let v354 : BitVec 32 := Scalar.addi c0_i32_264 v353
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v355 : BitVec 32 := Scalar.muli v5 c2_i32_265
  let v356 : BitVec 32 := Scalar.addi v354 v355
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_266 : BitVec 32 := 1#32
  let v357 : BitVec 32 := Scalar.muli v11 c1_i32_266
  let v358 : BitVec 32 := Scalar.addi v356 v357
  v358.toNat
def k0_dev7 (d0 : Dev nD) : Nat :=
  let c0_i32_279 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_278 : BitVec 32 := 4#32
  let v367 : BitVec 32 := Scalar.muli v9 c4_i32_278
  let v368 : BitVec 32 := Scalar.addi c0_i32_279 v367
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_280 : BitVec 32 := 2#32
  let v369 : BitVec 32 := Scalar.muli v5 c2_i32_280
  let v370 : BitVec 32 := Scalar.addi v368 v369
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_281 : BitVec 32 := 1#32
  let v371 : BitVec 32 := Scalar.muli v8 c1_i32_281
  let v372 : BitVec 32 := Scalar.addi v370 v371
  v372.toNat
def k0_off2 (d0 : Dev nD) (c576_i32_165 : BitVec 32) (c2_i32_1 : BitVec 32) : Fin 5 → Nat :=
  let c0_i32_285 : BitVec 32 := 0#32
  let c0_i32_286 : BitVec 32 := 0#32
  let c0_i32_287 : BitVec 32 := 0#32
  let c1_i32_163 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v239 : BitVec 32 := Scalar.subi c1_i32_163 v5
  let c64_i32_164 : BitVec 32 := 64#32
  let v240 : BitVec 32 := Scalar.muli v239 c64_i32_164
  let v241 : BitVec 32 := Scalar.addi c576_i32_165 v240
  let c0_i32_299 : BitVec 32 := 0#32
  ![0, 0, 0, v241.toNat, 0]
def k0_off2_at (r : Fin 2) : BitVec 32 × BitVec 32 :=
  if r.val < 1 then
    (576#32, 2#32)
  else
    (896#32, 1#32)
def k0_dev8 (d0 : Dev nD) : Nat :=
  let c0_i32_294 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_293 : BitVec 32 := 4#32
  let v381 : BitVec 32 := Scalar.muli v2 c4_i32_293
  let v382 : BitVec 32 := Scalar.addi c0_i32_294 v381
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_295 : BitVec 32 := 2#32
  let v383 : BitVec 32 := Scalar.muli v10 c2_i32_295
  let v384 : BitVec 32 := Scalar.addi v382 v383
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_296 : BitVec 32 := 1#32
  let v385 : BitVec 32 := Scalar.muli v8 c1_i32_296
  let v386 : BitVec 32 := Scalar.addi v384 v385
  v386.toNat
def k0_dev9 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v395 : BitVec 32 := Scalar.muli v2 c4_i32_307
  let v396 : BitVec 32 := Scalar.addi c0_i32_308 v395
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_309 : BitVec 32 := 2#32
  let v397 : BitVec 32 := Scalar.muli v5 c2_i32_309
  let v398 : BitVec 32 := Scalar.addi v396 v397
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_310 : BitVec 32 := 1#32
  let v399 : BitVec 32 := Scalar.muli v11 c1_i32_310
  let v400 : BitVec 32 := Scalar.addi v398 v399
  v400.toNat
def k0_off3 (d0 : Dev nD) (c0_i32_20 : BitVec 32) (c4_i32 : BitVec 32) : Fin 5 → Nat :=
  let c0 : Index := 0#32
  let c0_329 : Index := 0#32
  let c0_330 : Index := 0#32
  let v0 : BitVec 32 := Dev.word d0
  let v1 : BitVec 32 := Scalar.divsi v0 c4_i32
  let c2_i32 : BitVec 32 := 2#32
  let v2 : BitVec 32 := Scalar.remsi v1 c2_i32
  let c96_i32 : BitVec 32 := 96#32
  let v31 : BitVec 32 := Scalar.muli v2 c96_i32
  let v32 : BitVec 32 := Scalar.addi c0_i32_20 v31
  let v421 : Index := Scalar.indexCast v32
  let c0_331 : Index := 0#32
  ![0, 0, 0, v421.toNat, 0]
def k0_off3_at (r : Fin 4) : BitVec 32 × BitVec 32 :=
  if r.val < 2 then
    if r.val < 1 then
      (0#32, 4#32)
    else
      (384#32, 2#32)
  else
    if r.val < 3 then
      (704#32, 1#32)
    else
      (192#32, 4#32)
def k0_off4 (d0 : Dev nD) (c0_i32_20 : BitVec 32) (c4_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c96_i32 : BitVec 32 := 96#32
  let v31 : BitVec 32 := Scalar.muli v2 c96_i32
  let v32 : BitVec 32 := Scalar.addi c0_i32_20 v31
  let v427 : Index := Scalar.indexCast v32
  let c0_335 : Index := 0#32
  ![v427.toNat, 0]
def k0_off4_at (r : Fin 4) : BitVec 32 × BitVec 32 :=
  if r.val < 2 then
    if r.val < 1 then
      (0#32, 4#32)
    else
      (384#32, 2#32)
  else
    if r.val < 3 then
      (704#32, 1#32)
    else
      (192#32, 4#32)
def k0_off5 (d0 : Dev nD) (c0_i32_20 : BitVec 32) (c4_i32 : BitVec 32) (c2_i32_1 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c96_i32 : BitVec 32 := 96#32
  let v31 : BitVec 32 := Scalar.muli v2 c96_i32
  let v32 : BitVec 32 := Scalar.addi c0_i32_20 v31
  let c1_i32_29 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v46 : BitVec 32 := Scalar.subi c1_i32_29 v5
  let c48_i32_30 : BitVec 32 := 48#32
  let v47 : BitVec 32 := Scalar.muli v46 c48_i32_30
  let v48 : BitVec 32 := Scalar.addi v32 v47
  let c0_i32_347 : BitVec 32 := 0#32
  ![v48.toNat, 0]
def k0_off5_at (r : Fin 4) : BitVec 32 × BitVec 32 × BitVec 32 :=
  if r.val < 2 then
    if r.val < 1 then
      (0#32, 4#32, 2#32)
    else
      (384#32, 2#32, 1#32)
  else
    if r.val < 3 then
      (704#32, 1#32, 4#32)
    else
      (192#32, 4#32, 2#32)
def k0_dev10 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_341 : BitVec 32 := 4#32
  let v429 : BitVec 32 := Scalar.muli v2 c4_i32_341
  let v430 : BitVec 32 := Scalar.addi c0_i32_342 v429
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_343 : BitVec 32 := 2#32
  let v431 : BitVec 32 := Scalar.muli v10 c2_i32_343
  let v432 : BitVec 32 := Scalar.addi v430 v431
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_344 : BitVec 32 := 1#32
  let v433 : BitVec 32 := Scalar.muli v8 c1_i32_344
  let v434 : BitVec 32 := Scalar.addi v432 v433
  v434.toNat
def k0_dev11 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v462 : BitVec 32 := Scalar.muli v2 c4_i32_375
  let v463 : BitVec 32 := Scalar.addi c0_i32_376 v462
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v464 : BitVec 32 := Scalar.muli v5 c2_i32_377
  let v465 : BitVec 32 := Scalar.addi v463 v464
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_378 : BitVec 32 := 1#32
  let v466 : BitVec 32 := Scalar.muli v11 c1_i32_378
  let v467 : BitVec 32 := Scalar.addi v465 v466
  v467.toNat
def k0_dev12 (d0 : Dev nD) : Nat :=
  let c0_i32_410 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_409 : BitVec 32 := 4#32
  let v495 : BitVec 32 := Scalar.muli v9 c4_i32_409
  let v496 : BitVec 32 := Scalar.addi c0_i32_410 v495
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_411 : BitVec 32 := 2#32
  let v497 : BitVec 32 := Scalar.muli v5 c2_i32_411
  let v498 : BitVec 32 := Scalar.addi v496 v497
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_412 : BitVec 32 := 1#32
  let v499 : BitVec 32 := Scalar.muli v8 c1_i32_412
  let v500 : BitVec 32 := Scalar.addi v498 v499
  v500.toNat
def k0_dev13 (d0 : Dev nD) : Nat :=
  let c0_i32_444 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_443 : BitVec 32 := 4#32
  let v528 : BitVec 32 := Scalar.muli v2 c4_i32_443
  let v529 : BitVec 32 := Scalar.addi c0_i32_444 v528
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_445 : BitVec 32 := 2#32
  let v530 : BitVec 32 := Scalar.muli v10 c2_i32_445
  let v531 : BitVec 32 := Scalar.addi v529 v530
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_446 : BitVec 32 := 1#32
  let v532 : BitVec 32 := Scalar.muli v8 c1_i32_446
  let v533 : BitVec 32 := Scalar.addi v531 v532
  v533.toNat
def k0_off6 (d0 : Dev nD) (c576_i32 : BitVec 32) (c2_i32_1 : BitVec 32) : Fin 5 → Nat :=
  let c0_465 : Index := 0#32
  let c0_466 : Index := 0#32
  let c0_467 : Index := 0#32
  let v3 : BitVec 32 := Dev.word d0
  let v4 : BitVec 32 := Scalar.divsi v3 c2_i32_1
  let c2_i32_0 : BitVec 32 := 2#32
  let v5 : BitVec 32 := Scalar.remsi v4 c2_i32_0
  let c64_i32 : BitVec 32 := 64#32
  let v227 : BitVec 32 := Scalar.muli v5 c64_i32
  let v228 : BitVec 32 := Scalar.addi c576_i32 v227
  let v553 : Index := Scalar.indexCast v228
  let c0_468 : Index := 0#32
  ![0, 0, 0, v553.toNat, 0]
def k0_off6_at (r : Fin 2) : BitVec 32 × BitVec 32 :=
  if r.val < 1 then
    (576#32, 2#32)
  else
    (896#32, 1#32)
def k0_off7 (d0 : Dev nD) (c576_i32 : BitVec 32) (c2_i32_1 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c64_i32 : BitVec 32 := 64#32
  let v227 : BitVec 32 := Scalar.muli v5 c64_i32
  let v228 : BitVec 32 := Scalar.addi c576_i32 v227
  let v559 : Index := Scalar.indexCast v228
  let c0_471 : Index := 0#32
  ![v559.toNat, 0]
def k0_off7_at (r : Fin 2) : BitVec 32 × BitVec 32 :=
  if r.val < 1 then
    (576#32, 2#32)
  else
    (896#32, 1#32)
def k0_off8 (d0 : Dev nD) (c576_i32 : BitVec 32) (c2_i32_1 : BitVec 32) (c1_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c64_i32 : BitVec 32 := 64#32
  let v227 : BitVec 32 := Scalar.muli v5 c64_i32
  let v228 : BitVec 32 := Scalar.addi c576_i32 v227
  let c1_i32_166 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v242 : BitVec 32 := Scalar.subi c1_i32_166 v8
  let c32_i32_167 : BitVec 32 := 32#32
  let v243 : BitVec 32 := Scalar.muli v242 c32_i32_167
  let v244 : BitVec 32 := Scalar.addi v228 v243
  let c0_i32_483 : BitVec 32 := 0#32
  ![v244.toNat, 0]
def k0_off8_at (r : Fin 2) : BitVec 32 × BitVec 32 × BitVec 32 :=
  if r.val < 1 then
    (576#32, 2#32, 1#32)
  else
    (896#32, 1#32, 4#32)
def k0_dev14 (d0 : Dev nD) : Nat :=
  let c0_i32_478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_477 : BitVec 32 := 4#32
  let v561 : BitVec 32 := Scalar.muli v2 c4_i32_477
  let v562 : BitVec 32 := Scalar.addi c0_i32_478 v561
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v563 : BitVec 32 := Scalar.muli v5 c2_i32_479
  let v564 : BitVec 32 := Scalar.addi v562 v563
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_480 : BitVec 32 := 1#32
  let v565 : BitVec 32 := Scalar.muli v11 c1_i32_480
  let v566 : BitVec 32 := Scalar.addi v564 v565
  v566.toNat
def k0_dev15 (d0 : Dev nD) : Nat :=
  let c0_i32_512 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_511 : BitVec 32 := 4#32
  let v594 : BitVec 32 := Scalar.muli v9 c4_i32_511
  let v595 : BitVec 32 := Scalar.addi c0_i32_512 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_513 : BitVec 32 := 2#32
  let v596 : BitVec 32 := Scalar.muli v5 c2_i32_513
  let v597 : BitVec 32 := Scalar.addi v595 v596
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_514 : BitVec 32 := 1#32
  let v598 : BitVec 32 := Scalar.muli v8 c1_i32_514
  let v599 : BitVec 32 := Scalar.addi v597 v598
  v599.toNat
def k0_off9 (d0 : Dev nD) (c0_i32_22 : BitVec 32) (c4_i32 : BitVec 32) (c2_i32_1 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c96_i32_21 : BitVec 32 := 96#32
  let v33 : BitVec 32 := Scalar.muli v2 c96_i32_21
  let v34 : BitVec 32 := Scalar.addi c0_i32_22 v33
  let v3 : BitVec 32 := Dev.word d0
  let v4 : BitVec 32 := Scalar.divsi v3 c2_i32_1
  let c2_i32_0 : BitVec 32 := 2#32
  let v5 : BitVec 32 := Scalar.remsi v4 c2_i32_0
  let c48_i32 : BitVec 32 := 48#32
  let v35 : BitVec 32 := Scalar.muli v5 c48_i32
  let v36 : BitVec 32 := Scalar.addi v34 v35
  let v618 : Index := Scalar.indexCast v36
  let c0_530 : Index := 0#32
  ![v618.toNat, 0]
def k0_off9_at (r : Fin 4) : BitVec 32 × BitVec 32 × BitVec 32 :=
  if r.val < 2 then
    if r.val < 1 then
      (0#32, 4#32, 2#32)
    else
      (384#32, 2#32, 1#32)
  else
    if r.val < 3 then
      (704#32, 1#32, 4#32)
    else
      (192#32, 4#32, 2#32)
def k0_off10 (d0 : Dev nD) (c0_i32_22 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c96_i32_21 : BitVec 32 := 96#32
  let v33 : BitVec 32 := Scalar.muli v2 c96_i32_21
  let v34 : BitVec 32 := Scalar.addi c0_i32_22 v33
  let v3 : BitVec 32 := Dev.word d0
  let v4 : BitVec 32 := Scalar.divsi v3 c2_i32_1
  let c2_i32_0 : BitVec 32 := 2#32
  let v5 : BitVec 32 := Scalar.remsi v4 c2_i32_0
  let c48_i32 : BitVec 32 := 48#32
  let v35 : BitVec 32 := Scalar.muli v5 c48_i32
  let v36 : BitVec 32 := Scalar.addi v34 v35
  let c1_i32_31 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v49 : BitVec 32 := Scalar.subi c1_i32_31 v8
  let c24_i32_32 : BitVec 32 := 24#32
  let v50 : BitVec 32 := Scalar.muli v49 c24_i32_32
  let v51 : BitVec 32 := Scalar.addi v36 v50
  let c0_i32_544 : BitVec 32 := 0#32
  ![v51.toNat, 0]
def k0_off10_at (r : Fin 4) : BitVec 32 × BitVec 32 × BitVec 32 × BitVec 32 :=
  if r.val < 2 then
    if r.val < 1 then
      (0#32, 4#32, 2#32, 1#32)
    else
      (384#32, 2#32, 1#32, 4#32)
  else
    if r.val < 3 then
      (704#32, 1#32, 4#32, 2#32)
    else
      (192#32, 4#32, 2#32, 1#32)
def k0_dev16 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v626 : BitVec 32 := Scalar.muli v2 c4_i32_539
  let v627 : BitVec 32 := Scalar.addi c0_i32_540 v626
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v628 : BitVec 32 := Scalar.muli v5 c2_i32_541
  let v629 : BitVec 32 := Scalar.addi v627 v628
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_542 : BitVec 32 := 1#32
  let v630 : BitVec 32 := Scalar.muli v11 c1_i32_542
  let v631 : BitVec 32 := Scalar.addi v629 v630
  v631.toNat
def k0_dev17 (d0 : Dev nD) : Nat :=
  let c0_i32_568 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_567 : BitVec 32 := 4#32
  let v658 : BitVec 32 := Scalar.muli v9 c4_i32_567
  let v659 : BitVec 32 := Scalar.addi c0_i32_568 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_569 : BitVec 32 := 2#32
  let v660 : BitVec 32 := Scalar.muli v5 c2_i32_569
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_570 : BitVec 32 := 1#32
  let v662 : BitVec 32 := Scalar.muli v8 c1_i32_570
  let v663 : BitVec 32 := Scalar.addi v661 v662
  v663.toNat
def k0_dev18 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_596 : BitVec 32 := 4#32
  let v690 : BitVec 32 := Scalar.muli v2 c4_i32_596
  let v691 : BitVec 32 := Scalar.addi c0_i32_597 v690
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_598 : BitVec 32 := 2#32
  let v692 : BitVec 32 := Scalar.muli v10 c2_i32_598
  let v693 : BitVec 32 := Scalar.addi v691 v692
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_599 : BitVec 32 := 1#32
  let v694 : BitVec 32 := Scalar.muli v8 c1_i32_599
  let v695 : BitVec 32 := Scalar.addi v693 v694
  v695.toNat
def k0_dev19 (d0 : Dev nD) : Nat :=
  let c0_i32_626 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_625 : BitVec 32 := 4#32
  let v722 : BitVec 32 := Scalar.muli v2 c4_i32_625
  let v723 : BitVec 32 := Scalar.addi c0_i32_626 v722
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_627 : BitVec 32 := 2#32
  let v724 : BitVec 32 := Scalar.muli v5 c2_i32_627
  let v725 : BitVec 32 := Scalar.addi v723 v724
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_628 : BitVec 32 := 1#32
  let v726 : BitVec 32 := Scalar.muli v11 c1_i32_628
  let v727 : BitVec 32 := Scalar.addi v725 v726
  v727.toNat
def k0_off11 (d0 : Dev nD) (c576_i32_159 : BitVec 32) (c2_i32_1 : BitVec 32) (c1_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c64_i32_158 : BitVec 32 := 64#32
  let v229 : BitVec 32 := Scalar.muli v5 c64_i32_158
  let v230 : BitVec 32 := Scalar.addi c576_i32_159 v229
  let v6 : BitVec 32 := Dev.word d0
  let v7 : BitVec 32 := Scalar.divsi v6 c1_i32
  let c2_i32_2 : BitVec 32 := 2#32
  let v8 : BitVec 32 := Scalar.remsi v7 c2_i32_2
  let c32_i32 : BitVec 32 := 32#32
  let v231 : BitVec 32 := Scalar.muli v8 c32_i32
  let v232 : BitVec 32 := Scalar.addi v230 v231
  let v746 : Index := Scalar.indexCast v232
  let c0_644 : Index := 0#32
  ![v746.toNat, 0]
def k0_off11_at (r : Fin 2) : BitVec 32 × BitVec 32 × BitVec 32 :=
  if r.val < 1 then
    (576#32, 2#32, 1#32)
  else
    (896#32, 1#32, 4#32)
def k0_off12 (d0 : Dev nD) (c576_i32_159 : BitVec 32) (c2_i32_1 : BitVec 32) (c1_i32 : BitVec 32) (c4_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c64_i32_158 : BitVec 32 := 64#32
  let v229 : BitVec 32 := Scalar.muli v5 c64_i32_158
  let v230 : BitVec 32 := Scalar.addi c576_i32_159 v229
  let v6 : BitVec 32 := Dev.word d0
  let v7 : BitVec 32 := Scalar.divsi v6 c1_i32
  let c2_i32_2 : BitVec 32 := 2#32
  let v8 : BitVec 32 := Scalar.remsi v7 c2_i32_2
  let c32_i32 : BitVec 32 := 32#32
  let v231 : BitVec 32 := Scalar.muli v8 c32_i32
  let v232 : BitVec 32 := Scalar.addi v230 v231
  let c1_i32_168 : BitVec 32 := 1#32
  let v0 : BitVec 32 := Dev.word d0
  let v1 : BitVec 32 := Scalar.divsi v0 c4_i32
  let c2_i32 : BitVec 32 := 2#32
  let v2 : BitVec 32 := Scalar.remsi v1 c2_i32
  let v245 : BitVec 32 := Scalar.subi c1_i32_168 v2
  let c16_i32_169 : BitVec 32 := 16#32
  let v246 : BitVec 32 := Scalar.muli v245 c16_i32_169
  let v247 : BitVec 32 := Scalar.addi v232 v246
  let c0_i32_659 : BitVec 32 := 0#32
  ![v247.toNat, 0]
def k0_off12_at (r : Fin 2) : BitVec 32 × BitVec 32 × BitVec 32 × BitVec 32 :=
  if r.val < 1 then
    (576#32, 2#32, 1#32, 4#32)
  else
    (896#32, 1#32, 4#32, 2#32)
def k0_dev20 (d0 : Dev nD) : Nat :=
  let c0_i32_654 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_653 : BitVec 32 := 4#32
  let v754 : BitVec 32 := Scalar.muli v9 c4_i32_653
  let v755 : BitVec 32 := Scalar.addi c0_i32_654 v754
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_655 : BitVec 32 := 2#32
  let v756 : BitVec 32 := Scalar.muli v5 c2_i32_655
  let v757 : BitVec 32 := Scalar.addi v755 v756
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_656 : BitVec 32 := 1#32
  let v758 : BitVec 32 := Scalar.muli v8 c1_i32_656
  let v759 : BitVec 32 := Scalar.addi v757 v758
  v759.toNat
def k0_dev21 (d0 : Dev nD) : Nat :=
  let c0_i32_683 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_682 : BitVec 32 := 4#32
  let v786 : BitVec 32 := Scalar.muli v2 c4_i32_682
  let v787 : BitVec 32 := Scalar.addi c0_i32_683 v786
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_684 : BitVec 32 := 2#32
  let v788 : BitVec 32 := Scalar.muli v10 c2_i32_684
  let v789 : BitVec 32 := Scalar.addi v787 v788
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_685 : BitVec 32 := 1#32
  let v790 : BitVec 32 := Scalar.muli v8 c1_i32_685
  let v791 : BitVec 32 := Scalar.addi v789 v790
  v791.toNat
def k0_off13 (d0 : Dev nD) (c0_i32_24 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c96_i32_23 : BitVec 32 := 96#32
  let v37 : BitVec 32 := Scalar.muli v2 c96_i32_23
  let v38 : BitVec 32 := Scalar.addi c0_i32_24 v37
  let v3 : BitVec 32 := Dev.word d0
  let v4 : BitVec 32 := Scalar.divsi v3 c2_i32_1
  let c2_i32_0 : BitVec 32 := 2#32
  let v5 : BitVec 32 := Scalar.remsi v4 c2_i32_0
  let c48_i32_25 : BitVec 32 := 48#32
  let v39 : BitVec 32 := Scalar.muli v5 c48_i32_25
  let v40 : BitVec 32 := Scalar.addi v38 v39
  let v6 : BitVec 32 := Dev.word d0
  let v7 : BitVec 32 := Scalar.divsi v6 c1_i32
  let c2_i32_2 : BitVec 32 := 2#32
  let v8 : BitVec 32 := Scalar.remsi v7 c2_i32_2
  let c24_i32 : BitVec 32 := 24#32
  let v41 : BitVec 32 := Scalar.muli v8 c24_i32
  let v42 : BitVec 32 := Scalar.addi v40 v41
  let v810 : Index := Scalar.indexCast v42
  let c0_701 : Index := 0#32
  ![v810.toNat, 0]
def k0_off13_at (r : Fin 4) : BitVec 32 × BitVec 32 × BitVec 32 × BitVec 32 :=
  if r.val < 2 then
    if r.val < 1 then
      (0#32, 4#32, 2#32, 1#32)
    else
      (384#32, 2#32, 1#32, 4#32)
  else
    if r.val < 3 then
      (704#32, 1#32, 4#32, 2#32)
    else
      (192#32, 4#32, 2#32, 1#32)
def k0_off14 (d0 : Dev nD) (c0_i32_34 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c96_i32_33 : BitVec 32 := 96#32
  let v52 : BitVec 32 := Scalar.muli v2 c96_i32_33
  let v53 : BitVec 32 := Scalar.addi c0_i32_34 v52
  let v3 : BitVec 32 := Dev.word d0
  let v4 : BitVec 32 := Scalar.divsi v3 c2_i32_1
  let c2_i32_0 : BitVec 32 := 2#32
  let v5 : BitVec 32 := Scalar.remsi v4 c2_i32_0
  let c48_i32_35 : BitVec 32 := 48#32
  let v54 : BitVec 32 := Scalar.muli v5 c48_i32_35
  let v55 : BitVec 32 := Scalar.addi v53 v54
  let v6 : BitVec 32 := Dev.word d0
  let v7 : BitVec 32 := Scalar.divsi v6 c1_i32
  let c2_i32_2 : BitVec 32 := 2#32
  let v8 : BitVec 32 := Scalar.remsi v7 c2_i32_2
  let c24_i32_36 : BitVec 32 := 24#32
  let v56 : BitVec 32 := Scalar.muli v8 c24_i32_36
  let v57 : BitVec 32 := Scalar.addi v55 v56
  let c0_i32_713 : BitVec 32 := 0#32
  ![v57.toNat, 0]
def k0_off14_at (r : Fin 4) : BitVec 32 × BitVec 32 × BitVec 32 × BitVec 32 :=
  if r.val < 2 then
    if r.val < 1 then
      (0#32, 4#32, 2#32, 1#32)
    else
      (384#32, 2#32, 1#32, 4#32)
  else
    if r.val < 3 then
      (704#32, 1#32, 4#32, 2#32)
    else
      (192#32, 4#32, 2#32, 1#32)
def k0_dev22 (d0 : Dev nD) : Nat :=
  let c0_i32_710 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_709 : BitVec 32 := 4#32
  let v818 : BitVec 32 := Scalar.muli v2 c4_i32_709
  let v819 : BitVec 32 := Scalar.addi c0_i32_710 v818
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_711 : BitVec 32 := 2#32
  let v820 : BitVec 32 := Scalar.muli v5 c2_i32_711
  let v821 : BitVec 32 := Scalar.addi v819 v820
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_712 : BitVec 32 := 1#32
  let v822 : BitVec 32 := Scalar.muli v11 c1_i32_712
  let v823 : BitVec 32 := Scalar.addi v821 v822
  v823.toNat
def k0_dev23 (d0 : Dev nD) : Nat :=
  let c0_i32_720 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_719 : BitVec 32 := 4#32
  let v830 : BitVec 32 := Scalar.muli v2 c4_i32_719
  let v831 : BitVec 32 := Scalar.addi c0_i32_720 v830
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_721 : BitVec 32 := 2#32
  let v832 : BitVec 32 := Scalar.muli v10 c2_i32_721
  let v833 : BitVec 32 := Scalar.addi v831 v832
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_722 : BitVec 32 := 1#32
  let v834 : BitVec 32 := Scalar.muli v8 c1_i32_722
  let v835 : BitVec 32 := Scalar.addi v833 v834
  v835.toNat
def k0_dev24 (d0 : Dev nD) : Nat :=
  let c0_i32_729 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_728 : BitVec 32 := 4#32
  let v842 : BitVec 32 := Scalar.muli v9 c4_i32_728
  let v843 : BitVec 32 := Scalar.addi c0_i32_729 v842
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_730 : BitVec 32 := 2#32
  let v844 : BitVec 32 := Scalar.muli v5 c2_i32_730
  let v845 : BitVec 32 := Scalar.addi v843 v844
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_731 : BitVec 32 := 1#32
  let v846 : BitVec 32 := Scalar.muli v8 c1_i32_731
  let v847 : BitVec 32 := Scalar.addi v845 v846
  v847.toNat
def k0_dev25 (d0 : Dev nD) : Nat :=
  let c0_i32_756 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_755 : BitVec 32 := 4#32
  let v873 : BitVec 32 := Scalar.muli v9 c4_i32_755
  let v874 : BitVec 32 := Scalar.addi c0_i32_756 v873
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_757 : BitVec 32 := 2#32
  let v875 : BitVec 32 := Scalar.muli v5 c2_i32_757
  let v876 : BitVec 32 := Scalar.addi v874 v875
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_758 : BitVec 32 := 1#32
  let v877 : BitVec 32 := Scalar.muli v8 c1_i32_758
  let v878 : BitVec 32 := Scalar.addi v876 v877
  v878.toNat
def k0_dev26 (d0 : Dev nD) : Nat :=
  let c0_i32_766 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_765 : BitVec 32 := 4#32
  let v885 : BitVec 32 := Scalar.muli v2 c4_i32_765
  let v886 : BitVec 32 := Scalar.addi c0_i32_766 v885
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_767 : BitVec 32 := 2#32
  let v887 : BitVec 32 := Scalar.muli v5 c2_i32_767
  let v888 : BitVec 32 := Scalar.addi v886 v887
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_768 : BitVec 32 := 1#32
  let v889 : BitVec 32 := Scalar.muli v11 c1_i32_768
  let v890 : BitVec 32 := Scalar.addi v888 v889
  v890.toNat
def k0_dev27 (d0 : Dev nD) : Nat :=
  let c0_i32_776 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_775 : BitVec 32 := 4#32
  let v897 : BitVec 32 := Scalar.muli v2 c4_i32_775
  let v898 : BitVec 32 := Scalar.addi c0_i32_776 v897
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_777 : BitVec 32 := 2#32
  let v899 : BitVec 32 := Scalar.muli v10 c2_i32_777
  let v900 : BitVec 32 := Scalar.addi v898 v899
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_778 : BitVec 32 := 1#32
  let v901 : BitVec 32 := Scalar.muli v8 c1_i32_778
  let v902 : BitVec 32 := Scalar.addi v900 v901
  v902.toNat
def k0_dev28 (d0 : Dev nD) : Nat :=
  let c0_i32_803 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_802 : BitVec 32 := 4#32
  let v928 : BitVec 32 := Scalar.muli v2 c4_i32_802
  let v929 : BitVec 32 := Scalar.addi c0_i32_803 v928
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_804 : BitVec 32 := 2#32
  let v930 : BitVec 32 := Scalar.muli v10 c2_i32_804
  let v931 : BitVec 32 := Scalar.addi v929 v930
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_805 : BitVec 32 := 1#32
  let v932 : BitVec 32 := Scalar.muli v8 c1_i32_805
  let v933 : BitVec 32 := Scalar.addi v931 v932
  v933.toNat
def k0_dev29 (d0 : Dev nD) : Nat :=
  let c0_i32_813 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_812 : BitVec 32 := 4#32
  let v940 : BitVec 32 := Scalar.muli v9 c4_i32_812
  let v941 : BitVec 32 := Scalar.addi c0_i32_813 v940
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_814 : BitVec 32 := 2#32
  let v942 : BitVec 32 := Scalar.muli v5 c2_i32_814
  let v943 : BitVec 32 := Scalar.addi v941 v942
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_815 : BitVec 32 := 1#32
  let v944 : BitVec 32 := Scalar.muli v8 c1_i32_815
  let v945 : BitVec 32 := Scalar.addi v943 v944
  v945.toNat
def k0_dev30 (d0 : Dev nD) : Nat :=
  let c0_i32_823 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_822 : BitVec 32 := 4#32
  let v952 : BitVec 32 := Scalar.muli v2 c4_i32_822
  let v953 : BitVec 32 := Scalar.addi c0_i32_823 v952
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_824 : BitVec 32 := 2#32
  let v954 : BitVec 32 := Scalar.muli v5 c2_i32_824
  let v955 : BitVec 32 := Scalar.addi v953 v954
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_825 : BitVec 32 := 1#32
  let v956 : BitVec 32 := Scalar.muli v11 c1_i32_825
  let v957 : BitVec 32 := Scalar.addi v955 v956
  v957.toNat
def k0_dev31 (d0 : Dev nD) : Nat :=
  let c0_i32_850 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_849 : BitVec 32 := 4#32
  let v983 : BitVec 32 := Scalar.muli v2 c4_i32_849
  let v984 : BitVec 32 := Scalar.addi c0_i32_850 v983
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_851 : BitVec 32 := 2#32
  let v985 : BitVec 32 := Scalar.muli v5 c2_i32_851
  let v986 : BitVec 32 := Scalar.addi v984 v985
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_852 : BitVec 32 := 1#32
  let v987 : BitVec 32 := Scalar.muli v11 c1_i32_852
  let v988 : BitVec 32 := Scalar.addi v986 v987
  v988.toNat
def k0_dev32 (d0 : Dev nD) : Nat :=
  let c0_i32_860 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_859 : BitVec 32 := 4#32
  let v995 : BitVec 32 := Scalar.muli v2 c4_i32_859
  let v996 : BitVec 32 := Scalar.addi c0_i32_860 v995
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_861 : BitVec 32 := 2#32
  let v997 : BitVec 32 := Scalar.muli v10 c2_i32_861
  let v998 : BitVec 32 := Scalar.addi v996 v997
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_862 : BitVec 32 := 1#32
  let v999 : BitVec 32 := Scalar.muli v8 c1_i32_862
  let v1000 : BitVec 32 := Scalar.addi v998 v999
  v1000.toNat
def k0_dev33 (d0 : Dev nD) : Nat :=
  let c0_i32_870 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_869 : BitVec 32 := 4#32
  let v1007 : BitVec 32 := Scalar.muli v9 c4_i32_869
  let v1008 : BitVec 32 := Scalar.addi c0_i32_870 v1007
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_871 : BitVec 32 := 2#32
  let v1009 : BitVec 32 := Scalar.muli v5 c2_i32_871
  let v1010 : BitVec 32 := Scalar.addi v1008 v1009
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_872 : BitVec 32 := 1#32
  let v1011 : BitVec 32 := Scalar.muli v8 c1_i32_872
  let v1012 : BitVec 32 := Scalar.addi v1010 v1011
  v1012.toNat
def k0_off15 (d0 : Dev nD) (c576_i32_161 : BitVec 32) (c2_i32_1 : BitVec 32) (c1_i32 : BitVec 32) (c4_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c64_i32_160 : BitVec 32 := 64#32
  let v233 : BitVec 32 := Scalar.muli v5 c64_i32_160
  let v234 : BitVec 32 := Scalar.addi c576_i32_161 v233
  let v6 : BitVec 32 := Dev.word d0
  let v7 : BitVec 32 := Scalar.divsi v6 c1_i32
  let c2_i32_2 : BitVec 32 := 2#32
  let v8 : BitVec 32 := Scalar.remsi v7 c2_i32_2
  let c32_i32_162 : BitVec 32 := 32#32
  let v235 : BitVec 32 := Scalar.muli v8 c32_i32_162
  let v236 : BitVec 32 := Scalar.addi v234 v235
  let v0 : BitVec 32 := Dev.word d0
  let v1 : BitVec 32 := Scalar.divsi v0 c4_i32
  let c2_i32 : BitVec 32 := 2#32
  let v2 : BitVec 32 := Scalar.remsi v1 c2_i32
  let c16_i32 : BitVec 32 := 16#32
  let v237 : BitVec 32 := Scalar.muli v2 c16_i32
  let v238 : BitVec 32 := Scalar.addi v236 v237
  let v1030 : Index := Scalar.indexCast v238
  let c0_887 : Index := 0#32
  ![v1030.toNat, 0]
def k0_off15_at (r : Fin 2) : BitVec 32 × BitVec 32 × BitVec 32 × BitVec 32 :=
  if r.val < 1 then
    (576#32, 2#32, 1#32, 4#32)
  else
    (896#32, 1#32, 4#32, 2#32)
def k0_off16 (d0 : Dev nD) (c576_i32_171 : BitVec 32) (c2_i32_1 : BitVec 32) (c1_i32 : BitVec 32) (c4_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c64_i32_170 : BitVec 32 := 64#32
  let v248 : BitVec 32 := Scalar.muli v5 c64_i32_170
  let v249 : BitVec 32 := Scalar.addi c576_i32_171 v248
  let v6 : BitVec 32 := Dev.word d0
  let v7 : BitVec 32 := Scalar.divsi v6 c1_i32
  let c2_i32_2 : BitVec 32 := 2#32
  let v8 : BitVec 32 := Scalar.remsi v7 c2_i32_2
  let c32_i32_172 : BitVec 32 := 32#32
  let v250 : BitVec 32 := Scalar.muli v8 c32_i32_172
  let v251 : BitVec 32 := Scalar.addi v249 v250
  let v0 : BitVec 32 := Dev.word d0
  let v1 : BitVec 32 := Scalar.divsi v0 c4_i32
  let c2_i32 : BitVec 32 := 2#32
  let v2 : BitVec 32 := Scalar.remsi v1 c2_i32
  let c16_i32_173 : BitVec 32 := 16#32
  let v252 : BitVec 32 := Scalar.muli v2 c16_i32_173
  let v253 : BitVec 32 := Scalar.addi v251 v252
  let c0_i32_900 : BitVec 32 := 0#32
  ![v253.toNat, 0]
def k0_off16_at (r : Fin 2) : BitVec 32 × BitVec 32 × BitVec 32 × BitVec 32 :=
  if r.val < 1 then
    (576#32, 2#32, 1#32, 4#32)
  else
    (896#32, 1#32, 4#32, 2#32)
def k0_dev34 (d0 : Dev nD) : Nat :=
  let c0_i32_897 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_896 : BitVec 32 := 4#32
  let v1038 : BitVec 32 := Scalar.muli v9 c4_i32_896
  let v1039 : BitVec 32 := Scalar.addi c0_i32_897 v1038
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_898 : BitVec 32 := 2#32
  let v1040 : BitVec 32 := Scalar.muli v5 c2_i32_898
  let v1041 : BitVec 32 := Scalar.addi v1039 v1040
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_899 : BitVec 32 := 1#32
  let v1042 : BitVec 32 := Scalar.muli v8 c1_i32_899
  let v1043 : BitVec 32 := Scalar.addi v1041 v1042
  v1043.toNat
def k0_dev35 (d0 : Dev nD) : Nat :=
  let c0_i32_907 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_906 : BitVec 32 := 4#32
  let v1050 : BitVec 32 := Scalar.muli v2 c4_i32_906
  let v1051 : BitVec 32 := Scalar.addi c0_i32_907 v1050
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_908 : BitVec 32 := 2#32
  let v1052 : BitVec 32 := Scalar.muli v5 c2_i32_908
  let v1053 : BitVec 32 := Scalar.addi v1051 v1052
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_909 : BitVec 32 := 1#32
  let v1054 : BitVec 32 := Scalar.muli v11 c1_i32_909
  let v1055 : BitVec 32 := Scalar.addi v1053 v1054
  v1055.toNat
def k0_dev36 (d0 : Dev nD) : Nat :=
  let c0_i32_917 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_916 : BitVec 32 := 4#32
  let v1062 : BitVec 32 := Scalar.muli v2 c4_i32_916
  let v1063 : BitVec 32 := Scalar.addi c0_i32_917 v1062
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_918 : BitVec 32 := 2#32
  let v1064 : BitVec 32 := Scalar.muli v10 c2_i32_918
  let v1065 : BitVec 32 := Scalar.addi v1063 v1064
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_919 : BitVec 32 := 1#32
  let v1066 : BitVec 32 := Scalar.muli v8 c1_i32_919
  let v1067 : BitVec 32 := Scalar.addi v1065 v1066
  v1067.toNat
def k0_dev37 (d0 : Dev nD) : Nat :=
  let c0_i32_944 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_943 : BitVec 32 := 4#32
  let v1093 : BitVec 32 := Scalar.muli v2 c4_i32_943
  let v1094 : BitVec 32 := Scalar.addi c0_i32_944 v1093
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_945 : BitVec 32 := 2#32
  let v1095 : BitVec 32 := Scalar.muli v10 c2_i32_945
  let v1096 : BitVec 32 := Scalar.addi v1094 v1095
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_946 : BitVec 32 := 1#32
  let v1097 : BitVec 32 := Scalar.muli v8 c1_i32_946
  let v1098 : BitVec 32 := Scalar.addi v1096 v1097
  v1098.toNat
def k0_dev38 (d0 : Dev nD) : Nat :=
  let c0_i32_954 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_953 : BitVec 32 := 4#32
  let v1105 : BitVec 32 := Scalar.muli v9 c4_i32_953
  let v1106 : BitVec 32 := Scalar.addi c0_i32_954 v1105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_955 : BitVec 32 := 2#32
  let v1107 : BitVec 32 := Scalar.muli v5 c2_i32_955
  let v1108 : BitVec 32 := Scalar.addi v1106 v1107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_956 : BitVec 32 := 1#32
  let v1109 : BitVec 32 := Scalar.muli v8 c1_i32_956
  let v1110 : BitVec 32 := Scalar.addi v1108 v1109
  v1110.toNat
def k0_dev39 (d0 : Dev nD) : Nat :=
  let c0_i32_964 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_963 : BitVec 32 := 4#32
  let v1117 : BitVec 32 := Scalar.muli v2 c4_i32_963
  let v1118 : BitVec 32 := Scalar.addi c0_i32_964 v1117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_965 : BitVec 32 := 2#32
  let v1119 : BitVec 32 := Scalar.muli v5 c2_i32_965
  let v1120 : BitVec 32 := Scalar.addi v1118 v1119
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_966 : BitVec 32 := 1#32
  let v1121 : BitVec 32 := Scalar.muli v11 c1_i32_966
  let v1122 : BitVec 32 := Scalar.addi v1120 v1121
  v1122.toNat
def k0_dev40 (d0 : Dev nD) : Nat :=
  let c0_i32_984 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_983 : BitVec 32 := 4#32
  let v1139 : BitVec 32 := Scalar.muli v2 c4_i32_983
  let v1140 : BitVec 32 := Scalar.addi c0_i32_984 v1139
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_985 : BitVec 32 := 2#32
  let v1141 : BitVec 32 := Scalar.muli v10 c2_i32_985
  let v1142 : BitVec 32 := Scalar.addi v1140 v1141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_986 : BitVec 32 := 1#32
  let v1143 : BitVec 32 := Scalar.muli v8 c1_i32_986
  let v1144 : BitVec 32 := Scalar.addi v1142 v1143
  v1144.toNat
def k0_dev41 (d0 : Dev nD) : Nat :=
  let c0_i32_993 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_992 : BitVec 32 := 4#32
  let v1151 : BitVec 32 := Scalar.muli v9 c4_i32_992
  let v1152 : BitVec 32 := Scalar.addi c0_i32_993 v1151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_994 : BitVec 32 := 2#32
  let v1153 : BitVec 32 := Scalar.muli v5 c2_i32_994
  let v1154 : BitVec 32 := Scalar.addi v1152 v1153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_995 : BitVec 32 := 1#32
  let v1155 : BitVec 32 := Scalar.muli v8 c1_i32_995
  let v1156 : BitVec 32 := Scalar.addi v1154 v1155
  v1156.toNat
def k0_dev42 (d0 : Dev nD) : Nat :=
  let c0_i32_1013 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1012 : BitVec 32 := 4#32
  let v1173 : BitVec 32 := Scalar.muli v2 c4_i32_1012
  let v1174 : BitVec 32 := Scalar.addi c0_i32_1013 v1173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1014 : BitVec 32 := 2#32
  let v1175 : BitVec 32 := Scalar.muli v5 c2_i32_1014
  let v1176 : BitVec 32 := Scalar.addi v1174 v1175
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1015 : BitVec 32 := 1#32
  let v1177 : BitVec 32 := Scalar.muli v11 c1_i32_1015
  let v1178 : BitVec 32 := Scalar.addi v1176 v1177
  v1178.toNat
def k0_dev43 (d0 : Dev nD) : Nat :=
  let c0_i32_1023 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1022 : BitVec 32 := 4#32
  let v1185 : BitVec 32 := Scalar.muli v2 c4_i32_1022
  let v1186 : BitVec 32 := Scalar.addi c0_i32_1023 v1185
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1024 : BitVec 32 := 2#32
  let v1187 : BitVec 32 := Scalar.muli v10 c2_i32_1024
  let v1188 : BitVec 32 := Scalar.addi v1186 v1187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1025 : BitVec 32 := 1#32
  let v1189 : BitVec 32 := Scalar.muli v8 c1_i32_1025
  let v1190 : BitVec 32 := Scalar.addi v1188 v1189
  v1190.toNat
def k0_dev44 (d0 : Dev nD) : Nat :=
  let c0_i32_1043 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1042 : BitVec 32 := 4#32
  let v1207 : BitVec 32 := Scalar.muli v9 c4_i32_1042
  let v1208 : BitVec 32 := Scalar.addi c0_i32_1043 v1207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1044 : BitVec 32 := 2#32
  let v1209 : BitVec 32 := Scalar.muli v5 c2_i32_1044
  let v1210 : BitVec 32 := Scalar.addi v1208 v1209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1045 : BitVec 32 := 1#32
  let v1211 : BitVec 32 := Scalar.muli v8 c1_i32_1045
  let v1212 : BitVec 32 := Scalar.addi v1210 v1211
  v1212.toNat
def k0_dev45 (d0 : Dev nD) : Nat :=
  let c0_i32_1053 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1052 : BitVec 32 := 4#32
  let v1219 : BitVec 32 := Scalar.muli v2 c4_i32_1052
  let v1220 : BitVec 32 := Scalar.addi c0_i32_1053 v1219
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1054 : BitVec 32 := 2#32
  let v1221 : BitVec 32 := Scalar.muli v5 c2_i32_1054
  let v1222 : BitVec 32 := Scalar.addi v1220 v1221
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1055 : BitVec 32 := 1#32
  let v1223 : BitVec 32 := Scalar.muli v11 c1_i32_1055
  let v1224 : BitVec 32 := Scalar.addi v1222 v1223
  v1224.toNat
def k0_dev46 (d0 : Dev nD) : Nat :=
  let c0_i32_1073 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1072 : BitVec 32 := 4#32
  let v1241 : BitVec 32 := Scalar.muli v2 c4_i32_1072
  let v1242 : BitVec 32 := Scalar.addi c0_i32_1073 v1241
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1074 : BitVec 32 := 2#32
  let v1243 : BitVec 32 := Scalar.muli v10 c2_i32_1074
  let v1244 : BitVec 32 := Scalar.addi v1242 v1243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1075 : BitVec 32 := 1#32
  let v1245 : BitVec 32 := Scalar.muli v8 c1_i32_1075
  let v1246 : BitVec 32 := Scalar.addi v1244 v1245
  v1246.toNat
def k0_dev47 (d0 : Dev nD) : Nat :=
  let c0_i32_1083 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1082 : BitVec 32 := 4#32
  let v1253 : BitVec 32 := Scalar.muli v9 c4_i32_1082
  let v1254 : BitVec 32 := Scalar.addi c0_i32_1083 v1253
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1084 : BitVec 32 := 2#32
  let v1255 : BitVec 32 := Scalar.muli v5 c2_i32_1084
  let v1256 : BitVec 32 := Scalar.addi v1254 v1255
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1085 : BitVec 32 := 1#32
  let v1257 : BitVec 32 := Scalar.muli v8 c1_i32_1085
  let v1258 : BitVec 32 := Scalar.addi v1256 v1257
  v1258.toNat
def k0_dev48 (d0 : Dev nD) : Nat :=
  let c0_i32_1103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1102 : BitVec 32 := 4#32
  let v1275 : BitVec 32 := Scalar.muli v2 c4_i32_1102
  let v1276 : BitVec 32 := Scalar.addi c0_i32_1103 v1275
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1104 : BitVec 32 := 2#32
  let v1277 : BitVec 32 := Scalar.muli v5 c2_i32_1104
  let v1278 : BitVec 32 := Scalar.addi v1276 v1277
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1105 : BitVec 32 := 1#32
  let v1279 : BitVec 32 := Scalar.muli v11 c1_i32_1105
  let v1280 : BitVec 32 := Scalar.addi v1278 v1279
  v1280.toNat
def k0_dev49 (d0 : Dev nD) : Nat :=
  let c0_i32_1113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1112 : BitVec 32 := 4#32
  let v1287 : BitVec 32 := Scalar.muli v2 c4_i32_1112
  let v1288 : BitVec 32 := Scalar.addi c0_i32_1113 v1287
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1114 : BitVec 32 := 2#32
  let v1289 : BitVec 32 := Scalar.muli v10 c2_i32_1114
  let v1290 : BitVec 32 := Scalar.addi v1288 v1289
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1115 : BitVec 32 := 1#32
  let v1291 : BitVec 32 := Scalar.muli v8 c1_i32_1115
  let v1292 : BitVec 32 := Scalar.addi v1290 v1291
  v1292.toNat
def k0_dev50 (d0 : Dev nD) : Nat :=
  let c0_i32_1133 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1132 : BitVec 32 := 4#32
  let v1309 : BitVec 32 := Scalar.muli v9 c4_i32_1132
  let v1310 : BitVec 32 := Scalar.addi c0_i32_1133 v1309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1134 : BitVec 32 := 2#32
  let v1311 : BitVec 32 := Scalar.muli v5 c2_i32_1134
  let v1312 : BitVec 32 := Scalar.addi v1310 v1311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1135 : BitVec 32 := 1#32
  let v1313 : BitVec 32 := Scalar.muli v8 c1_i32_1135
  let v1314 : BitVec 32 := Scalar.addi v1312 v1313
  v1314.toNat
def k0_dev51 (d0 : Dev nD) : Nat :=
  let c0_i32_1143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1142 : BitVec 32 := 4#32
  let v1321 : BitVec 32 := Scalar.muli v2 c4_i32_1142
  let v1322 : BitVec 32 := Scalar.addi c0_i32_1143 v1321
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1144 : BitVec 32 := 2#32
  let v1323 : BitVec 32 := Scalar.muli v5 c2_i32_1144
  let v1324 : BitVec 32 := Scalar.addi v1322 v1323
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1145 : BitVec 32 := 1#32
  let v1325 : BitVec 32 := Scalar.muli v11 c1_i32_1145
  let v1326 : BitVec 32 := Scalar.addi v1324 v1325
  v1326.toNat
def k0_off17 (d0 : Dev nD) (c0_i32_44 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c96_i32_43 : BitVec 32 := 96#32
  let v66 : BitVec 32 := Scalar.muli v2 c96_i32_43
  let v67 : BitVec 32 := Scalar.addi c0_i32_44 v66
  let c1_i32_42 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v65 : BitVec 32 := Scalar.subi c1_i32_42 v5
  let c48_i32_45 : BitVec 32 := 48#32
  let v68 : BitVec 32 := Scalar.muli v65 c48_i32_45
  let v69 : BitVec 32 := Scalar.addi v67 v68
  let v6 : BitVec 32 := Dev.word d0
  let v7 : BitVec 32 := Scalar.divsi v6 c1_i32
  let c2_i32_2 : BitVec 32 := 2#32
  let v8 : BitVec 32 := Scalar.remsi v7 c2_i32_2
  let c24_i32_46 : BitVec 32 := 24#32
  let v70 : BitVec 32 := Scalar.muli v8 c24_i32_46
  let v71 : BitVec 32 := Scalar.addi v69 v70
  let c0_i32_1165 : BitVec 32 := 0#32
  ![v71.toNat, 0]
def k0_off17_at (r : Fin 4) : BitVec 32 × BitVec 32 × BitVec 32 × BitVec 32 :=
  if r.val < 2 then
    if r.val < 1 then
      (0#32, 4#32, 2#32, 1#32)
    else
      (384#32, 2#32, 1#32, 4#32)
  else
    if r.val < 3 then
      (704#32, 1#32, 4#32, 2#32)
    else
      (192#32, 4#32, 2#32, 1#32)
def k0_dev52 (d0 : Dev nD) : Nat :=
  let c0_i32_1162 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1161 : BitVec 32 := 4#32
  let v1343 : BitVec 32 := Scalar.muli v9 c4_i32_1161
  let v1344 : BitVec 32 := Scalar.addi c0_i32_1162 v1343
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1163 : BitVec 32 := 2#32
  let v1345 : BitVec 32 := Scalar.muli v5 c2_i32_1163
  let v1346 : BitVec 32 := Scalar.addi v1344 v1345
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1164 : BitVec 32 := 1#32
  let v1347 : BitVec 32 := Scalar.muli v8 c1_i32_1164
  let v1348 : BitVec 32 := Scalar.addi v1346 v1347
  v1348.toNat
def k0_dev53 (d0 : Dev nD) : Nat :=
  let c0_i32_1182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1181 : BitVec 32 := 4#32
  let v1365 : BitVec 32 := Scalar.muli v2 c4_i32_1181
  let v1366 : BitVec 32 := Scalar.addi c0_i32_1182 v1365
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1183 : BitVec 32 := 2#32
  let v1367 : BitVec 32 := Scalar.muli v10 c2_i32_1183
  let v1368 : BitVec 32 := Scalar.addi v1366 v1367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1184 : BitVec 32 := 1#32
  let v1369 : BitVec 32 := Scalar.muli v8 c1_i32_1184
  let v1370 : BitVec 32 := Scalar.addi v1368 v1369
  v1370.toNat
def k0_dev54 (d0 : Dev nD) : Nat :=
  let c0_i32_1202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1201 : BitVec 32 := 4#32
  let v1387 : BitVec 32 := Scalar.muli v2 c4_i32_1201
  let v1388 : BitVec 32 := Scalar.addi c0_i32_1202 v1387
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1203 : BitVec 32 := 2#32
  let v1389 : BitVec 32 := Scalar.muli v5 c2_i32_1203
  let v1390 : BitVec 32 := Scalar.addi v1388 v1389
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1204 : BitVec 32 := 1#32
  let v1391 : BitVec 32 := Scalar.muli v11 c1_i32_1204
  let v1392 : BitVec 32 := Scalar.addi v1390 v1391
  v1392.toNat
def k0_dev55 (d0 : Dev nD) : Nat :=
  let c0_i32_1222 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1221 : BitVec 32 := 4#32
  let v1409 : BitVec 32 := Scalar.muli v9 c4_i32_1221
  let v1410 : BitVec 32 := Scalar.addi c0_i32_1222 v1409
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1223 : BitVec 32 := 2#32
  let v1411 : BitVec 32 := Scalar.muli v5 c2_i32_1223
  let v1412 : BitVec 32 := Scalar.addi v1410 v1411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1224 : BitVec 32 := 1#32
  let v1413 : BitVec 32 := Scalar.muli v8 c1_i32_1224
  let v1414 : BitVec 32 := Scalar.addi v1412 v1413
  v1414.toNat
def k0_off18 (d0 : Dev nD) (c576_i32_181 : BitVec 32) (c2_i32_1 : BitVec 32) (c1_i32 : BitVec 32) (c4_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c64_i32_180 : BitVec 32 := 64#32
  let v262 : BitVec 32 := Scalar.muli v5 c64_i32_180
  let v263 : BitVec 32 := Scalar.addi c576_i32_181 v262
  let c1_i32_179 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v261 : BitVec 32 := Scalar.subi c1_i32_179 v8
  let c32_i32_182 : BitVec 32 := 32#32
  let v264 : BitVec 32 := Scalar.muli v261 c32_i32_182
  let v265 : BitVec 32 := Scalar.addi v263 v264
  let v0 : BitVec 32 := Dev.word d0
  let v1 : BitVec 32 := Scalar.divsi v0 c4_i32
  let c2_i32 : BitVec 32 := 2#32
  let v2 : BitVec 32 := Scalar.remsi v1 c2_i32
  let c16_i32_183 : BitVec 32 := 16#32
  let v266 : BitVec 32 := Scalar.muli v2 c16_i32_183
  let v267 : BitVec 32 := Scalar.addi v265 v266
  let c0_i32_1245 : BitVec 32 := 0#32
  ![v267.toNat, 0]
def k0_off18_at (r : Fin 2) : BitVec 32 × BitVec 32 × BitVec 32 × BitVec 32 :=
  if r.val < 1 then
    (576#32, 2#32, 1#32, 4#32)
  else
    (896#32, 1#32, 4#32, 2#32)
def k0_dev56 (d0 : Dev nD) : Nat :=
  let c0_i32_1242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1241 : BitVec 32 := 4#32
  let v1431 : BitVec 32 := Scalar.muli v2 c4_i32_1241
  let v1432 : BitVec 32 := Scalar.addi c0_i32_1242 v1431
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1243 : BitVec 32 := 2#32
  let v1433 : BitVec 32 := Scalar.muli v10 c2_i32_1243
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1244 : BitVec 32 := 1#32
  let v1435 : BitVec 32 := Scalar.muli v8 c1_i32_1244
  let v1436 : BitVec 32 := Scalar.addi v1434 v1435
  v1436.toNat
def k0_dev57 (d0 : Dev nD) : Nat :=
  let c0_i32_1262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1261 : BitVec 32 := 4#32
  let v1453 : BitVec 32 := Scalar.muli v2 c4_i32_1261
  let v1454 : BitVec 32 := Scalar.addi c0_i32_1262 v1453
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1263 : BitVec 32 := 2#32
  let v1455 : BitVec 32 := Scalar.muli v5 c2_i32_1263
  let v1456 : BitVec 32 := Scalar.addi v1454 v1455
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1264 : BitVec 32 := 1#32
  let v1457 : BitVec 32 := Scalar.muli v11 c1_i32_1264
  let v1458 : BitVec 32 := Scalar.addi v1456 v1457
  v1458.toNat
def k0_off19 (d0 : Dev nD) (c0_i32_50 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c96_i32_49 : BitVec 32 := 96#32
  let v74 : BitVec 32 := Scalar.muli v2 c96_i32_49
  let v75 : BitVec 32 := Scalar.addi c0_i32_50 v74
  let c1_i32_47 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v72 : BitVec 32 := Scalar.subi c1_i32_47 v5
  let c48_i32_51 : BitVec 32 := 48#32
  let v76 : BitVec 32 := Scalar.muli v72 c48_i32_51
  let v77 : BitVec 32 := Scalar.addi v75 v76
  let c1_i32_48 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v73 : BitVec 32 := Scalar.subi c1_i32_48 v8
  let c24_i32_52 : BitVec 32 := 24#32
  let v78 : BitVec 32 := Scalar.muli v73 c24_i32_52
  let v79 : BitVec 32 := Scalar.addi v77 v78
  let c0_i32_1284 : BitVec 32 := 0#32
  ![v79.toNat, 0]
def k0_off19_at (r : Fin 4) : BitVec 32 × BitVec 32 × BitVec 32 × BitVec 32 :=
  if r.val < 2 then
    if r.val < 1 then
      (0#32, 4#32, 2#32, 1#32)
    else
      (384#32, 2#32, 1#32, 4#32)
  else
    if r.val < 3 then
      (704#32, 1#32, 4#32, 2#32)
    else
      (192#32, 4#32, 2#32, 1#32)
def k0_dev58 (d0 : Dev nD) : Nat :=
  let c0_i32_1281 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1280 : BitVec 32 := 4#32
  let v1475 : BitVec 32 := Scalar.muli v9 c4_i32_1280
  let v1476 : BitVec 32 := Scalar.addi c0_i32_1281 v1475
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1282 : BitVec 32 := 2#32
  let v1477 : BitVec 32 := Scalar.muli v5 c2_i32_1282
  let v1478 : BitVec 32 := Scalar.addi v1476 v1477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1283 : BitVec 32 := 1#32
  let v1479 : BitVec 32 := Scalar.muli v8 c1_i32_1283
  let v1480 : BitVec 32 := Scalar.addi v1478 v1479
  v1480.toNat
def k0_dev59 (d0 : Dev nD) : Nat :=
  let c0_i32_1301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1300 : BitVec 32 := 4#32
  let v1497 : BitVec 32 := Scalar.muli v2 c4_i32_1300
  let v1498 : BitVec 32 := Scalar.addi c0_i32_1301 v1497
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1302 : BitVec 32 := 2#32
  let v1499 : BitVec 32 := Scalar.muli v10 c2_i32_1302
  let v1500 : BitVec 32 := Scalar.addi v1498 v1499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1303 : BitVec 32 := 1#32
  let v1501 : BitVec 32 := Scalar.muli v8 c1_i32_1303
  let v1502 : BitVec 32 := Scalar.addi v1500 v1501
  v1502.toNat
def k0_dev60 (d0 : Dev nD) : Nat :=
  let c0_i32_1321 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1320 : BitVec 32 := 4#32
  let v1519 : BitVec 32 := Scalar.muli v2 c4_i32_1320
  let v1520 : BitVec 32 := Scalar.addi c0_i32_1321 v1519
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1322 : BitVec 32 := 2#32
  let v1521 : BitVec 32 := Scalar.muli v5 c2_i32_1322
  let v1522 : BitVec 32 := Scalar.addi v1520 v1521
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1323 : BitVec 32 := 1#32
  let v1523 : BitVec 32 := Scalar.muli v11 c1_i32_1323
  let v1524 : BitVec 32 := Scalar.addi v1522 v1523
  v1524.toNat
def k0_dev61 (d0 : Dev nD) : Nat :=
  let c0_i32_1341 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1340 : BitVec 32 := 4#32
  let v1541 : BitVec 32 := Scalar.muli v9 c4_i32_1340
  let v1542 : BitVec 32 := Scalar.addi c0_i32_1341 v1541
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1342 : BitVec 32 := 2#32
  let v1543 : BitVec 32 := Scalar.muli v5 c2_i32_1342
  let v1544 : BitVec 32 := Scalar.addi v1542 v1543
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1343 : BitVec 32 := 1#32
  let v1545 : BitVec 32 := Scalar.muli v8 c1_i32_1343
  let v1546 : BitVec 32 := Scalar.addi v1544 v1545
  v1546.toNat
def k0_off20 (d0 : Dev nD) (c576_i32_187 : BitVec 32) (c2_i32_1 : BitVec 32) (c1_i32 : BitVec 32) (c4_i32 : BitVec 32) : Fin 2 → Nat :=
  let v3 : BitVec 32 := Dev.word d0
  let v4 : BitVec 32 := Scalar.divsi v3 c2_i32_1
  let c2_i32_0 : BitVec 32 := 2#32
  let v5 : BitVec 32 := Scalar.remsi v4 c2_i32_0
  let c64_i32_186 : BitVec 32 := 64#32
  let v270 : BitVec 32 := Scalar.muli v5 c64_i32_186
  let v271 : BitVec 32 := Scalar.addi c576_i32_187 v270
  let c1_i32_184 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v268 : BitVec 32 := Scalar.subi c1_i32_184 v8
  let c32_i32_188 : BitVec 32 := 32#32
  let v272 : BitVec 32 := Scalar.muli v268 c32_i32_188
  let v273 : BitVec 32 := Scalar.addi v271 v272
  let c1_i32_185 : BitVec 32 := 1#32
  let v0 : BitVec 32 := Dev.word d0
  let v1 : BitVec 32 := Scalar.divsi v0 c4_i32
  let c2_i32 : BitVec 32 := 2#32
  let v2 : BitVec 32 := Scalar.remsi v1 c2_i32
  let v269 : BitVec 32 := Scalar.subi c1_i32_185 v2
  let c16_i32_189 : BitVec 32 := 16#32
  let v274 : BitVec 32 := Scalar.muli v269 c16_i32_189
  let v275 : BitVec 32 := Scalar.addi v273 v274
  let c0_i32_1364 : BitVec 32 := 0#32
  ![v275.toNat, 0]
def k0_off20_at (r : Fin 2) : BitVec 32 × BitVec 32 × BitVec 32 × BitVec 32 :=
  if r.val < 1 then
    (576#32, 2#32, 1#32, 4#32)
  else
    (896#32, 1#32, 4#32, 2#32)
def k0_dev62 (d0 : Dev nD) : Nat :=
  let c0_i32_1361 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1360 : BitVec 32 := 4#32
  let v1563 : BitVec 32 := Scalar.muli v2 c4_i32_1360
  let v1564 : BitVec 32 := Scalar.addi c0_i32_1361 v1563
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1362 : BitVec 32 := 2#32
  let v1565 : BitVec 32 := Scalar.muli v10 c2_i32_1362
  let v1566 : BitVec 32 := Scalar.addi v1564 v1565
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1363 : BitVec 32 := 1#32
  let v1567 : BitVec 32 := Scalar.muli v8 c1_i32_1363
  let v1568 : BitVec 32 := Scalar.addi v1566 v1567
  v1568.toNat
def k0_dev63 (d0 : Dev nD) : Nat :=
  let c0_i32_1381 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1380 : BitVec 32 := 4#32
  let v1585 : BitVec 32 := Scalar.muli v2 c4_i32_1380
  let v1586 : BitVec 32 := Scalar.addi c0_i32_1381 v1585
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1382 : BitVec 32 := 2#32
  let v1587 : BitVec 32 := Scalar.muli v5 c2_i32_1382
  let v1588 : BitVec 32 := Scalar.addi v1586 v1587
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1383 : BitVec 32 := 1#32
  let v1589 : BitVec 32 := Scalar.muli v11 c1_i32_1383
  let v1590 : BitVec 32 := Scalar.addi v1588 v1589
  v1590.toNat
abbrev stage0_0 : Fin 1 → Memref sig .tc .vmem S1x1x1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x2x1024x1024 : Shape := ⟨5, ![2, 2, 2, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2x2x1024x1024, .f32⟩
  | .hbm, ⟨1, _⟩ => ⟨S_, .f32⟩
  | .hbm, ⟨2, _⟩ => ⟨S1024x1024, .f32⟩
  | _, _ => ⟨S2x2x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Common.Script.lean ====
/-
The order of one chunk's work on one device, and what the device holds of the chunk after each step.

A chunk is reduced over the three mesh axes by recursive halving (messages 0, 1, 2), then gathered back by recursive
doubling: message 3 over the last axis, 4 and 5 over the middle one, 6, 7, 8, 9 over the first. The kernel interleaves the
six chunks, but within each chunk every device goes through the same 33 steps in the same order.
-/
module

public import Mathlib.Data.Finset.Basic
public import Mathlib.Data.Fintype.Basic
public import Mathlib.Tactic.FinCases

@[expose] public section

namespace Cert.AllReduce

/-- One step of a chunk: start message `m`; wait for message `m` to arrive; add the part received by message `k` into the
    kept rows; wait for the end of the own sending of message `m`. -/
inductive Act
  | send (m : Fin 10)
  | recv (m : Fin 10)
  | add (k : Fin 3)
  | back (m : Fin 10)
deriving DecidableEq

/-- The 33 steps of a chunk. -/
def acts : List Act :=
  [.send 0, .recv 0, .add 0, .send 1, .recv 1, .add 1, .send 2, .recv 2, .add 2, .send 3, .send 4, .send 6,
   .recv 3, .send 5, .send 7, .recv 4, .send 8, .recv 5, .send 9, .recv 6, .recv 7, .recv 8, .recv 9,
   .back 0, .back 1, .back 2, .back 3, .back 4, .back 5, .back 6, .back 7, .back 8, .back 9]

/-- Step number `n`. -/
def act (n : ℕ) : Option Act := acts[n]?

/-- What a device holds of a chunk: the messages it has yet to start (`todo`), those it has started and not waited for
    (`fly`), those whose sending it has waited for (`done`), those it has yet to receive (`wait`), those whose arrival it
    has waited for (`came`); the messages whose source rows it holds (`src`), whose target rows on the receiver it holds
    (`dst`), whose received rows it holds and will not send on (`got`); and how many of the three additions it has made
    (`mid`). -/
structure Held where
  todo : Finset (Fin 10)
  fly : Finset (Fin 10)
  done : Finset (Fin 10)
  wait : Finset (Fin 10)
  came : Finset (Fin 10)
  src : Finset (Fin 10)
  dst : Finset (Fin 10)
  got : Finset (Fin 10)
  mid : ℕ

/-- The messages whose source rows are the rows message `m` brought. -/
def feeds (m : Fin 10) : Finset (Fin 10) :=
  if m = 3 then {5, 7} else if m = 4 then {8} else if m = 5 then {9} else ∅

/-- The messages whose target rows the sender of message `m` hands over with it. -/
def opens (m : Fin 10) : Finset (Fin 10) :=
  if m = 1 then {4, 5} else if m = 2 then {3} else ∅

/-- The messages whose source rows the addition number `k` completes. -/
def makes (k : Fin 3) : Finset (Fin 10) :=
  if k = 0 then {1} else if k = 1 then {2} else {3, 4, 6}

/-- The messages received whose rows are kept as received. -/
def keeps (m : Fin 10) : Finset (Fin 10) :=
  if m = 3 ∨ m = 4 ∨ m = 5 then ∅ else {m}

/-- The messages whose source rows come back with the end of the sending. -/
def backs (m : Fin 10) : Finset (Fin 10) :=
  if m = 1 ∨ m = 2 then ∅ else {m}

/-- What is held after a step. -/
def Held.next (h : Held) : Act → Held
  | .send m => { h with todo := h.todo.erase m, fly := insert m h.fly, src := h.src.erase m, dst := h.dst.erase m }
  | .recv m => { h with wait := h.wait.erase m, came := insert m h.came, src := h.src ∪ feeds m, dst := h.dst ∪ opens m, got := h.got ∪ keeps m }
  | .add k => { h with src := h.src ∪ makes k, mid := k.val + 1 }
  | .back m => { h with fly := h.fly.erase m, done := insert m h.done, src := h.src ∪ backs m }

/-- What is held when the entry handshake is over. -/
def Held.start : Held := ⟨Finset.univ, ∅, ∅, Finset.univ, ∅, {0}, {0, 1, 2, 6, 7, 8, 9}, ∅, 0⟩

/-- What is held after `n` steps. -/
def held : ℕ → Held
  | 0 => Held.start
  | n + 1 => match act n with
    | some a => (held n).next a
    | none => held n

/-- What is held after a step, from what was held before it. -/
theorem held_succ {n : ℕ} {a : Act} (h : act n = some a) : held (n + 1) = (held n).next a := by
  show (match act n with | some a => (held n).next a | none => held n) = _
  rw [h]

/-- There is no step after the 33rd. -/
theorem act_lt {n : ℕ} {a : Act} (h : act n = some a) : n < 33 := by
  by_contra hn
  unfold act at h
  rw [List.getElem?_eq_none (by show 33 ≤ n; exact Nat.not_lt.mp hn)] at h
  cases h

/-- A step's requirements on what is held before it: that the step takes only what is there and puts nothing there twice. -/
def Held.Ok (h : Held) : Act → Prop
  | .send m => m ∈ h.todo ∧ m ∉ h.fly ∧ m ∈ h.src ∧ m ∈ h.dst
  | .recv m => m ∈ h.wait ∧ m ∉ h.came ∧ Disjoint h.src (feeds m) ∧ Disjoint h.dst (opens m) ∧ Disjoint h.got (keeps m)
  | .add k => Disjoint h.src (makes k) ∧ h.mid = k.val ∧ (⟨k.val, Nat.lt_trans k.isLt (by decide)⟩ : Fin 10) ∈ h.got
  | .back m => m ∈ h.fly ∧ m ∉ h.done ∧ Disjoint h.src (backs m)

/-- A step's requirements can be checked by computation. -/
instance (h : Held) : ∀ a, Decidable (h.Ok a)
  | .send _ => by unfold Held.Ok; infer_instance
  | .recv _ => by unfold Held.Ok; infer_instance
  | .add _ => by unfold Held.Ok; infer_instance
  | .back _ => by unfold Held.Ok; infer_instance

/-- Every step of the script meets its requirements. -/
theorem ok_all : ∀ n < 33, ∀ a ∈ act n, (held n).Ok a := by decide +kernel

/-- Every step of the script meets its requirements, by its number. -/
theorem held_ok {n : ℕ} {a : Act} (h : act n = some a) : (held n).Ok a := ok_all n (act_lt h) a h

/-- At the end nothing is left to do: every message sent and received, every cell waited for. -/
theorem held_end : (held 33).todo = ∅ ∧ (held 33).fly = ∅ ∧ (held 33).done = Finset.univ ∧ (held 33).wait = ∅ ∧ (held 33).came = Finset.univ ∧
    (held 33).src = {0, 3, 4, 5, 6, 7, 8, 9} ∧ (held 33).dst = ∅ ∧ (held 33).got = {0, 1, 2, 6, 7, 8, 9} ∧ (held 33).mid = 3 := by
  decide +kernel

end Cert.AllReduce
-- ==== Proof.Common.Rows.lean ====
/-
The rows of the six chunks: which rows a device keeps and sends at each halving, and which block of rows each message
of the gather carries.

Device `c` of the eight has a bit along each of the three mesh axes. Chunk `j` takes the axes in the order
`axis j 0, axis j 1, axis j 2`; a device keeps the half of its rows that its bit names.
-/
module

public import Mathlib.Data.Fin.VecNotation
public import Mathlib.Data.Finset.Basic
public import Mathlib.Data.Fintype.Basic
public import Mathlib.Data.Fintype.Prod
public import Mathlib.Tactic.FinCases

@[expose] public section

namespace Cert.AllReduce

/-- The weight of an axis in a device's number. -/
def weight (a : Fin 3) : ℕ := match a with | 0 => 4 | 1 => 2 | 2 => 1

/-- A device's bit along an axis. -/
def bit (a : Fin 3) (c : Fin 8) : ℕ := c.val / weight a % 2

/-- The device with the other bit along an axis. -/
def flip (a : Fin 3) (c : Fin 8) : Fin 8 := ⟨(c.val + weight a - 2 * weight a * bit a c) % 8, Nat.mod_lt _ (by decide)⟩

/-- The partner's partner along an axis is the device itself. -/
theorem flip_flip : ∀ (a : Fin 3) (c : Fin 8), flip a (flip a c) = c := by decide +kernel
/-- Flipping along two axes: in either order. -/
theorem flip_comm : ∀ (a b : Fin 3) (c : Fin 8), flip a (flip b c) = flip b (flip a c) := by decide +kernel

/-- The axis of chunk `j`'s halving number `k`. -/
def axis (j : Fin 6) (k : ℕ) : Fin 3 := ⟨(j.val + k) % 3, Nat.mod_lt _ (by decide)⟩

/-- The partner of `c` at chunk `j`'s halving number `k`. -/
def mate (j : Fin 6) (k : ℕ) (c : Fin 8) : Fin 8 := flip (axis j k) c

/-- A partner's partner at the same halving is the device itself. -/
theorem mate_mate (j : Fin 6) (k : ℕ) (c : Fin 8) : mate j k (mate j k c) = c := flip_flip _ _
/-- The partners at two halvings: in either order. -/
theorem mate_comm (j : Fin 6) (k k' : ℕ) (c : Fin 8) : mate j k (mate j k' c) = mate j k' (mate j k c) := flip_comm _ _ _

/-- A chunk's first row, and an eighth of its rows. -/
def base (j : Fin 6) : ℕ := match j with | 0 => 0 | 1 => 384 | 2 => 704 | 3 => 192 | 4 => 576 | 5 => 896
/-- An eighth of a chunk's rows. -/
def eighth (j : Fin 6) : ℕ := match j with | 4 => 16 | 5 => 16 | _ => 24

/-- How many rows are kept after halving number `k`. -/
def len (j : Fin 6) (k : ℕ) : ℕ := match k with | 0 => 4 * eighth j | 1 => 2 * eighth j | _ => eighth j

/-- Where in its slot of the receive buffer a chunk's part received at halving number `k` begins. -/
def off (j : Fin 6) (k : ℕ) : ℕ := match k with | 0 => 0 | 1 => 4 * eighth j | _ => 6 * eighth j

/-- The first of the rows device `c` keeps of chunk `j` at halving number `k`. -/
def keep (j : Fin 6) : ℕ → Fin 8 → ℕ
  | 0, c => base j + len j 0 * bit (axis j 0) c
  | k + 1, c => keep j k c + len j (k + 1) * bit (axis j (k + 1)) c

/-- The rows kept lie in the result. -/
theorem keep_lt : ∀ (k : Fin 3) (j : Fin 6) (c : Fin 8), keep j k.val c + len j k.val ≤ 1024 := by decide +kernel

/-- Two partners at a halving keep the two halves of what they both held. -/
theorem keep_halves : ∀ (k : Fin 2) (j : Fin 6) (c : Fin 8),
    keep j k.val (mate j (k.val + 1) c) = keep j k.val c ∧ len j k.val = len j (k.val + 1) + len j (k.val + 1) ∧
    ((keep j (k.val + 1) c = keep j k.val c ∧ keep j (k.val + 1) (mate j (k.val + 1) c) = keep j k.val c + len j (k.val + 1)) ∨
     (keep j (k.val + 1) (mate j (k.val + 1) c) = keep j k.val c ∧ keep j (k.val + 1) c = keep j k.val c + len j (k.val + 1))) := by
  decide

/-- At the first halving the two partners keep the two halves of the chunk. -/
theorem keep_first : ∀ (j : Fin 6) (c : Fin 8),
    (keep j 0 c = base j ∧ keep j 0 (mate j 0 c) = base j + len j 0) ∨
    (keep j 0 (mate j 0 c) = base j ∧ keep j 0 c = base j + len j 0) := by decide +kernel

/-! ## Messages -/

/-- The halving whose axis a message goes along. -/
def way (m : Fin 10) : ℕ := match m with | 1 => 1 | 2 => 2 | 3 => 2 | 4 => 1 | 5 => 1 | _ => 0

/-- The device message `m` of chunk `j` goes to, and comes from. -/
def peer (j : Fin 6) (m : Fin 10) (c : Fin 8) : Fin 8 := mate j (way m) c

/-- The receiver of a device's message sends the same message back to it. -/
theorem peer_peer (j : Fin 6) (m : Fin 10) (c : Fin 8) : peer j m (peer j m c) = c := mate_mate _ _ _

/-- The device whose block of rows device `c` sends by message `m` of the gather: its own, or one it has received. -/
def owner (j : Fin 6) (m : Fin 10) (c : Fin 8) : Fin 8 := match m with
  | 5 => mate j 2 c | 7 => mate j 2 c | 8 => mate j 1 c | 9 => mate j 1 (mate j 2 c) | _ => c

/-- How many rows a message carries. -/
def rows (j : Fin 6) (m : Fin 10) : ℕ := match m with | 0 => len j 0 | 1 => len j 1 | _ => eighth j

/-- Every message has rows. -/
theorem rows_pos : ∀ (j : Fin 6) (m : Fin 10), 0 < rows j m := by decide +kernel
/-- Some rows are kept after every halving. -/
theorem len_pos : ∀ (k : Fin 3) (j : Fin 6), 0 < len j k.val := by decide +kernel

/-- The first row a message leaves from; for the first three messages those the partner keeps. -/
def srcRow (j : Fin 6) (m : Fin 10) (c : Fin 8) : ℕ := match m with
  | 0 => keep j 0 (mate j 0 c) | 1 => keep j 1 (mate j 1 c) | 2 => keep j 2 (mate j 2 c) | m => keep j 2 (owner j m c)

/-- The rows of a gather message lie in the result. -/
theorem srcRow_lt : ∀ (m : Fin 10) (j : Fin 6) (c : Fin 8), 3 ≤ m.val → srcRow j m c + rows j m ≤ 1024 := by decide +kernel

/-! ## All blocks

The 48 blocks of rows, one per chunk and device, are disjoint and cover the 1024 rows. -/

/-- The first row of the block of chunk `p.1` that device `p.2` sums. -/
def blk (p : Fin 6 × Fin 8) : ℕ := keep p.1 2 p.2

/-- The final blocks of two chunks, or of two devices, have no row in common. -/
theorem blk_disjoint : ∀ p q : Fin 6 × Fin 8, p ≠ q → blk p + eighth p.1 ≤ blk q ∨ blk q + eighth q.1 ≤ blk p := by decide +kernel

/-- Every row is in the final block of some chunk on some device. -/
theorem blk_cover : ∀ r : Fin 1024, ∃ p : Fin 6 × Fin 8, blk p ≤ r.val ∧ r.val < blk p + eighth p.1 := by decide +kernel

end Cert.AllReduce
-- ==== Proof.Bits.Runs.lean ====
/-
What it is for a stretch of the program to take the six chunks from one stage of their work to another.
-/
module

public import proofs.«01_k».proof.Proof.Bits.Sends
public import proofs.«01_k».proof.Proof.Bits.Waits
public import proofs.«01_k».proof.Proof.Bits.Adds
public import proofs.«01_k».proof.Proof.Bits.Offsets
public import proofs.«01_k».proof.Proof.Gen.Kernel.Skeleton

@[expose] public section

noncomputable section

namespace Cert.AllReduceBits

open Cert.Kernel Cert.Kernel.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD)

/-- Run on device `c` from the holdings at progress `σ`, a program returns with the holdings at progress `σ'`, and the
    value it returns satisfies `φ`. -/
def Runs {α : Type} (p : Prog (TpuEff nD τ sig (Elt F) Λ₀ .tc) α) (σ σ' : Fin 6 → ℕ) (φ : α → Prop := fun _ => True) : Prop :=
  ∀ (Q : α → sProp 𝕄) (R : sProp 𝕄), (∀ r, φ r → iprop(St X K c σ' ∗ R) ⊢ Q r) → iprop(St X K c σ ∗ R) ⊢ wpc c p Q

/-- A program that only returns changes nothing. -/
theorem runs_ret {α : Type} (a : α) (σ : Fin 6 → ℕ) : Runs X K c (.ret a) σ σ := fun _ _ h => wpc_end c (h _ trivial)

/-- Two programs one after the other. -/
theorem Runs.bind {α β : Type} {p : Prog (TpuEff nD τ sig (Elt F) Λ₀ .tc) α} {k : α → Prog (TpuEff nD τ sig (Elt F) Λ₀ .tc) β}
    {σ σ' σ'' : Fin 6 → ℕ} {φ : α → Prop} {ψ : β → Prop} (hp : Runs X K c p σ σ' φ) (hk : ∀ r, φ r → Runs X K c (k r) σ' σ'' ψ) :
    Runs X K c (p >>= k) σ σ'' ψ := by
  intro Q R h
  unfold wpc; rw [wp_bind]
  exact hp _ R fun r hr => hk r hr Q R h

end Cert.AllReduceBits

end
-- ==== Proof.Ideal.Contents.lean ====
/-
The buffers of the kernel, the sets of rows the protocol deals in, and what the rows hold.

`acc X j k c` is chunk `j`'s partial sum on device `c` after `k` halvings: at first the device's own block of `x`, then
the sum of its own and its partner's partial sums.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Common.Script
public import proofs.«01_k».proof.Proof.Common.Rows
public import Idealize.ShloMosaic.Lib.Pipeline.Launch
public import Idealize.ShloMosaic.Lib.Pipeline.Kit
public import Idealize.ShloMosaic.Lib.Pipeline.Value
public import Idealize.ShloMosaic.Lib.Pointwise.Index
public import Idealize.ShloMosaic.Lib.Tactic

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers -/

/-- The operand block, the result and the receive buffer, as the body names them. -/
abbrev xM : Memref sig .tc .vmem S1x1x1x1024x1024 .f32 := Memref.whole cc0_stg0_0
/-- The result. -/
abbrev oM : Memref sig .tc .vmem S1024x1024 .f32 := Memref.whole cc0_stg1_0
/-- The receive buffer. -/
abbrev rM : Memref sig .tc .vmem S6x168x1024 .f32 := Memref.whole cc0_scratch0

/-- The contents of the three buffers. -/
abbrev XBuf (F : FTy → Type) [FloatOps F] : Type := S1x1x1x1024x1024.Idx → Elt F .f32
/-- The contents of the result. -/
abbrev OBuf (F : FTy → Type) [FloatOps F] : Type := S1024x1024.Idx → Elt F .f32
/-- The contents of the receive buffer. -/
abbrev RBuf (F : FTy → Type) [FloatOps F] : Type := S6x168x1024.Idx → Elt F .f32

/-- Where the operand block of a device is. -/
abbrev xLoc (c : Dev nD) : Loc nD τ sig := (c : Thread nD τ).loc cc0_stg0_0
/-- Where its result is. -/
abbrev oLoc (c : Dev nD) : Loc nD τ sig := (c : Thread nD τ).loc cc0_stg1_0
/-- Where its receive buffer is. -/
abbrev rLoc (c : Dev nD) : Loc nD τ sig := (c : Thread nD τ).loc cc0_scratch0

/-! ## Sets of rows -/

/-- Rows `a`, …, `a + n - 1` of the operand block; -/
def xR (a n : ℕ) : Finset S1x1x1x1024x1024.Idx := Finset.univ.filter fun i => a ≤ (i 3).val ∧ (i 3).val < a + n
/-- of the result; -/
def oR (a n : ℕ) : Finset S1024x1024.Idx := Finset.univ.filter fun i => a ≤ (i 0).val ∧ (i 0).val < a + n
/-- of chunk `j`'s slot of the receive buffer. -/
def rR (j a n : ℕ) : Finset S6x168x1024.Idx := Finset.univ.filter fun i => (i 0).val = j ∧ a ≤ (i 1).val ∧ (i 1).val < a + n

/-- Membership in a set of rows of the operand block. -/
theorem mem_xR {a n : ℕ} {i : S1x1x1x1024x1024.Idx} : i ∈ xR a n ↔ a ≤ (i 3).val ∧ (i 3).val < a + n := by
  unfold xR; rw [Finset.mem_filter]; exact ⟨fun h => h.2, fun h => ⟨Finset.mem_univ _, h⟩⟩
/-- Membership in a set of rows of the result. -/
theorem mem_oR {a n : ℕ} {i : S1024x1024.Idx} : i ∈ oR a n ↔ a ≤ (i 0).val ∧ (i 0).val < a + n := by
  unfold oR; rw [Finset.mem_filter]; exact ⟨fun h => h.2, fun h => ⟨Finset.mem_univ _, h⟩⟩
/-- Membership in a set of rows of the receive buffer. -/
theorem mem_rR {j a n : ℕ} {i : S6x168x1024.Idx} : i ∈ rR j a n ↔ (i 0).val = j ∧ a ≤ (i 1).val ∧ (i 1).val < a + n := by
  unfold rR; rw [Finset.mem_filter]; exact ⟨fun h => h.2, fun h => ⟨Finset.mem_univ _, h⟩⟩

/-- Rows of the result that follow one another have none in common. -/
theorem oR_disjoint {a n b k : ℕ} (h : a + n ≤ b ∨ b + k ≤ a) : Disjoint (oR a n) (oR b k) :=
  Finset.disjoint_left.mpr fun i hi hi' => by rw [mem_oR] at hi hi'; omega
/-- The same of the operand block. -/
theorem xR_disjoint {a n b k : ℕ} (h : a + n ≤ b ∨ b + k ≤ a) : Disjoint (xR a n) (xR b k) :=
  Finset.disjoint_left.mpr fun i hi hi' => by rw [mem_xR] at hi hi'; omega
/-- The same of the receive buffer; two chunks' slots never have a row in common. -/
theorem rR_disjoint {j a n j' b k : ℕ} (h : j = j' → a + n ≤ b ∨ b + k ≤ a) : Disjoint (rR j a n) (rR j' b k) :=
  Finset.disjoint_left.mpr fun i hi hi' => by rw [mem_rR] at hi hi'; have := h (hi.1.symm.trans hi'.1); omega

/-- Two runs of rows of the result that follow one another are one. -/
theorem oR_append (a n k : ℕ) : oR a n ∪ oR (a + n) k = oR a (n + k) :=
  Finset.ext fun i => by rw [Finset.mem_union, mem_oR, mem_oR, mem_oR]; omega
/-- The same of the operand block. -/
theorem xR_append (a n k : ℕ) : xR a n ∪ xR (a + n) k = xR a (n + k) :=
  Finset.ext fun i => by rw [Finset.mem_union, mem_xR, mem_xR, mem_xR]; omega
/-- The same of the receive buffer. -/
theorem rR_append (j a n k : ℕ) : rR j a n ∪ rR j (a + n) k = rR j a (n + k) :=
  Finset.ext fun i => by rw [Finset.mem_union, mem_rR, mem_rR, mem_rR]; omega

/-! ## Contents -/

/-- The index of the operand block over an index of the result. -/
def lift5 (i : S1024x1024.Idx) : S1x1x1x1024x1024.Idx := ix5 (0 : Fin 1) (0 : Fin 1) (0 : Fin 1) (i 0) (i 1)

variable (X : Dev nD → XBuf F)

/-- Chunk `j`'s partial sum on a device after `k` halvings. -/
def acc (j : Fin 6) : ℕ → Dev nD → OBuf F
  | 0, c => fun i => X c (lift5 i)
  | k + 1, c => fun i => FloatOps.addf (acc j k c i) (acc j k (mate j k c) i)

/-- The row of the result that row `r` of chunk `j`'s slot, at halving `k` on device `c`, is received for. -/
def slotRow (j : Fin 6) (k : ℕ) (c : Dev nD) (r : ℕ) : Fin 1024 := ⟨(keep j k c + (r - off j k)) % 1024, Nat.mod_lt _ (by decide)⟩

/-- What chunk `j`'s slot holds once the part of halving `k` has arrived: the partner's partial sums of the kept rows. -/
def slotC (j : Fin 6) (k : ℕ) (c : Dev nD) : RBuf F :=
  fun i => acc X j k (mate j k c) (ix2 (slotRow j k c (i 1).val) (i 2))

/-! ## Placed rectangles -/

section Place

/-- The sizes of a rectangle of rows. -/
theorem size2 (n : ℕ) (a : Fin 2) : (⟨2, ![n, 1024]⟩ : Shape).size a = ![n, 1024] a := rfl

/-- Rows of the result, as a memref names them. -/
theorem oM_access {a n : ℕ} {h} : (oM.access (Rect.unit (s := S1024x1024) ![a, 0] ![n, 1024] h)).set = oR a n := by
  show ((View.whole cc0_stg1_0).slice _).set = _
  rw [View.set_slice_whole]
  ext i
  rw [Rect.mem_set_unit, mem_oR]
  constructor
  · intro H; exact H 0
  · intro H b
    match b with
    | 0 => exact H
    | 1 => exact ⟨Nat.zero_le _, by show (i 1).val < 0 + 1024; rw [Nat.zero_add]; exact (i 1).isLt⟩

/-- Rows of the result, as a slice names them. -/
theorem oM_set {a n : ℕ} {h} {pf} :
    ((oM.slice (Rect.unit (s := S1024x1024) ![a, 0] ![n, 1024] h) pf : Memref sig .tc .vmem ⟨2, ![n, 1024]⟩ .f32)).view.set = oR a n := oM_access

/-- Rows of a slot of the receive buffer. -/
theorem rM_access {j a n : ℕ} {h} : (rM.access (Rect.unit (s := S6x168x1024) ![j, a, 0] ![1, n, 1024] h)).set = rR j a n := by
  show ((View.whole cc0_scratch0).slice _).set = _
  rw [View.set_slice_whole]
  ext i
  rw [Rect.mem_set_unit, mem_rR]
  constructor
  · intro H; have h0 := H 0; have h1 := H 1
    refine ⟨?_, h1⟩
    have h0a : j ≤ (i 0).val := h0.1
    have h0b : (i 0).val < j + 1 := h0.2
    omega
  · intro H b
    match b with
    | 0 => exact ⟨le_of_eq H.1.symm, by show (i 0).val < j + 1; rw [H.1]; exact Nat.lt_succ_self _⟩
    | 1 => exact H.2
    | 2 => exact ⟨Nat.zero_le _, by show (i 2).val < 0 + 1024; rw [Nat.zero_add]; exact (i 2).isLt⟩

/-- The same through a squeezed memref. -/
theorem rM_set {j a n : ℕ} {h} {pf} {hs : (⟨3, ![1, n, 1024]⟩ : Shape).Squeezes ⟨2, ![n, 1024]⟩} :
    ((rM.slice (Rect.unit (s := S6x168x1024) ![j, a, 0] ![1, n, 1024] h) pf : Memref sig .tc .vmem ⟨3, ![1, n, 1024]⟩ .f32).squeeze ⟨2, ![n, 1024]⟩ hs).view.set
      = rR j a n :=
  (View.set_reshape _ _).trans rM_access

/-- Rows of the operand block. -/
theorem xM_access {a n : ℕ} {h} : (xM.access (Rect.unit (s := S1x1x1x1024x1024) ![0, 0, 0, a, 0] ![1, 1, 1, n, 1024] h)).set = xR a n := by
  show ((View.whole cc0_stg0_0).slice _).set = _
  rw [View.set_slice_whole]
  ext i
  rw [Rect.mem_set_unit, mem_xR]
  constructor
  · intro H; exact H 3
  · intro H b
    match b with
    | 0 => exact ⟨Nat.zero_le _, (i 0).isLt⟩
    | 1 => exact ⟨Nat.zero_le _, (i 1).isLt⟩
    | 2 => exact ⟨Nat.zero_le _, (i 2).isLt⟩
    | 3 => exact H
    | 4 => exact ⟨Nat.zero_le _, by show (i 4).val < 0 + 1024; rw [Nat.zero_add]; exact (i 4).isLt⟩

/-- The same through a squeezed memref. -/
theorem xM_set {a n : ℕ} {h} {pf} {hs : (⟨5, ![1, 1, 1, n, 1024]⟩ : Shape).Squeezes ⟨2, ![n, 1024]⟩} :
    ((xM.slice (Rect.unit (s := S1x1x1x1024x1024) ![0, 0, 0, a, 0] ![1, 1, 1, n, 1024] h) pf :
        Memref sig .tc .vmem ⟨5, ![1, 1, 1, n, 1024]⟩ .f32).squeeze ⟨2, ![n, 1024]⟩ hs).view.set = xR a n :=
  (View.set_reshape _ _).trans xM_access

/-- Dropping the leading unit coordinate of a slot's rows. -/
theorem resh3 {n : ℕ} (h : (⟨2, ![n, 1024]⟩ : Shape).numel = (⟨3, ![1, n, 1024]⟩ : Shape).numel) (e : (⟨2, ![n, 1024]⟩ : Shape).Idx) :
    ((Shape.reshapeEquiv h e) 1).val = (e 0).val ∧ ((Shape.reshapeEquiv h e) 2).val = (e 1).val := by
  have : Shape.reshapeEquiv h e = Fin.cons ⟨0, Nat.one_pos⟩ e := Shape.reshapeEquiv_cons_one h e
  rw [this]; exact ⟨rfl, rfl⟩

/-- Dropping the three leading unit coordinates of the operand's rows. -/
theorem resh5 {n : ℕ} (h : (⟨2, ![n, 1024]⟩ : Shape).numel = (⟨5, ![1, 1, 1, n, 1024]⟩ : Shape).numel) (e : (⟨2, ![n, 1024]⟩ : Shape).Idx) :
    ((Shape.reshapeEquiv h e) 3).val = (e 0).val ∧ ((Shape.reshapeEquiv h e) 4).val = (e 1).val := by
  have : Shape.reshapeEquiv h e = (Fin.cons ⟨0, Nat.one_pos⟩ (Fin.cons ⟨0, Nat.one_pos⟩ (Fin.cons ⟨0, Nat.one_pos⟩ e)) :
      (⟨5, ![1, 1, 1, n, 1024]⟩ : Shape).Idx) :=
    Shape.reshapeEquiv_eq_of_rowMajor h (by
      rw [Shape.rowMajor_val_five, Shape.rowMajor_val_two]
      show (((0 * 1 + 0) * 1 + 0) * n + (e 0).val) * 1024 + (e 1).val = (e 0).val * 1024 + (e 1).val
      simp only [Nat.zero_mul, Nat.zero_add])
  rw [this]; exact ⟨rfl, rfl⟩

end Place

/-! ## What a transfer writes -/

/-- The result's index in row `a + e 0`, column `e 1`. -/
def rowAt (a : ℕ) {n : ℕ} (e : (⟨2, ![n, 1024]⟩ : Shape).Idx) (h : a + n ≤ 1024) : S1024x1024.Idx :=
  ix2 ⟨a + (e 0).val, Nat.lt_of_lt_of_le (Nat.add_lt_add_left (e 0).isLt a) h⟩ (e 1)

variable {X}

/-- Reading a slice of the result reads the rows it names. -/
theorem oM_read {a n : ℕ} {h} {pf} (f : OBuf F) (e : (⟨2, ![n, 1024]⟩ : Shape).Idx) (hn : a + n ≤ 1024) :
    ((oM.slice (Rect.unit (s := S1024x1024) ![a, 0] ![n, 1024] h) pf : Memref sig .tc .vmem ⟨2, ![n, 1024]⟩ .f32)).view.read (Elt F) f e
      = f (rowAt a e hn) := by
  show f _ = f _
  congr 1
  funext b
  match b with
  | 0 => exact Fin.ext (by show a + 1 * (e 0).val = a + (e 0).val; rw [Nat.one_mul])
  | 1 => exact Fin.ext (by show 0 + 1 * (e 1).val = (e 1).val; rw [Nat.one_mul, Nat.zero_add])

/-- Reading a slice of the operand block, squeezed to two axes, reads the rows it names. -/
theorem xM_read {a n : ℕ} {h} {pf} {hs : (⟨5, ![1, 1, 1, n, 1024]⟩ : Shape).Squeezes ⟨2, ![n, 1024]⟩}
    (f : XBuf F) (e : (⟨2, ![n, 1024]⟩ : Shape).Idx) (hn : a + n ≤ 1024) :
    ((xM.slice (Rect.unit (s := S1x1x1x1024x1024) ![0, 0, 0, a, 0] ![1, 1, 1, n, 1024] h) pf :
        Memref sig .tc .vmem ⟨5, ![1, 1, 1, n, 1024]⟩ .f32).squeeze ⟨2, ![n, 1024]⟩ hs).view.read (Elt F) f e
      = f (lift5 (rowAt a e hn)) := by
  show f ((Rect.unit (s := S1x1x1x1024x1024) ![0, 0, 0, a, 0] ![1, 1, 1, n, 1024] h).emb (Shape.reshapeEquiv hs.numel_eq e)) = f _
  obtain ⟨h3, h4⟩ := resh5 hs.numel_eq e
  congr 1
  funext b
  match b with
  | 0 => exact Subsingleton.elim (α := Fin 1) _ _
  | 1 => exact Subsingleton.elim (α := Fin 1) _ _
  | 2 => exact Subsingleton.elim (α := Fin 1) _ _
  | 3 => exact Fin.ext (by show a + 1 * ((Shape.reshapeEquiv hs.numel_eq e) 3).val = a + (e 0).val; rw [Nat.one_mul, h3])
  | 4 => exact Fin.ext (by show 0 + 1 * ((Shape.reshapeEquiv hs.numel_eq e) 4).val = (e 1).val; rw [Nat.one_mul, Nat.zero_add, h4])

/-- Rows of the result written whole: the rows hold what the written value holds. -/
theorem oM_write {a n : ℕ} {h} {pf} (fd : OBuf F) (w : (⟨2, ![n, 1024]⟩ : Shape).Idx → Elt F .f32) (g : OBuf F) (hn : a + n ≤ 1024)
    (hw : ∀ e, w e = g (rowAt a e hn)) : ∀ i ∈ oR a n,
    ((oM.slice (Rect.unit (s := S1024x1024) ![a, 0] ![n, 1024] h) pf : Memref sig .tc .vmem ⟨2, ![n, 1024]⟩ .f32)).view.write (Elt F) fd w Finset.univ i
      = g i := by
  intro i hi
  rw [← oM_set (h := h) (pf := pf)] at hi
  obtain ⟨e, he⟩ : ∃ e, (oM.slice (Rect.unit (s := S1024x1024) ![a, 0] ![n, 1024] h) pf : Memref sig .tc .vmem ⟨2, ![n, 1024]⟩ .f32).view.emb e = i := by
    obtain ⟨e, -, he⟩ := Finset.mem_map.mp hi; exact ⟨e, he⟩
  rw [← he]; refine (View.write_emb_of_mem _ _ (Finset.mem_univ e)).trans ?_
  show w e = _
  rw [hw e]
  congr 1
  funext b
  match b with
  | 0 => exact Fin.ext (by show a + (e 0).val = a + 1 * (e 0).val; rw [Nat.one_mul])
  | 1 => exact Fin.ext (by show (e 1).val = 0 + 1 * (e 1).val; rw [Nat.one_mul, Nat.zero_add])

/-- A slot's rows written whole by the partner's partial sums. -/
theorem rM_write {j : Fin 6} {k : ℕ} {n : ℕ} {h} {pf} {hs : (⟨3, ![1, n, 1024]⟩ : Shape).Squeezes ⟨2, ![n, 1024]⟩} (c : Dev nD)
    (fd : RBuf F) (w : (⟨2, ![n, 1024]⟩ : Shape).Idx → Elt F .f32) (hn : keep j k c + n ≤ 1024)
    (hw : ∀ e, w e = acc X j k (mate j k c) (rowAt (keep j k c) e hn)) : ∀ i ∈ rR j.val (off j k) n,
    ((rM.slice (Rect.unit (s := S6x168x1024) ![j.val, off j k, 0] ![1, n, 1024] h) pf :
        Memref sig .tc .vmem ⟨3, ![1, n, 1024]⟩ .f32).squeeze ⟨2, ![n, 1024]⟩ hs).view.write (Elt F) fd w Finset.univ i
      = slotC X j k c i := by
  intro i hi
  rw [← rM_set (h := h) (pf := pf) (hs := hs)] at hi
  obtain ⟨e, he⟩ : ∃ e, ((rM.slice (Rect.unit (s := S6x168x1024) ![j.val, off j k, 0] ![1, n, 1024] h) pf :
        Memref sig .tc .vmem ⟨3, ![1, n, 1024]⟩ .f32).squeeze ⟨2, ![n, 1024]⟩ hs).view.emb e = i := by
    obtain ⟨e, -, he⟩ := Finset.mem_map.mp hi; exact ⟨e, he⟩
  rw [← he]; refine (View.write_emb_of_mem _ _ (Finset.mem_univ e)).trans ?_
  show w e = _
  rw [hw e]
  show acc X j k (mate j k c) _ = acc X j k (mate j k c) (ix2 _ _)
  obtain ⟨h1, h2⟩ := resh3 hs.numel_eq e
  congr 1
  funext b
  match b with
  | 0 =>
    refine Fin.ext ?_
    show keep j k c + (e 0).val = (keep j k c + ((off j k + 1 * ((Shape.reshapeEquiv hs.numel_eq e) 1).val) - off j k)) % 1024
    have he0 : (e 0).val < n := (e 0).isLt
    rw [h1, Nat.mod_eq_of_lt (by omega)]; omega
  | 1 => exact Fin.ext (by show (e 1).val = 0 + 1 * ((Shape.reshapeEquiv hs.numel_eq e) 2).val; rw [h2]; omega)

/-- A slot's rows read where the partner's partial sums have arrived. -/
theorem rM_read {j : Fin 6} {k : ℕ} {n : ℕ} {h} {hc : (⟨3, ![1, n, 1024]⟩ : Shape).ShapeCasts ⟨2, ![n, 1024]⟩} (c : Dev nD) (hn : keep j k c + n ≤ 1024)
    (e : (⟨2, ![n, 1024]⟩ : Shape).Idx) :
    shapeCast ⟨2, ![n, 1024]⟩ (rM.view.readAt (Elt F) (Rect.unit (s := S6x168x1024) ![j.val, off j k, 0] ![1, n, 1024] h).toLoadRect (slotC X j k c)) hc e
      = acc X j k (mate j k c) (rowAt (keep j k c) e hn) := by
  show acc X j k (mate j k c) (ix2 (slotRow j k c (off j k + 1 * ((Shape.reshapeEquiv hc e) 1).val)) _) = _
  obtain ⟨h1, h2⟩ := resh3 hc e
  congr 1
  funext b
  match b with
  | 0 =>
    refine Fin.ext ?_
    show (keep j k c + ((off j k + 1 * ((Shape.reshapeEquiv hc e) 1).val) - off j k)) % 1024 = keep j k c + (e 0).val
    have he0 : (e 0).val < n := (e 0).isLt
    rw [h1, Nat.mod_eq_of_lt (by omega)]; omega
  | 1 => exact Fin.ext (by show 0 + 1 * ((Shape.reshapeEquiv hc e) 2).val = (e 1).val; rw [h2]; omega)

/-- Rows of the operand block read. -/
theorem xM_readAt {j : Fin 6} {n a : ℕ} {h} {hc : (⟨5, ![1, 1, 1, n, 1024]⟩ : Shape).ShapeCasts ⟨2, ![n, 1024]⟩} (c : Dev nD) (hn : a + n ≤ 1024)
    (e : (⟨2, ![n, 1024]⟩ : Shape).Idx) :
    shapeCast ⟨2, ![n, 1024]⟩ (xM.view.readAt (Elt F) (Rect.unit (s := S1x1x1x1024x1024) ![0, 0, 0, a, 0] ![1, 1, 1, n, 1024] h).toLoadRect (X c)) hc e
      = acc X j 0 c (rowAt a e hn) := by
  show X c _ = X c (lift5 _)
  obtain ⟨h3, h4⟩ := resh5 hc e
  congr 1
  funext b
  match b with
  | 0 => exact Subsingleton.elim (α := Fin 1) _ _
  | 1 => exact Subsingleton.elim (α := Fin 1) _ _
  | 2 => exact Subsingleton.elim (α := Fin 1) _ _
  | 3 => exact Fin.ext (by show a + 1 * ((Shape.reshapeEquiv hc e) 3).val = a + (e 0).val; rw [Nat.one_mul, h3])
  | 4 => exact Fin.ext (by show 0 + 1 * ((Shape.reshapeEquiv hc e) 4).val = (e 1).val; rw [Nat.one_mul, Nat.zero_add, h4])

/-- Rows of the result read. -/
theorem oM_readAt {n a : ℕ} {h} {hc : (⟨2, ![n, 1024]⟩ : Shape).ShapeCasts ⟨2, ![n, 1024]⟩} (f : OBuf F) (hn : a + n ≤ 1024)
    (e : (⟨2, ![n, 1024]⟩ : Shape).Idx) :
    shapeCast ⟨2, ![n, 1024]⟩ (oM.view.readAt (Elt F) (Rect.unit (s := S1024x1024) ![a, 0] ![n, 1024] h).toLoadRect f) hc e = f (rowAt a e hn) := by
  refine (congrFun (shapeCast_self _ _) e).trans ?_
  show f _ = f _
  congr 1
  funext b
  match b with
  | 0 => exact Fin.ext (by show a + 1 * (e 0).val = a + (e 0).val; rw [Nat.one_mul])
  | 1 => exact Fin.ext (by show 0 + 1 * (e 1).val = (e 1).val; rw [Nat.one_mul, Nat.zero_add])

end Cert.AllReduceIdeal

end
-- ==== Proof.Ideal.Protocol.lean ====
/-
The protocol of the kernel's semaphores: who credits each cell, by how much, and what is handed over with it.

* The barrier cell of a device is credited one unit by each of its three partners. The partner along axis `a` hands over
  the slots of its receive buffer that the device's messages along `a` go to, and, of the chunks that start with axis `a`,
  the rows of its result that the device will bring it back.
* The send cell `(j, m)` is credited by the own transfer of message `m` of chunk `j`: the rows sent come back (of messages
  1 and 2 they do not, see below).
* The receive cell `(j, m)` is credited by the partner's transfer. Messages 0, 1, 2 bring the partner's partial sums of the
  rows kept. With messages 1 and 2 the partner also hands over the rows it sent: they are the rows of its result that
  it will be sent back by messages 4 and 5, or 3. Messages 3 to 9 bring a block of rows of finished sums.
-/
module

public import proofs.«01_k».proof.Proof.Ideal.Contents

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, whose duties are named by an axis -/

/-- The protocol's rounds; a duty's name is an axis. -/
abbrev UB : Type := URounds (GSem nD τ sig) (Fin 3)
/-- The pipeline's algebra beside the protocol's. -/
abbrev UU : Type := UR sig nD τ × UB

local notation "𝕄" => MT nD τ sig Unit (Elt F) ℕ UU ℕ

/-- The pipeline's part of the algebra. -/
abbrev EP : Emb (UR sig nD τ) (MT nD τ sig Unit (Elt F) ℕ UU ℕ) := embL
/-- The protocol's part of the algebra. -/
abbrev ER : Emb UB (MT nD τ sig Unit (Elt F) ℕ UU ℕ) := embR

/-! ## The cells -/

/-- The barrier's semaphore. -/
abbrev barS : Sem sig := (SemArray.scalar (sig.barrier 0 rfl) : Sems sig S_).sem

/-- The send semaphores' numbers are in range. -/
theorem snd_lt (j : Fin 6) (m : Fin 10) : 2 + (10 * j.val + m.val) < 122 := by have := j.isLt; have := m.isLt; omega
/-- The receive semaphores' numbers are in range. -/
theorem rcv_lt (j : Fin 6) (m : Fin 10) : 62 + (10 * j.val + m.val) < 122 := by have := j.isLt; have := m.isLt; omega

/-- The send and the receive semaphore of message `m` of chunk `j`. -/
def sndS (j : Fin 6) (m : Fin 10) : DmaSem sig := ⟨2 + (10 * j.val + m.val), snd_lt j m⟩
/-- The receive semaphore of message `m` of chunk `j`. -/
def rcvS (j : Fin 6) (m : Fin 10) : DmaSem sig := ⟨62 + (10 * j.val + m.val), rcv_lt j m⟩

/-- The scoped cells of a device by name: receive (`true`) or send, chunk, message; -/
abbrev Own : Type := Bool × Fin 6 × Fin 10
/-- and with the barrier cell. -/
abbrev Cell : Type := Unit ⊕ Own

/-- The semaphore of a scoped cell, -/
def ownSem : Own → SemLoc sig
  | (false, j, m) => .dma (sndS j m)
  | (true, j, m) => .dma (rcvS j m)

/-- and of any cell. -/
def semAt : Cell → SemLoc sig
  | .inl _ => .reg barS
  | .inr o => ownSem o

/-- The cell a semaphore is. -/
def cellAt : SemLoc sig → Option Cell
  | .reg s => if s = barS then some (.inl ()) else none
  | .dma q => if 2 ≤ q.val then some (.inr (decide (62 ≤ q.val), ⟨(q.val - 2) / 10 % 6, Nat.mod_lt _ (by decide)⟩, ⟨(q.val - 2) % 10, Nat.mod_lt _ (by decide)⟩)) else none

/-- A send semaphore is its send cell. -/
theorem cellAt_snd (j : Fin 6) (m : Fin 10) : cellAt (.dma (sndS j m)) = some (.inr (false, j, m)) := by
  revert j m; decide +kernel
/-- A receive semaphore is its receive cell. -/
theorem cellAt_rcv (j : Fin 6) (m : Fin 10) : cellAt (.dma (rcvS j m)) = some (.inr (true, j, m)) := by
  revert j m; decide +kernel
/-- The barrier's semaphore is the barrier cell. -/
theorem cellAt_bar : cellAt (.reg barS) = some (.inl ()) := by decide

/-- The cell of a cell's semaphore is that cell. -/
theorem cellAt_semAt (x : Cell) : cellAt (semAt x) = some x := match x with
  | .inl () => cellAt_bar
  | .inr (false, j, m) => cellAt_snd j m
  | .inr (true, j, m) => cellAt_rcv j m

/-- Two cells have two semaphores. -/
theorem semAt_injective : Function.Injective semAt := fun x y h => by
  have := congrArg cellAt h
  rw [cellAt_semAt, cellAt_semAt] at this
  exact Option.some.inj this

/-- A device's cell. -/
abbrev kcell (p : Dev nD × Cell) : GSem nD τ sig := ((p.1 : Thread nD τ), semAt p.2)

/-- Two cells of two devices are two. -/
theorem kcell_injective : Function.Injective kcell := by
  rintro ⟨c, k⟩ ⟨c', k'⟩ h
  have h1 : c = c' := congrArg (fun g : GSem nD τ sig => g.1.1) h
  have h2 : semAt k = semAt k' := congrArg Prod.snd h
  rw [h1, semAt_injective h2]

/-- The barrier cell of a device; -/
abbrev barCell (c : Dev nD) : GSem nD τ sig := ((c : Thread nD τ), .reg barS)
/-- a send cell of it; -/
abbrev sndCell (c : Dev nD) (j : Fin 6) (m : Fin 10) : GSem nD τ sig := ((c : Thread nD τ), .dma (sndS j m))
/-- a receive cell of it. -/
abbrev rcvCell (c : Dev nD) (j : Fin 6) (m : Fin 10) : GSem nD τ sig := ((c : Thread nD τ), .dma (rcvS j m))

/-- What a transfer of message `m` of chunk `j` credits. -/
def cr (j : Fin 6) (m : Fin 10) : ℕ := RefSig.tileCredit ⟨2, ![rows j m, 1024]⟩ .f32

/-- Every transfer credits something. -/
theorem cr_pos (j : Fin 6) (m : Fin 10) : 0 < cr j m := by
  apply RefSig.tileCredit_pos
  show 0 < ∏ a : Fin 2, (![rows j m, 1024] : Fin 2 → ℕ) a
  rw [Fin.prod_univ_two]
  exact Nat.mul_pos (rows_pos j m) (show 0 < 1024 by decide)

/-! ## What is handed over -/

variable (X : Dev nD → XBuf F)

/-- Rows of the result of `c`, whatever they hold; a slot of its receive buffer likewise. -/
def rowsAny (c : Dev nD) (a n : ℕ) : sProp 𝕄 := iprop(∃ f, oLoc c ↦[oR a n]{fullShare} f)
/-- A slot of the receive buffer of `c`, whatever it holds. -/
def slotAny (j : Fin 6) (k : ℕ) (c : Dev nD) : sProp 𝕄 := iprop(∃ f, rLoc c ↦[rR j.val (off j k) (len j k)]{fullShare} f)

/-- How many halvings the rows a message leaves from have seen. -/
def lvl (m : Fin 10) : ℕ := match m with | 0 => 0 | 1 => 1 | 2 => 2 | _ => 3

/-- The part of the rows' ownership a message takes: rows that leave more than once are shared. -/
def shr (m : Fin 10) : PosShare TreeShare := match m with
  | 3 => (fullShare : PosShare TreeShare).left
  | 4 => (fullShare : PosShare TreeShare).right.left
  | 6 => (fullShare : PosShare TreeShare).right.right
  | 5 => (fullShare : PosShare TreeShare).left
  | 7 => (fullShare : PosShare TreeShare).right
  | _ => fullShare

/-- What the rows message `m ≥ 1` leaves from hold. -/
def cont (j : Fin 6) (m : Fin 10) (c : Dev nD) : OBuf F := acc X j (lvl m) (owner j m c)

/-- The rows message `m` leaves from. -/
def srcP (j : Fin 6) (m : Fin 10) (c : Dev nD) : sProp 𝕄 :=
  if m = 0 then iprop(xLoc c ↦[xR (srcRow j m c) (rows j m)]{fullShare} X c)
  else iprop(oLoc c ↦[oR (srcRow j m c) (rows j m)]{shr m} cont X j m c)

/-- The place message `m` goes to on its receiver. -/
def dstP (j : Fin 6) (m : Fin 10) (c : Dev nD) : sProp 𝕄 :=
  if m.val < 3 then slotAny j m.val (peer j m c) else rowsAny (peer j m c) (srcRow j m c) (rows j m)

/-- What message `m` brings. -/
def gotP (j : Fin 6) (m : Fin 10) (c : Dev nD) : sProp 𝕄 :=
  if m.val < 3 then iprop(rLoc c ↦[rR j.val (off j m.val) (len j m.val)]{fullShare} slotC X j m.val c)
  else iprop(oLoc c ↦[oR (srcRow j m (peer j m c)) (rows j m)]{fullShare} cont X j m (peer j m c))

/-- Messages 1 and 2 leave their rows to the receiver. -/
abbrev Leaves (m : Fin 10) : Prop := m = 1 ∨ m = 2

/-- What the end of the own sending hands back. -/
def sndPay (j : Fin 6) (m : Fin 10) (c : Dev nD) : sProp 𝕄 := if Leaves m then iprop(emp) else srcP X j m c

/-- What an arrival hands over: what the message brings and, with messages 1 and 2, the rows it left. -/
def rcvPay (j : Fin 6) (m : Fin 10) (c : Dev nD) : sProp 𝕄 :=
  iprop(gotP X j m c ∗ if Leaves m then rowsAny (peer j m c) (srcRow j m (peer j m c)) (rows j m) else iprop(emp))

/-- What device `p` hands a partner `c` of chunk `j`'s halving `k`. -/
def part (j : Fin 6) (k : Fin 3) (p c : Dev nD) : sProp 𝕄 :=
  iprop(slotAny j k.val p ∗ if k = 0 then rowsAny p (keep j 0 c) (len j 0) else iprop(emp))

/-- What the partner along axis `a` hands over with its unit on the barrier. -/
def barPay (a : Fin 3) (c : Dev nD) : sProp 𝕄 :=
  bigSep Finset.univ fun j : Fin 6 => bigSep Finset.univ fun k : Fin 3 => if axis j k.val = a then part j k (flip a c) c else iprop(emp)

omit [FloatOps F] in
/-- Rows of the result may be handed over through a semaphore; -/
instance rowsAny_storable (c : Dev nD) (a n : ℕ) : BI.Storable (upEmb : UEmb _ 𝕄) (rowsAny (F := F) c a n) := by unfold rowsAny; infer_instance
omit [FloatOps F] in
/-- so may slots; -/
instance slotAny_storable (j : Fin 6) (k : ℕ) (c : Dev nD) : BI.Storable (upEmb : UEmb _ 𝕄) (slotAny (F := F) j k c) := by unfold slotAny; infer_instance
/-- the rows a message leaves from; -/
instance srcP_storable (j : Fin 6) (m : Fin 10) (c : Dev nD) : BI.Storable (upEmb : UEmb _ 𝕄) (srcP X j m c) := by
  unfold srcP; split <;> infer_instance
/-- what a message brings; -/
instance gotP_storable (j : Fin 6) (m : Fin 10) (c : Dev nD) : BI.Storable (upEmb : UEmb _ 𝕄) (gotP X j m c) := by
  unfold gotP; split <;> infer_instance
/-- what the end of a sending hands back; -/
instance sndPay_storable (j : Fin 6) (m : Fin 10) (c : Dev nD) : BI.Storable (upEmb : UEmb _ 𝕄) (sndPay X j m c) := by
  unfold sndPay; split <;> infer_instance
/-- what an arrival hands over; -/
instance rcvPay_storable (j : Fin 6) (m : Fin 10) (c : Dev nD) : BI.Storable (upEmb : UEmb _ 𝕄) (rcvPay X j m c) := by
  unfold rcvPay; split <;> infer_instance
omit [FloatOps F] in
/-- what a partner hands over for one halving; -/
instance part_storable (j : Fin 6) (k : Fin 3) (p c : Dev nD) : BI.Storable (upEmb : UEmb _ 𝕄) (part (F := F) j k p c) := by
  unfold part; split <;> infer_instance
omit [FloatOps F] in
/-- that under a condition; -/
instance part_if_storable (j : Fin 6) (k a : Fin 3) (p c : Dev nD) :
    BI.Storable (upEmb : UEmb _ 𝕄) (if axis j k.val = a then part (F := F) j k p c else iprop(emp)) := by
  split <;> infer_instance
omit [FloatOps F] in
/-- and what it hands over in all. -/
instance barPay_storable (a : Fin 3) (c : Dev nD) : BI.Storable (upEmb : UEmb _ 𝕄) (barPay (F := F) a c) := by
  unfold barPay; infer_instance

/-! ## The schedule -/

/-- One round: the barrier cell has a duty of one unit per axis, every other cell one duty of its message's credit. -/
def sched : Rounds.Schedule (GSem nD τ sig) (Fin 3) 𝕄 where
  duties g r := if r = 0 ∧ g.1.2 = .tc then (match cellAt g.2 with | some (.inl _) => Finset.univ | some (.inr _) => {0} | none => ∅) else ∅
  unitless _ := False
  amount g _ _ := match cellAt g.2 with | some (.inr (_, j, m)) => cr j m | _ => 1
  payload g _ d := match cellAt g.2 with
    | some (.inl _) => barPay d g.1.1
    | some (.inr (false, j, m)) => sndPay X j m g.1.1
    | some (.inr (true, j, m)) => rcvPay X j m g.1.1
    | none => iprop(emp)
  amount_pos g _ _ _ := by
    rcases cellAt g.2 with _ | ⟨_ | ⟨b, j, m⟩⟩
    · exact Nat.one_pos
    · exact Nat.one_pos
    · exact cr_pos j m

/-- Everything the schedule hands over may be handed over. -/
instance sched_payload_storable (g : GSem nD τ sig) (r : ℕ) (d : Fin 3) : BI.Storable (upEmb : UEmb _ 𝕄) ((sched X).payload g r d) := by
  show BI.Storable upEmb (match cellAt g.2 with
    | some (.inl _) => barPay d g.1.1
    | some (.inr (false, j, m)) => sndPay X j m g.1.1
    | some (.inr (true, j, m)) => rcvPay X j m g.1.1
    | none => iprop(emp))
  rcases cellAt g.2 with _ | ⟨_ | ⟨_ | _, j, m⟩⟩ <;> infer_instance

section Sched
variable (c : Dev nD) (j : Fin 6) (m : Fin 10)

/-- A barrier cell has a duty per axis; -/
theorem duties_bar : (sched X).duties (barCell c) 0 = Finset.univ := by
  dsimp only [sched]; rw [if_pos ⟨rfl, rfl⟩, cellAt_bar]
/-- a send cell has one; -/
theorem duties_snd : (sched X).duties (sndCell c j m) 0 = {0} := by
  dsimp only [sched]; rw [if_pos ⟨rfl, rfl⟩, cellAt_snd]
/-- a receive cell has one; -/
theorem duties_rcv : (sched X).duties (rcvCell c j m) 0 = {0} := by
  dsimp only [sched]; rw [if_pos ⟨rfl, rfl⟩, cellAt_rcv]
/-- there are none after the first round. -/
theorem duties_later (g : GSem nD τ sig) : ∀ r, 1 ≤ r → (sched X).duties g r = ∅ :=
  fun r hr => by dsimp only [sched]; exact if_neg fun h => by omega

/-- A duty on the barrier is one unit; -/
theorem amount_bar (d : Fin 3) : (sched X).amount (barCell c) 0 d = 1 := by dsimp only [sched]; rw [cellAt_bar]
/-- on a send cell it is the message's credit; -/
theorem amount_snd (d : Fin 3) : (sched X).amount (sndCell c j m) 0 d = cr j m := by dsimp only [sched]; rw [cellAt_snd]
/-- on a receive cell likewise. -/
theorem amount_rcv (d : Fin 3) : (sched X).amount (rcvCell c j m) 0 d = cr j m := by dsimp only [sched]; rw [cellAt_rcv]

/-- The barrier expects three units; -/
theorem expect_bar : (sched X).expect (barCell c) 0 = 3 := by
  unfold Schedule.expect Schedule.amountOf
  rw [duties_bar, Finset.sum_congr rfl fun d _ => amount_bar X c d, Finset.sum_const, Finset.card_univ, Fintype.card_fin, smul_eq_mul]
/-- a send cell the message's credit; -/
theorem expect_snd : (sched X).expect (sndCell c j m) 0 = cr j m := by
  unfold Schedule.expect Schedule.amountOf; rw [duties_snd, Finset.sum_singleton, amount_snd]
/-- a receive cell likewise. -/
theorem expect_rcv : (sched X).expect (rcvCell c j m) 0 = cr j m := by
  unfold Schedule.expect Schedule.amountOf; rw [duties_rcv, Finset.sum_singleton, amount_rcv]

/-- A duty on the barrier hands over what the partner along its axis gives; -/
theorem payload_bar (d : Fin 3) : (sched X).payload (barCell c) 0 d = barPay d c := by dsimp only [sched]; rw [cellAt_bar]
/-- on a send cell, what comes back; -/
theorem payload_snd (d : Fin 3) : (sched X).payload (sndCell c j m) 0 d = sndPay X j m c := by dsimp only [sched]; rw [cellAt_snd]
/-- on a receive cell, what arrives. -/
theorem payload_rcv (d : Fin 3) : (sched X).payload (rcvCell c j m) 0 d = rcvPay X j m c := by dsimp only [sched]; rw [cellAt_rcv]

/-- All that a wait on the barrier hands over; -/
theorem rest_bar : bigSep ((sched X).duties (barCell c) 0 \ ∅) (fun d => (sched X).payload (barCell c) 0 d) = bigSep Finset.univ fun d => barPay (F := F) d c := by
  rw [Finset.sdiff_empty, duties_bar]; exact bigSep_congr fun d _ => payload_bar X c d
/-- on a send cell; -/
theorem rest_snd : bigSep ((sched X).duties (sndCell c j m) 0 \ ∅) (fun d => (sched X).payload (sndCell c j m) 0 d) = sndPay X j m c := by
  rw [Finset.sdiff_empty, duties_snd, bigSep_singleton, payload_snd]
/-- on a receive cell. -/
theorem rest_rcv : bigSep ((sched X).duties (rcvCell c j m) 0 \ ∅) (fun d => (sched X).payload (rcvCell c j m) 0 d) = rcvPay X j m c := by
  rw [Finset.sdiff_empty, duties_rcv, bigSep_singleton, payload_rcv]

end Sched

/-! ## Levels, and what a device owes -/

/-- The cells that have a level: those of the devices' cores. -/
def L (g : GSem nD τ sig) : Finset Unit := if g.1.2 = .tc then {()} else ∅
/-- Other cells have none; -/
theorem L_of_ne (g : GSem nD τ sig) (h : g.1.2 ≠ .tc) : L g = ∅ := if_neg h
/-- these have one. -/
theorem L_tc (c : Dev nD) (sm : SemLoc sig) : L ((c : Thread nD τ), sm) = {()} := if_pos rfl

/-- The barrier cells are at level 1, message `m`'s receive cells at `m + 2`, everything else at 0. -/
def lvS (s : SemLoc sig) : ℕ := match cellAt s with
  | some (.inl _) => 1
  | some (.inr (true, _, m)) => m.val + 2
  | _ => 0
/-- The level of a cell. -/
def lv (g : GSem nD τ sig) (_ : Unit) : ℕ := lvS g.2

/-- The barrier's level; -/
theorem lvS_bar : lvS (.reg barS) = 1 := by unfold lvS; rw [cellAt_bar]
/-- a send cell's; -/
theorem lvS_snd (j : Fin 6) (m : Fin 10) : lvS (.dma (sndS j m)) = 0 := by unfold lvS; rw [cellAt_snd]
/-- a receive cell's. -/
theorem lvS_rcv (j : Fin 6) (m : Fin 10) : lvS (.dma (rcvS j m)) = m.val + 2 := by unfold lvS; rw [cellAt_rcv]

/-- What device `c` owes for the messages `T j` of each chunk `j`. -/
def owed (T : Fin 6 → Finset (Fin 10)) (c : Dev nD) : CellTallies nD τ sig Unit :=
  ∑ j : Fin 6, ∑ m ∈ T j, tallyAt (rcvCell (peer j m c) j m) () (cr j m)

/-- What it owes its three partners' barrier cells, along the axes in `A`. -/
def owedBar (A : Finset (Fin 3)) (c : Dev nD) : CellTallies nD τ sig Unit :=
  ∑ a ∈ A, tallyAt (barCell (flip a c)) () 1

/-- Where something is owed for messages there is a message still to be sent there. -/
theorem owed_pos {T : Fin 6 → Finset (Fin 10)} {c : Dev nD} {g : GSem nD τ sig} {u : Unit} (h : 0 < owed T c g u) :
    ∃ j, ∃ m ∈ T j, g = rcvCell (peer j m c) j m := by
  unfold owed at h
  rw [Finset.sum_apply, Finsupp.finset_sum_apply] at h
  obtain ⟨j, -, hj⟩ := Finset.exists_ne_zero_of_sum_ne_zero (Nat.pos_iff_ne_zero.mp h)
  rw [Finset.sum_apply, Finsupp.finset_sum_apply] at hj
  obtain ⟨m, hm, hjm⟩ := Finset.exists_ne_zero_of_sum_ne_zero hj
  refine ⟨j, m, hm, ?_⟩
  by_contra hn
  exact hjm (by rw [tallyAt_apply, if_neg fun h' => hn h'.1])

/-- Where something is owed on barriers there is a partner still to be signalled. -/
theorem owedBar_pos {A : Finset (Fin 3)} {c : Dev nD} {g : GSem nD τ sig} {u : Unit} (h : 0 < owedBar A c g u) :
    ∃ a ∈ A, g = barCell (flip a c) := by
  unfold owedBar at h
  rw [Finset.sum_apply, Finsupp.finset_sum_apply] at h
  obtain ⟨a, ha, hj⟩ := Finset.exists_ne_zero_of_sum_ne_zero (Nat.pos_iff_ne_zero.mp h)
  refine ⟨a, ha, ?_⟩
  by_contra hn
  exact hj (by rw [tallyAt_apply, if_neg fun h' => hn h'.1])

/-- A wait on a cell of a level below everything still owed is allowed. -/
theorem mayWait_below (c : Dev nD) (sm : SemLoc sig) (O : CellTallies nD τ sig Unit)
    (hO : ∀ g u, 0 < O g u → g.1.2 = .tc ∧ lvS sm < lvS g.2) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

/-- The owed of a send peeled off. -/
theorem owed_peel (T T' : Fin 6 → Finset (Fin 10)) (c : Dev nD) (j : Fin 6) (m : Fin 10) (hm : m ∈ T j)
    (hT : T' = Function.update T j ((T j).erase m)) :
    owed T c = owed T' c + tallyAt (rcvCell (peer j m c) j m) () (cr j m) := by
  unfold owed
  rw [← Finset.sum_erase_add _ _ (Finset.mem_univ j), ← Finset.sum_erase_add (a := j) _ _ (Finset.mem_univ j), hT, Function.update_self,
    ← Finset.sum_erase_add _ _ hm, add_assoc]
  congr 1
  exact Finset.sum_congr rfl fun j' hj' => by rw [Function.update_of_ne (Finset.ne_of_mem_erase hj')]

end Cert.AllReduceIdeal

end
-- ==== Proof.Ideal.State.lean ====
/-
What a device holds while the kernel runs, step by step.

The state is indexed by how many of its 33 steps each of the six chunks has gone through; it is what the device knows
(the cells' invariants, the levels), what it owes, and for each chunk what it holds of it.
-/
module

public import proofs.«01_k».proof.Proof.Ideal.Protocol

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD)

/-- No loop of the kernel needs a variant. -/
abbrev 𝒱₀ : Variants := Variants.none

/-- Separating conjunction is associative; -/
instance sep_assoc' : Std.Associative (α := sProp 𝕄) BIBase.sep :=
  ⟨(inferInstance : Std.Associative (α := sProp 𝕄) BI.sep).assoc⟩
/-- and commutative. -/
instance sep_comm' : Std.Commutative (α := sProp 𝕄) BIBase.sep :=
  ⟨(inferInstance : Std.Commutative (α := sProp 𝕄) BI.sep).comm⟩

section Families
variable {I : Type} [DecidableEq I]
omit [FloatOps F] in
/-- A family over a set, one member taken out; -/
theorem fam_erase {s : Finset I} {i : I} (h : i ∈ s) {Φ : I → sProp 𝕄} : bigSep s Φ = iprop(Φ i ∗ bigSep (s.erase i) Φ) := bigSep_erase h
omit [FloatOps F] in
/-- one member put in; -/
theorem fam_insert {s : Finset I} {i : I} (h : i ∉ s) {Φ : I → sProp 𝕄} : bigSep (insert i s) Φ = iprop(Φ i ∗ bigSep s Φ) := bigSep_insert h
omit [FloatOps F] in
/-- over two disjoint sets together. -/
theorem fam_union {s t : Finset I} (h : Disjoint s t) {Φ : I → sProp 𝕄} : bigSep (s ∪ t) Φ = iprop(bigSep s Φ ∗ bigSep t Φ) := bigSep_union h
end Families

/-- The weakest precondition of a program of device `c`'s core. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- Every cell's invariant, and that every cell is in its round 0. -/
def records : sProp 𝕄 :=
  bigSep Finset.univ fun p : Dev nD × Cell => iprop(cellInv ER (sched X) (K p) (kcell p) ∗ reached ER (kcell p) 0)

/-- These facts may be used again and again. -/
instance records_persistent : BI.Persistent (records X K) := by unfold records; infer_instance

/-- That, and the level facts. -/
def ctx : sProp 𝕄 := iprop(records X K ∗ levAts L lv)
/-- So may these. -/
instance ctx_persistent : BI.Persistent (ctx X K) := by unfold ctx; infer_instance

/-- What is known of one cell; -/
theorem record (p : Dev nD × Cell) : records X K ⊢ iprop(cellInv ER (sched X) (K p) (kcell p) ∗ reached ER (kcell p) 0) :=
  bigSep_elim (Finset.mem_univ p)
/-- of a send cell; -/
theorem record_snd (j : Fin 6) (m : Fin 10) :
    records X K ⊢ iprop(cellInv ER (sched X) (K (c, .inr (false, j, m))) (sndCell c j m) ∗ reached ER (sndCell c j m) 0) :=
  record X K (c, .inr (false, j, m))
/-- of a receive cell. -/
theorem record_rcv (j : Fin 6) (m : Fin 10) :
    records X K ⊢ iprop(cellInv ER (sched X) (K (c, .inr (true, j, m))) (rcvCell c j m) ∗ reached ER (rcvCell c j m) 0) :=
  record X K (c, .inr (true, j, m))

/-! ## What a device holds of a chunk -/

/-- For a message to be sent: the position of its send cell, and the tokens of the two credits its transfer will give; -/
def todoP (j : Fin 6) (m : Fin 10) : sProp 𝕄 :=
  iprop(atPos ER (sndCell c j m) 0 ∅ 0 ∗ dutyTok ER (sndCell c j m) 0 0 ∗ dutyTok ER (rcvCell (peer j m c) j m) 0 0)
/-- for one being sent: the position, and the credit to wait with; -/
def flyP (j : Fin 6) (m : Fin 10) : sProp 𝕄 := iprop(atPos ER (sndCell c j m) 0 ∅ 0 ∗ cred (tallyAt (sndCell c j m) () (cr j m)))
/-- for one waited for: the cell back at zero; -/
def doneP (j : Fin 6) (m : Fin 10) : sProp 𝕄 := semVal (sndCell c j m) 0
/-- likewise for the messages to come, -/
def waitP (j : Fin 6) (m : Fin 10) : sProp 𝕄 := iprop(atPos ER (rcvCell c j m) 0 ∅ 0 ∗ cred (tallyAt (rcvCell c j m) () (cr j m)))
/-- and those that came. -/
def cameP (j : Fin 6) (m : Fin 10) : sProp 𝕄 := semVal (rcvCell c j m) 0

/-- The rows being summed after `n` additions: before the first whatever the result holds there. -/
def midP (j : Fin 6) (n : ℕ) : sProp 𝕄 := match n with
  | 0 => rowsAny c (keep j 0 c) (len j 0)
  | 1 => iprop(oLoc c ↦[oR (keep j 1 c) (len j 1)]{fullShare} acc X j 1 c)
  | 2 => iprop(oLoc c ↦[oR (keep j 2 c) (len j 2)]{fullShare} acc X j 2 c)
  | _ => iprop(emp)

/-- The families, each over its set of messages. -/
def fams (j : Fin 6) (h : Held) : sProp 𝕄 :=
  iprop(bigSep h.todo (todoP (F := F) c j) ∗ bigSep h.fly (flyP (F := F) c j) ∗ bigSep h.done (doneP (F := F) c j) ∗ bigSep h.wait (waitP (F := F) c j)
    ∗ bigSep h.came (cameP (F := F) c j) ∗ bigSep h.src (fun m => srcP X j m c) ∗ bigSep h.dst (fun m => dstP (F := F) j m c) ∗ bigSep h.got (fun m => gotP X j m c))

/-- What device `c` holds of chunk `j`. -/
def chunk (j : Fin 6) (h : Held) : sProp 𝕄 :=
  iprop((xLoc c ↦[xR (keep j 0 c) (len j 0)]{fullShare} X c) ∗ midP X c j h.mid ∗ fams X c j h)

/-! ### The steps on a chunk's holdings -/

/-- A chunk without what a send takes. -/
def Held.sent (h : Held) (m : Fin 10) : Held := { h with todo := h.todo.erase m, src := h.src.erase m, dst := h.dst.erase m }

/-- A chunk before a message is started: what the start takes, and the rest; -/
theorem chunk_send_take {j : Fin 6} {h : Held} {m : Fin 10} (ok : h.Ok (.send m)) :
    chunk X c j h = iprop((todoP c j m ∗ srcP X j m c ∗ dstP j m c) ∗ chunk X c j (Held.sent h m)) := by
  obtain ⟨h1, h2, h3, h4⟩ := ok
  unfold chunk fams Held.sent
  dsimp only
  rw [fam_erase h1, fam_erase h3, fam_erase h4]
  ac_rfl

/-- and after: what it leaves, and the rest. -/
theorem chunk_send_put {j : Fin 6} {h : Held} {m : Fin 10} (ok : h.Ok (.send m)) :
    chunk X c j (h.next (.send m)) = iprop(flyP c j m ∗ chunk X c j (Held.sent h m)) := by
  obtain ⟨h1, h2, h3, h4⟩ := ok
  unfold chunk fams Held.sent Held.next
  dsimp only
  rw [fam_insert h2]
  ac_rfl

/-- A chunk without what a wait for an arrival takes. -/
def Held.waited (h : Held) (m : Fin 10) : Held := { h with wait := h.wait.erase m }

/-- A chunk before a wait for an arrival; -/
theorem chunk_recv_take {j : Fin 6} {h : Held} {m : Fin 10} (ok : h.Ok (.recv m)) :
    chunk X c j h = iprop(waitP c j m ∗ chunk X c j (Held.waited h m)) := by
  obtain ⟨h1, -, -, -, -⟩ := ok
  unfold chunk fams Held.waited
  dsimp only
  rw [fam_erase h1]
  ac_rfl

/-- and after. -/
theorem chunk_recv_put {j : Fin 6} {h : Held} {m : Fin 10} (ok : h.Ok (.recv m)) :
    chunk X c j (h.next (.recv m)) = iprop(cameP c j m ∗ (bigSep (feeds m) (fun m => srcP X j m c) ∗ bigSep (opens m) (fun m => dstP j m c)
      ∗ bigSep (keeps m) fun m => gotP X j m c) ∗ chunk X c j (Held.waited h m)) := by
  obtain ⟨-, h2, h3, h4, h5⟩ := ok
  unfold chunk fams Held.waited Held.next
  dsimp only
  rw [fam_insert h2, fam_union h3, fam_union h4, fam_union h5]
  ac_rfl

/-- A chunk without what a wait for a sending takes. -/
def Held.landed (h : Held) (m : Fin 10) : Held := { h with fly := h.fly.erase m }

/-- A chunk before a wait for the end of a sending; -/
theorem chunk_back_take {j : Fin 6} {h : Held} {m : Fin 10} (ok : h.Ok (.back m)) :
    chunk X c j h = iprop(flyP c j m ∗ chunk X c j (Held.landed h m)) := by
  obtain ⟨h1, -, -⟩ := ok
  unfold chunk fams Held.landed
  dsimp only
  rw [fam_erase h1]
  ac_rfl

/-- and after. -/
theorem chunk_back_put {j : Fin 6} {h : Held} {m : Fin 10} (ok : h.Ok (.back m)) :
    chunk X c j (h.next (.back m)) = iprop(doneP c j m ∗ (bigSep (backs m) fun m => srcP X j m c) ∗ chunk X c j (Held.landed h m)) := by
  obtain ⟨-, h2, h3⟩ := ok
  unfold chunk fams Held.landed Held.next
  dsimp only
  rw [fam_insert h2, fam_union h3]
  ac_rfl

/-- A message for which the part it brings is still in its slot: the slot lent out, and the rest. -/
theorem chunk_add_take {j : Fin 6} {h : Held} {k : Fin 3} (ok : h.Ok (.add k)) :
    chunk X c j h = iprop(midP X c j k.val ∗ gotP X j ⟨k.val, Nat.lt_trans k.isLt (by decide)⟩ c ∗ (xLoc c ↦[xR (keep j 0 c) (len j 0)]{fullShare} X c)
      ∗ fams X c j { h with got := h.got.erase ⟨k.val, Nat.lt_trans k.isLt (by decide)⟩ }) := by
  obtain ⟨-, h2, h3⟩ := ok
  unfold chunk fams
  dsimp only
  rw [fam_erase h3, h2]
  ac_rfl

/-- A chunk after an addition. -/
theorem chunk_add_put {j : Fin 6} {h : Held} {k : Fin 3} (ok : h.Ok (.add k)) :
    chunk X c j (h.next (.add k)) = iprop((midP X c j (k.val + 1) ∗ bigSep (makes k) fun m => srcP X j m c)
      ∗ gotP X j ⟨k.val, Nat.lt_trans k.isLt (by decide)⟩ c ∗ (xLoc c ↦[xR (keep j 0 c) (len j 0)]{fullShare} X c)
      ∗ fams X c j { h with got := h.got.erase ⟨k.val, Nat.lt_trans k.isLt (by decide)⟩ }) := by
  obtain ⟨h1, h2, h3⟩ := ok
  unfold chunk fams Held.next
  dsimp only
  rw [fam_union h1, fam_erase h3]
  ac_rfl

/-! ## What a device holds -/

/-- What device `c` owes when chunk `j` has gone through `σ j` of its steps. -/
def owes' (σ : Fin 6 → ℕ) : sProp 𝕄 := iprop(∃ W, owes (c : Thread nD τ) (owed (fun j => (held (σ j)).todo) c) W)

/-- What device `c` holds and knows when chunk `j` has gone through `σ j` of its steps. -/
def St (σ : Fin 6 → ℕ) : sProp 𝕄 :=
  iprop(ctx X K ∗ owes' c σ ∗ bigSep Finset.univ fun j => chunk X c j (held (σ j)))

/-- The other chunks. -/
def others (σ : Fin 6 → ℕ) (j : Fin 6) : sProp 𝕄 := bigSep (Finset.univ.erase j) fun j => chunk X c j (held (σ j))

/-- Chunk `j` has gone through one more step. -/
def adv (σ : Fin 6 → ℕ) (j : Fin 6) : Fin 6 → ℕ := Function.update σ j (σ j + 1)

/-- The state, with one chunk set apart. -/
theorem St_eq (σ : Fin 6 → ℕ) (j : Fin 6) : St X K c σ = iprop(ctx X K ∗ owes' c σ ∗ chunk X c j (held (σ j)) ∗ others X c σ j) := by
  unfold St others; rw [fam_erase (Finset.mem_univ j)]

/-- A step of one chunk changes nothing of the others. -/
theorem others_adv (σ : Fin 6 → ℕ) (j : Fin 6) : others X c (adv σ j) j = others X c σ j :=
  bigSep_congr fun j' hj' => by unfold adv; rw [Function.update_of_ne (Finset.ne_of_mem_erase hj')]

/-- The state after a step of one chunk. -/
theorem St_adv (σ : Fin 6 → ℕ) (j : Fin 6) {a : Act} (h : act (σ j) = some a) :
    St X K c (adv σ j) = iprop(ctx X K ∗ owes' c (adv σ j) ∗ chunk X c j ((held (σ j)).next a) ∗ others X c σ j) := by
  rw [St_eq X K c (adv σ j) j, others_adv, show adv σ j j = σ j + 1 from Function.update_self .., held_succ h]

/-- A step that sends nothing leaves what is owed. -/
theorem owes_adv (σ : Fin 6 → ℕ) (j : Fin 6) {a : Act} (h : act (σ j) = some a) (ha : ((held (σ j)).next a).todo = (held (σ j)).todo) :
    (owes' c (adv σ j) : sProp 𝕄) = owes' c σ := by
  unfold owes'
  rw [show (fun j' => (held (adv σ j j')).todo) = fun j' => (held (σ j')).todo from funext fun j' => by
    unfold adv
    by_cases hj : j' = j
    · subst hj; rw [Function.update_self, held_succ h, ha]
    · rw [Function.update_of_ne hj]]

/-- A send pays what was owed for its message. -/
theorem owed_adv (σ : Fin 6 → ℕ) (j : Fin 6) {m : Fin 10} (h : act (σ j) = some (.send m)) :
    owed (fun j' => (held (σ j')).todo) c = owed (fun j' => (held (adv σ j j')).todo) c + tallyAt (rcvCell (peer j m c) j m) () (cr j m) :=
  owed_peel _ _ c j m (held_ok h).1 (funext fun j' => by
    unfold adv
    by_cases hj : j' = j
    · subst hj; rw [Function.update_self, Function.update_self, held_succ h]; rfl
    · rw [Function.update_of_ne hj, Function.update_of_ne hj])

/-- The holdings may be read at any equal progress. -/
theorem St_at {σ σ' : Fin 6 → ℕ} {R : sProp 𝕄} {P : sProp 𝕄} (h : ∀ j, σ j = σ' j) (hQ : iprop(St X K c σ' ∗ R) ⊢ P) :
    iprop(St X K c σ ∗ R) ⊢ P := by rw [funext h]; exact hQ

/-- The end of a part of the program. -/
theorem wpc_end {α : Type} {a : α} {Q : α → sProp 𝕄} {P : sProp 𝕄} (h : P ⊢ Q a) : P ⊢ wpc c (.ret a) Q := by
  unfold wpc; rw [wp_ret]
  iintro H; imodintro; iapply h; iexact H

end Cert.AllReduceIdeal

end
-- ==== Proof.Ideal.Waits.lean ====
/-
The waits, as steps of the device's state.

A wait for an arrival sorts what the message brings into rows to be sent on, places to send to and rows kept; a wait for
the end of a sending gives the rows back.  Either closes the cell, whose counter is back at zero.
-/
module

public import proofs.«01_k».proof.Proof.Ideal.State

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD)

/-! ## What an arrival brings -/

/-- The rows a message brings are the rows the messages it feeds leave from. -/
theorem feeds_rows : ∀ m : Fin 10, ∀ m' ∈ feeds m, ∀ (j : Fin 6) (c : Fin 8),
    m' ≠ 0 ∧ srcRow j m' c = srcRow j m (peer j m c) ∧ rows j m' = rows j m ∧ owner j m' c = owner j m (peer j m c) ∧ lvl m' = lvl m := by decide +kernel

/-- The rows message 1's sender hands over are the places of messages 4 and 5. -/
theorem opens_rows : ∀ (j : Fin 6) (c : Fin 8), rows j 1 = rows j 4 + rows j 5 ∧
    (srcRow j 4 c = srcRow j 1 (peer j 1 c) ∧ srcRow j 5 c = srcRow j 1 (peer j 1 c) + rows j 4
      ∨ srcRow j 5 c = srcRow j 1 (peer j 1 c) ∧ srcRow j 4 c = srcRow j 1 (peer j 1 c) + rows j 5) := by decide +kernel

omit [FloatOps F] in
/-- Rows owned are two runs of rows that follow one another. -/
theorem rowsAny_split (c : Dev nD) (a n n' : ℕ) : rowsAny (F := F) c a (n + n') ⊢ iprop(rowsAny c a n ∗ rowsAny c (a + n) n') := by
  unfold rowsAny
  iintro ⟨%f, H⟩
  rw [← oR_append]
  ihave H := (pointsTo_union (oR_disjoint (Or.inl (Nat.le_refl (a + n))))).1 $$ H
  icases H with ⟨H1, H2⟩
  isplitl [H1]; · iexists f; iexact H1
  iexists f; iexact H2

/-- Rows received, as rows to be sent on. -/
theorem got_src {j : Fin 6} {m m' : Fin 10} (hm : 3 ≤ m.val) (h : m' ∈ feeds m) {q : PosShare TreeShare} (hq : shr m' = q) :
    iprop(oLoc c ↦[oR (srcRow j m (peer j m c)) (rows j m)]{q} cont X j m (peer j m c)) = srcP X j m' c := by
  obtain ⟨h0, h1, h2, h3, h4⟩ := feeds_rows m m' h j c
  unfold srcP cont
  rw [if_neg h0, h1, h2, h3, h4, hq]

/-- What a message brings that is sent on once: the rows to be sent. -/
theorem feed_one {j : Fin 6} {m m' : Fin 10} (hm : 3 ≤ m.val) (h : feeds m = {m'}) (hq : shr m' = fullShare) (ho : opens m = ∅) (hk : keeps m = ∅) :
    gotP X j m c ⊢ iprop(bigSep (feeds m) (fun m => srcP X j m c) ∗ bigSep (opens m) (fun m => dstP (F := F) j m c) ∗ bigSep (keeps m) fun m => gotP X j m c) := by
  unfold gotP
  rw [if_neg (Nat.not_lt.mpr hm), got_src X c hm (h ▸ Finset.mem_singleton_self m') hq, h, ho, hk, bigSep_singleton, bigSep_empty, bigSep_empty]
  iintro H
  isplitl [H]; · iexact H
  isplitr <;> iempintro

/-- What a message brings that is not sent on: the rows kept. -/
theorem keep_one {j : Fin 6} {m : Fin 10} (h : feeds m = ∅) (ho : opens m = ∅) (hk : keeps m = {m}) :
    gotP X j m c ⊢ iprop(bigSep (feeds m) (fun m => srcP X j m c) ∗ bigSep (opens m) (fun m => dstP (F := F) j m c) ∗ bigSep (keeps m) fun m => gotP X j m c) := by
  rw [h, ho, hk, bigSep_singleton, bigSep_empty, bigSep_empty]
  iintro H
  isplitr; · iempintro
  isplitr; · iempintro
  iexact H

/-- The rows left by message 1 are where messages 4 and 5 go. -/
theorem open_one (j : Fin 6) : rowsAny (F := F) (peer j 1 c) (srcRow j 1 (peer j 1 c)) (rows j 1) ⊢ iprop(dstP j 4 c ∗ dstP j 5 c) := by
  obtain ⟨h0, h⟩ := opens_rows j c
  have e4 : (dstP j 4 c : sProp 𝕄) = rowsAny (peer j 1 c) (srcRow j 4 c) (rows j 4) := if_neg (by decide)
  have e5 : (dstP j 5 c : sProp 𝕄) = rowsAny (peer j 1 c) (srcRow j 5 c) (rows j 5) := if_neg (by decide)
  rw [e4, e5]
  rcases h with ⟨h1, h2⟩ | ⟨h1, h2⟩
  · rw [h0, ← h1, h2, ← h1]; exact rowsAny_split _ _ _ _
  · rw [h0, Nat.add_comm, ← h1, h2, ← h1]
    refine (rowsAny_split _ _ _ _).trans ?_
    iintro ⟨H1, H2⟩; isplitl [H2]; · iexact H2
    iexact H1

/-- The rows left by message 2 are where message 3 goes. -/
theorem open_two (j : Fin 6) : rowsAny (F := F) (peer j 2 c) (srcRow j 2 (peer j 2 c)) (rows j 2) = dstP j 3 c := by
  have e : (dstP j 3 c : sProp 𝕄) = rowsAny (peer j 2 c) (srcRow j 3 c) (rows j 3) := if_neg (by decide)
  rw [e, show srcRow j 3 c = srcRow j 2 (peer j 2 c) from (by decide +kernel : ∀ (j : Fin 6) (c : Fin 8), srcRow j 3 c = srcRow j 2 (peer j 2 c)) j c,
    show rows j 3 = rows j 2 from (by decide : ∀ j : Fin 6, rows j 3 = rows j 2) j]

/-- What an arrival brings, sorted: rows to be sent on, places to send to, rows kept. -/
theorem rcvPay_sort (j : Fin 6) (m : Fin 10) :
    rcvPay X j m c ⊢ iprop(bigSep (feeds m) (fun m => srcP X j m c) ∗ bigSep (opens m) (fun m => dstP (F := F) j m c) ∗ bigSep (keeps m) fun m => gotP X j m c) := by
  unfold rcvPay
  match m with
  | 0 => rw [if_neg (by decide)]; exact (sep_emp (PROP := sProp 𝕄)).1.trans (keep_one X c (by decide) (by decide) (by decide))
  | 1 =>
    rw [if_pos (by decide), show feeds 1 = ∅ by decide, show opens 1 = {4, 5} by decide, show keeps 1 = {1} by decide, bigSep_empty, bigSep_singleton,
      fam_insert (by decide), bigSep_singleton]
    iintro ⟨H, Ho⟩
    isplitr; · iempintro
    isplitl [Ho]; · iapply (open_one c j); iexact Ho
    iexact H
  | 2 =>
    rw [if_pos (by decide), show feeds 2 = ∅ by decide, show opens 2 = {3} by decide, show keeps 2 = {2} by decide, bigSep_empty, bigSep_singleton,
      bigSep_singleton, open_two]
    iintro ⟨H, Ho⟩
    isplitr; · iempintro
    isplitl [Ho]; · iexact Ho
    iexact H
  | 3 =>
    rw [if_neg (by decide), show feeds 3 = {5, 7} by decide, show opens 3 = ∅ by decide, show keeps 3 = ∅ by decide, bigSep_empty, bigSep_empty,
      fam_insert (by decide), bigSep_singleton, ← got_src X c (m := 3) (m' := 5) (by decide) (by decide) rfl,
      ← got_src X c (m := 3) (m' := 7) (by decide) (by decide) rfl]
    unfold gotP
    rw [if_neg (by decide)]
    iintro ⟨H, -⟩
    ihave H := (pointsTo_share (PosShare.mem_left_op_right fullShare)).1 $$ H
    icases H with ⟨H1, H2⟩
    isplitl [H1 H2]
    · isplitl [H1]; · iexact H1
      iexact H2
    isplitr <;> iempintro
  | 4 => rw [if_neg (by decide)]; exact (sep_emp (PROP := sProp 𝕄)).1.trans (feed_one X c (m' := 8) (by decide) (by decide) rfl (by decide) (by decide))
  | 5 => rw [if_neg (by decide)]; exact (sep_emp (PROP := sProp 𝕄)).1.trans (feed_one X c (m' := 9) (by decide) (by decide) rfl (by decide) (by decide))
  | 6 => rw [if_neg (by decide)]; exact (sep_emp (PROP := sProp 𝕄)).1.trans (keep_one X c (by decide) (by decide) (by decide))
  | 7 => rw [if_neg (by decide)]; exact (sep_emp (PROP := sProp 𝕄)).1.trans (keep_one X c (by decide) (by decide) (by decide))
  | 8 => rw [if_neg (by decide)]; exact (sep_emp (PROP := sProp 𝕄)).1.trans (keep_one X c (by decide) (by decide) (by decide))
  | 9 => rw [if_neg (by decide)]; exact (sep_emp (PROP := sProp 𝕄)).1.trans (keep_one X c (by decide) (by decide) (by decide))

/-- What comes back with the end of a sending. -/
theorem sndPay_sort (j : Fin 6) (m : Fin 10) : sndPay X j m c = bigSep (backs m) fun m => srcP X j m c := by
  unfold sndPay backs
  by_cases h : m = 1 ∨ m = 2
  · rw [if_pos h, if_pos h, bigSep_empty]; rfl
  · rw [if_neg h, if_neg h, bigSep_singleton]

/-! ## The waits -/

/-- A device may wait for message `m` once it owes only later messages. -/
theorem mayWait_rcv (T : Fin 6 → Finset (Fin 10)) (j : Fin 6) (m : Fin 10) (h : ∀ j', ∀ m' ∈ T j', m < m') :
    (levAts L lv : sProp 𝕄) ⊢ MayWait (c : Thread nD τ) (.dma (rcvS j m)) () (owed T c) :=
  mayWait_below c _ _ fun g u hg => by
    obtain ⟨j', m', hm', rfl⟩ := owed_pos hg
    refine ⟨rfl, ?_⟩
    show lvS (.dma (rcvS j m)) < lvS (.dma (rcvS j' m'))
    rw [lvS_rcv, lvS_rcv]
    exact Nat.add_lt_add_right (h j' m' hm') 2

/-- A device may always wait for the end of one of its own sendings. -/
theorem mayWait_snd (T : Fin 6 → Finset (Fin 10)) (j : Fin 6) (m : Fin 10) :
    (levAts L lv : sProp 𝕄) ⊢ MayWait (c : Thread nD τ) (.dma (sndS j m)) () (owed T c) :=
  mayWait_below c _ _ fun g u hg => by
    obtain ⟨j', m', hm', rfl⟩ := owed_pos hg
    refine ⟨rfl, ?_⟩
    show lvS (.dma (sndS j m)) < lvS (.dma (rcvS j' m'))
    rw [lvS_rcv, lvS_snd]
    omega

/-- The wait for message `m` of chunk `j` to arrive. -/
theorem step_wait {σ : Fin 6 → ℕ} {j : Fin 6} {m : Fin 10} {sm : DmaSem sig} {sp sp' : Space} {s s' : Shape} {e e' : EltTy}
    {src : Memref sig .tc sp' s' e'} {dst : Memref sig .tc sp s e} {hsrc : src.view.WordExact} {hdst : dst.view.WordExact}
    {α : Type} {Q : α → sProp 𝕄} {k : PUnit → Prog (TpuEff nD τ sig (Elt F) Λ₀ .tc) α} {R : sProp 𝕄}
    (ha : act (σ j) = some (.recv m)) (hlt : ∀ j', ∀ m' ∈ (held (σ j')).todo, m < m') (hS : sm = rcvS j m)
    (hn : dst.view.dmaCredit = cr j m) (hk : iprop(St X K c (adv σ j) ∗ R) ⊢ wpc c (k ⟨⟩) Q) :
    iprop(St X K c σ ∗ R) ⊢ wpc c (.op (.waitDma2 sm src dst hsrc hdst) k) Q := by
  subst hS
  have ok := held_ok ha
  have hexp : 0 + dst.view.dmaCredit = (sched X).expect (rcvCell c j m) 0 := by rw [Nat.zero_add, expect_rcv, hn]
  rw [St_eq X K c σ j, chunk_recv_take X c ok]
  unfold waitP owes' ctx
  iintro ⟨⟨⟨#Hrec, #Hlev⟩, ⟨%W, HO⟩, ⟨⟨Hat, Hc⟩, Hch⟩, Hoth⟩, HR⟩
  ihave HV := (record_rcv X K c j m) $$ Hrec
  icases HV with ⟨#HI, -⟩
  iapply (Rounds.wp_wait_rest_token 𝒱₀ ER (sched X) (c : Thread nD τ) none (κ := K (c, .inr (true, j, m)))
      (wpE_waitDma2_eq 𝒱₀ (c : Thread nD τ) none Set.univ) (Set.mem_univ _) () (O := owed (fun j' => (held (σ j')).todo) c) (W := W) (R := 0) (m := 0) (T := ∅)
      hexp) $$ [Hc HO Hat]
  · isplitr; · iexact HI
    isplitl [Hc]; · rw [hn]; iexact Hc
    isplitl [HO]; · iexact HO
    isplitr; · iapply (mayWait_rcv c _ j m hlt); iexact Hlev
    iexact Hat
  iintro ⟨HO, Hat, -, Hpay⟩
  ihave Hp := (Entails.of_eq (rest_rcv X c j m)) $$ Hpay
  ihave Hp := (rcvPay_sort X c j m) $$ Hp
  imod (Rounds.cell_close ER (sched X) (Set.mem_univ (K (c, .inr (true, j, m)))) (fun h => h) (R := 0 + 1) (duties_later X (rcvCell c j m))) $$ [Hat] with Hz
  · isplitr; · iexact HI
    iexact Hat
  iapply hk
  rw [St_adv X K c σ j ha, chunk_recv_put X c ok, owes_adv c σ j ha rfl]
  unfold cameP owes' ctx
  isplitr [HR]; rotate_left; · iexact HR
  isplitr
  · isplitr; · iexact Hrec
    iexact Hlev
  isplitl [HO]; · iexists _; iexact HO
  isplitr [Hoth]; rotate_left; · iexact Hoth
  isplitl [Hz]; · iexact Hz
  isplitl [Hp]; · iexact Hp
  iexact Hch

/-- The wait for the end of the sending of message `m` of chunk `j`. -/
theorem step_back {σ : Fin 6 → ℕ} {j : Fin 6} {m : Fin 10} {sm : DmaSem sig} {sp sp' : Space} {s s' : Shape} {e e' : EltTy}
    {src : Memref sig .tc sp' s' e'} {dst : Memref sig .tc sp s e} {hsrc : src.view.WordExact} {hdst : dst.view.WordExact}
    {α : Type} {Q : α → sProp 𝕄} {k : PUnit → Prog (TpuEff nD τ sig (Elt F) Λ₀ .tc) α} {R : sProp 𝕄}
    (ha : act (σ j) = some (.back m)) (hS : sm = sndS j m)
    (hn : dst.view.dmaCredit = cr j m) (hk : iprop(St X K c (adv σ j) ∗ R) ⊢ wpc c (k ⟨⟩) Q) :
    iprop(St X K c σ ∗ R) ⊢ wpc c (.op (.waitDma2 sm src dst hsrc hdst) k) Q := by
  subst hS
  have ok := held_ok ha
  have hexp : 0 + dst.view.dmaCredit = (sched X).expect (sndCell c j m) 0 := by rw [Nat.zero_add, expect_snd, hn]
  rw [St_eq X K c σ j, chunk_back_take X c ok]
  unfold flyP owes' ctx
  iintro ⟨⟨⟨#Hrec, #Hlev⟩, ⟨%W, HO⟩, ⟨⟨Hat, Hc⟩, Hch⟩, Hoth⟩, HR⟩
  ihave HV := (record_snd X K c j m) $$ Hrec
  icases HV with ⟨#HI, -⟩
  iapply (Rounds.wp_wait_rest_token 𝒱₀ ER (sched X) (c : Thread nD τ) none (κ := K (c, .inr (false, j, m)))
      (wpE_waitDma2_eq 𝒱₀ (c : Thread nD τ) none Set.univ) (Set.mem_univ _) () (O := owed (fun j' => (held (σ j')).todo) c) (W := W) (R := 0) (m := 0) (T := ∅)
      hexp) $$ [Hc HO Hat]
  · isplitr; · iexact HI
    isplitl [Hc]; · rw [hn]; iexact Hc
    isplitl [HO]; · iexact HO
    isplitr; · iapply (mayWait_snd c _ j m); iexact Hlev
    iexact Hat
  iintro ⟨HO, Hat, -, Hpay⟩
  ihave Hp := (Entails.of_eq ((rest_snd X c j m).trans (sndPay_sort X c j m))) $$ Hpay
  imod (Rounds.cell_close ER (sched X) (Set.mem_univ (K (c, .inr (false, j, m)))) (fun h => h) (R := 0 + 1) (duties_later X (sndCell c j m))) $$ [Hat] with Hz
  · isplitr; · iexact HI
    iexact Hat
  iapply hk
  rw [St_adv X K c σ j ha, chunk_back_put X c ok, owes_adv c σ j ha rfl]
  unfold doneP owes' ctx
  isplitr [HR]; rotate_left; · iexact HR
  isplitr
  · isplitr; · iexact Hrec
    iexact Hlev
  isplitl [HO]; · iexists _; iexact HO
  isplitr [Hoth]; rotate_left; · iexact Hoth
  isplitl [Hz]; · iexact Hz
  isplitl [Hp]; · iexact Hp
  iexact Hch

end Cert.AllReduceIdeal

end
-- ==== Proof.Ideal.Adds.lean ====
/-
The loads and the stores, as steps of the device's state.

An addition loads the rows a chunk keeps and the part received into its slot, and stores the sums; the rows then split into
those to be summed on and those to be sent.
-/
module

public import proofs.«01_k».proof.Proof.Ideal.State

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD)

/-- The message that brings the part of halving `k`. -/
abbrev msg (k : Fin 3) : Fin 10 := ⟨k.val, Nat.lt_trans k.isLt (by decide)⟩

/-- `v` is chunk `j`'s sums after halving `k`, on the rows kept. -/
def IsSum (j : Fin 6) (k : Fin 3) {n : ℕ} (v : (⟨2, ![n, 1024]⟩ : Shape).Idx → Elt F .f32) : Prop :=
  ∀ e (h : keep j k.val c + n ≤ 1024), v e = acc X j (k.val + 1) c (rowAt (keep j k.val c) e h)

/-- The sum of the operand block's rows and the slot's is the sum after the first halving. -/
theorem sum_first (j : Fin 6) {n : ℕ} {ox : Fin 5 → ℕ} (hox : ox = ![0, 0, 0, keep j 0 c, 0]) {os : Fin 3 → ℕ} (hos : os = ![j.val, off j 0, 0])
    {h1} {h2} {hc1 : (⟨5, ![1, 1, 1, n, 1024]⟩ : Shape).ShapeCasts ⟨2, ![n, 1024]⟩} {hc2 : (⟨3, ![1, n, 1024]⟩ : Shape).ShapeCasts ⟨2, ![n, 1024]⟩}
    {w : (⟨2, ![n, 1024]⟩ : Shape).Idx → Elt F .f32}
    (hw : w = fun e => FloatOps.addf
      (shapeCast ⟨2, ![n, 1024]⟩ (xM.view.readAt (Elt F) (Rect.unit (s := S1x1x1x1024x1024) ox ![1, 1, 1, n, 1024] h1).toLoadRect (X c)) hc1 e)
      (shapeCast ⟨2, ![n, 1024]⟩ (rM.view.readAt (Elt F) (Rect.unit (s := S6x168x1024) os ![1, n, 1024] h2).toLoadRect (slotC X j 0 c)) hc2 e)) :
    IsSum X c j 0 w := by
  subst hox hos hw
  intro e h
  have h' : keep j 0 c + n ≤ 1024 := h
  exact congrArg₂ FloatOps.addf (xM_readAt (j := j) c h' e) (rM_read c h' e)

/-- The sum of the result's rows and the slot's is the sum after the next halving. -/
theorem sum_next (j : Fin 6) (k : Fin 3) {n : ℕ} {ox : Fin 2 → ℕ} (hox : ox = ![keep j k.val c, 0]) {os : Fin 3 → ℕ} (hos : os = ![j.val, off j k.val, 0])
    {h1} {h2} {hc1 : (⟨2, ![n, 1024]⟩ : Shape).ShapeCasts ⟨2, ![n, 1024]⟩} {hc2 : (⟨3, ![1, n, 1024]⟩ : Shape).ShapeCasts ⟨2, ![n, 1024]⟩}
    {w : (⟨2, ![n, 1024]⟩ : Shape).Idx → Elt F .f32}
    (hw : w = fun e => FloatOps.addf
      (shapeCast ⟨2, ![n, 1024]⟩ (oM.view.readAt (Elt F) (Rect.unit (s := S1024x1024) ox ![n, 1024] h1).toLoadRect (acc X j k.val c)) hc1 e)
      (shapeCast ⟨2, ![n, 1024]⟩ (rM.view.readAt (Elt F) (Rect.unit (s := S6x168x1024) os ![1, n, 1024] h2).toLoadRect (slotC X j k.val c)) hc2 e)) :
    IsSum X c j k w := by
  subst hox hos hw
  intro e h
  show FloatOps.addf _ _ = FloatOps.addf _ _
  rw [oM_readAt (acc X j k.val c) h e, rM_read c h e]

/-! ## The loads -/

/-- A device's chunk holds the operand rows it adds; -/
theorem chunk_x (j : Fin 6) (h : Held) : chunk X c j h = iprop((xLoc c ↦[xR (keep j 0 c) (len j 0)]{fullShare} X c) ∗ (midP X c j h.mid ∗ fams X c j h)) := rfl
/-- the rows it sums; -/
theorem chunk_mid (j : Fin 6) (h : Held) : chunk X c j h = iprop(midP X c j h.mid ∗ ((xLoc c ↦[xR (keep j 0 c) (len j 0)]{fullShare} X c) ∗ fams X c j h)) := by
  unfold chunk; ac_rfl
/-- and each part received. -/
theorem chunk_got (j : Fin 6) (h : Held) {m : Fin 10} (hm : m ∈ h.got) :
    chunk X c j h = iprop(gotP X j m c ∗ ((xLoc c ↦[xR (keep j 0 c) (len j 0)]{fullShare} X c) ∗ midP X c j h.mid ∗ fams X c j { h with got := h.got.erase m })) := by
  unfold chunk fams; dsimp only; rw [fam_erase hm]; ac_rfl

/-- The load of the operand rows a chunk keeps first. -/
theorem load_x {σ : Fin 6 → ℕ} (j : Fin 6) {n : ℕ} (hn : n = len j 0) {ox : Fin 5 → ℕ} (hox : ox = ![0, 0, 0, keep j 0 c, 0]) {h1} {hl}
    {α : Type} {Q : α → sProp 𝕄} {k : ((⟨5, ![1, 1, 1, n, 1024]⟩ : Shape).Idx → Elt F .f32) → Prog (TpuEff nD τ sig (Elt F) Λ₀ .tc) α} {R : sProp 𝕄}
    (hk : iprop(St X K c σ ∗ R) ⊢ wpc c (k (xM.view.readAt (Elt F) (Rect.unit (s := S1x1x1x1024x1024) ox ![1, 1, 1, n, 1024] h1).toLoadRect (X c))) Q) :
    iprop(St X K c σ ∗ R) ⊢ wpc c (.op (.load xM (Rect.unit (s := S1x1x1x1024x1024) ox ![1, 1, 1, n, 1024] h1).toLoadRect hl) k) Q := by
  subst hox hn
  rw [St_eq X K c σ j, chunk_x X c j] at *
  iintro ⟨⟨Hctx, HO, ⟨Hx, Hch⟩, Hoth⟩, HR⟩
  iapply (wp_load_rect (defs := defs₀ (F := F)) 𝒱₀ (c : Thread nD τ) none Set.univ (m := xM) (le_of_eq (xM_access (h := h1)))) $$ Hx
  iintro Hx
  iapply hk
  isplitr [HR]; rotate_left; · iexact HR
  isplitl [Hctx]; · iexact Hctx
  isplitl [HO]; · iexact HO
  isplitr [Hoth]; rotate_left; · iexact Hoth
  isplitl [Hx] <;> iassumption

/-- The load of a slot a part has come into. -/
theorem load_slot {σ : Fin 6 → ℕ} (j : Fin 6) (k : Fin 3) (hg : msg k ∈ (held (σ j)).got) {n : ℕ} (hn : n = len j k.val)
    {os : Fin 3 → ℕ} (hos : os = ![j.val, off j k.val, 0]) {h1} {hl}
    {α : Type} {Q : α → sProp 𝕄} {p : ((⟨3, ![1, n, 1024]⟩ : Shape).Idx → Elt F .f32) → Prog (TpuEff nD τ sig (Elt F) Λ₀ .tc) α} {R : sProp 𝕄}
    (hk : iprop(St X K c σ ∗ R) ⊢ wpc c (p (rM.view.readAt (Elt F) (Rect.unit (s := S6x168x1024) os ![1, n, 1024] h1).toLoadRect (slotC X j k.val c))) Q) :
    iprop(St X K c σ ∗ R) ⊢ wpc c (.op (.load rM (Rect.unit (s := S6x168x1024) os ![1, n, 1024] h1).toLoadRect hl) p) Q := by
  subst hos hn
  have e : gotP X j (msg k) c = iprop(rLoc c ↦[rR j.val (off j k.val) (len j k.val)]{fullShare} slotC X j k.val c) := if_pos k.isLt
  have es : St X K c σ = _ := (St_eq X K c σ j).trans (congrArg (fun A => iprop(ctx X K ∗ owes' c σ ∗ A ∗ others X c σ j))
    ((chunk_got X c j _ hg).trans (congrArg (fun A => iprop(A ∗ ((xLoc c ↦[xR (keep j 0 c) (len j 0)]{fullShare} X c) ∗ midP X c j (held (σ j)).mid
      ∗ fams X c j { held (σ j) with got := (held (σ j)).got.erase (msg k) }))) e)))
  rw [es] at hk ⊢
  iintro ⟨⟨Hctx, HO, ⟨Hx, Hch⟩, Hoth⟩, HR⟩
  iapply (wp_load_rect (defs := defs₀ (F := F)) 𝒱₀ (c : Thread nD τ) none Set.univ (m := rM) (le_of_eq (rM_access (h := h1)))) $$ Hx
  iintro Hx
  iapply hk
  isplitr [HR]; rotate_left; · iexact HR
  isplitl [Hctx]; · iexact Hctx
  isplitl [HO]; · iexact HO
  isplitr [Hoth]; rotate_left; · iexact Hoth
  isplitl [Hx] <;> iassumption

/-- After the first halving they hold the sums so far. -/
theorem midP_sum (j : Fin 6) (k : Fin 3) (h : k ≠ 0) : midP X c j k.val = iprop(oLoc c ↦[oR (keep j k.val c) (len j k.val)]{fullShare} acc X j k.val c) := by
  match k with
  | 0 => exact absurd rfl h
  | 1 => rfl
  | 2 => rfl

/-- The rows being summed, whatever they hold. -/
theorem midP_out (j : Fin 6) (k : Fin 3) : midP X c j k.val ⊢ iprop(∃ f, oLoc c ↦[oR (keep j k.val c) (len j k.val)]{fullShare} f) := by
  by_cases h : k = 0
  · subst h; exact Entails.of_eq rfl
  · rw [midP_sum X c j k h]; iintro H; iexists _; iexact H

/-- The load of the rows being summed, holding the sums so far; -/
theorem load_sum {σ : Fin 6 → ℕ} (j : Fin 6) (k : Fin 3) (h0 : k ≠ 0) (hm : (held (σ j)).mid = k.val) {n : ℕ} (hn : n = len j k.val)
    {ox : Fin 2 → ℕ} (hox : ox = ![keep j k.val c, 0]) {h1} {hl}
    {α : Type} {Q : α → sProp 𝕄} {p : ((⟨2, ![n, 1024]⟩ : Shape).Idx → Elt F .f32) → Prog (TpuEff nD τ sig (Elt F) Λ₀ .tc) α} {R : sProp 𝕄}
    (hk : iprop(St X K c σ ∗ R) ⊢ wpc c (p (oM.view.readAt (Elt F) (Rect.unit (s := S1024x1024) ox ![n, 1024] h1).toLoadRect (acc X j k.val c))) Q) :
    iprop(St X K c σ ∗ R) ⊢ wpc c (.op (.load oM (Rect.unit (s := S1024x1024) ox ![n, 1024] h1).toLoadRect hl) p) Q := by
  subst hox hn
  rw [St_eq X K c σ j, chunk_mid X c j, hm, midP_sum X c j k h0] at *
  iintro ⟨⟨Hctx, HO, ⟨Hx, Hch⟩, Hoth⟩, HR⟩
  iapply (wp_load_rect (defs := defs₀ (F := F)) 𝒱₀ (c : Thread nD τ) none Set.univ (m := oM) (le_of_eq (oM_access (h := h1)))) $$ Hx
  iintro Hx
  iapply hk
  isplitr [HR]; rotate_left; · iexact HR
  isplitl [Hctx]; · iexact Hctx
  isplitl [HO]; · iexact HO
  isplitr [Hoth]; rotate_left; · iexact Hoth
  isplitl [Hx] <;> iassumption

/-- and the load whose value is not used. -/
theorem load_dead {σ : Fin 6 → ℕ} (j : Fin 6) (k : Fin 3) (hm : (held (σ j)).mid = k.val) {n : ℕ} (hn : n = len j k.val)
    {ox : Fin 2 → ℕ} (hox : ox = ![keep j k.val c, 0]) {h1} {hl}
    {α : Type} {Q : α → sProp 𝕄} {p : ((⟨2, ![n, 1024]⟩ : Shape).Idx → Elt F .f32) → Prog (TpuEff nD τ sig (Elt F) Λ₀ .tc) α} {R : sProp 𝕄}
    (hk : ∀ v, iprop(St X K c σ ∗ R) ⊢ wpc c (p v) Q) :
    iprop(St X K c σ ∗ R) ⊢ wpc c (.op (.load oM (Rect.unit (s := S1024x1024) ox ![n, 1024] h1).toLoadRect hl) p) Q := by
  by_cases h0 : k = 0
  · subst h0 hox hn
    have e : midP X c j (0 : Fin 3).val = iprop(∃ f, oLoc c ↦[oR (keep j (0 : Fin 3).val c) (len j (0 : Fin 3).val)]{fullShare} f) := rfl
    have e0 := e
    rw [St_eq X K c σ j, chunk_mid X c j, hm] at *
    rw [e]
    iintro ⟨⟨Hctx, HO, ⟨⟨%f, Hx⟩, Hch⟩, Hoth⟩, HR⟩
    iapply (wp_load_rect (defs := defs₀ (F := F)) 𝒱₀ (c : Thread nD τ) none Set.univ (m := oM) (le_of_eq (oM_access (h := h1)))) $$ Hx
    iintro Hx
    iapply hk
    isplitr [HR]; rotate_left; · iexact HR
    isplitl [Hctx]; · iexact Hctx
    isplitl [HO]; · iexact HO
    isplitr [Hoth]; rotate_left; · iexact Hoth
    isplitl [Hx]; · iapply (Entails.of_eq e0.symm); iexists f; iexact Hx
    iexact Hch
  · exact load_sum X K c j k h0 hm hn hox (hk _)

/-! ## The store -/

/-- The rows the additions leave: the sums so far, to be summed on or to be sent. -/
theorem sum_halves : ∀ (j : Fin 6) (c : Fin 8), ∀ k : Fin 2, len j k.val = len j (k.val + 1) + len j (k.val + 1) ∧
    (keep j (k.val + 1) c = keep j k.val c ∧ keep j (k.val + 1) (mate j (k.val + 1) c) = keep j k.val c + len j (k.val + 1)
      ∨ keep j (k.val + 1) (mate j (k.val + 1) c) = keep j k.val c ∧ keep j (k.val + 1) c = keep j k.val c + len j (k.val + 1)) := by decide +kernel

/-- Rows owned are the two halves of them owned, whichever comes first. -/
theorem pts_halves (f : OBuf F) (a b d n n' : ℕ) (hn : n = n' + n') (h : b = a ∧ d = a + n' ∨ d = a ∧ b = a + n') :
    iprop(oLoc c ↦[oR a n]{fullShare} f : sProp 𝕄) ⊢ iprop((oLoc c ↦[oR b n']{fullShare} f) ∗ (oLoc c ↦[oR d n']{fullShare} f)) := by
  subst hn
  rw [← oR_append]
  rcases h with ⟨rfl, rfl⟩ | ⟨rfl, rfl⟩
  · exact (pointsTo_union (oR_disjoint (Or.inl (Nat.le_refl _)))).1
  · refine (pointsTo_union (oR_disjoint (Or.inl (Nat.le_refl _)))).1.trans ?_
    iintro ⟨H1, H2⟩; isplitl [H2]; · iexact H2
    iexact H1

/-- The rows an addition has written are rows to be sent, and rows kept for the next addition. -/
theorem made (j : Fin 6) (k : Fin 3) :
    iprop(oLoc c ↦[oR (keep j k.val c) (len j k.val)]{fullShare} acc X j (k.val + 1) c) ⊢ iprop(midP X c j (k.val + 1) ∗ bigSep (makes k) fun m => srcP X j m c) := by
  match k with
  | 0 =>
    rw [show makes 0 = {1} by decide, bigSep_singleton]
    obtain ⟨h1, h2⟩ := sum_halves j c 0
    exact pts_halves c _ _ _ _ _ _ h1 h2
  | 1 =>
    rw [show makes 1 = {2} by decide, bigSep_singleton]
    obtain ⟨h1, h2⟩ := sum_halves j c 1
    exact pts_halves c _ _ _ _ _ _ h1 h2
  | 2 =>
    rw [show makes 2 = {3, 4, 6} by decide, fam_insert (by decide), fam_insert (by decide), bigSep_singleton]
    have e3 : srcP X j 3 c = iprop(oLoc c ↦[oR (keep j 2 c) (len j 2)]{(fullShare : PosShare TreeShare).left} acc X j 3 c) := if_neg (by decide)
    have e4 : srcP X j 4 c = iprop(oLoc c ↦[oR (keep j 2 c) (len j 2)]{(fullShare : PosShare TreeShare).right.left} acc X j 3 c) := if_neg (by decide)
    have e6 : srcP X j 6 c = iprop(oLoc c ↦[oR (keep j 2 c) (len j 2)]{(fullShare : PosShare TreeShare).right.right} acc X j 3 c) := if_neg (by decide)
    rw [e3, e4, e6]
    show _ ⊢ iprop(emp ∗ _)
    iintro H
    ihave H := (pointsTo_share (PosShare.mem_left_op_right fullShare)).1 $$ H
    icases H with ⟨H1, H2⟩
    ihave H2 := (pointsTo_share (PosShare.mem_left_op_right (fullShare : PosShare TreeShare).right)).1 $$ H2
    icases H2 with ⟨H2, H3⟩
    isplitr; · iempintro
    isplitl [H1]; · iexact H1
    isplitl [H2]; · iexact H2
    iexact H3

/-- The store of the sums after halving `k`. -/
theorem step_add {σ : Fin 6 → ℕ} {j : Fin 6} {k : Fin 3} (ha : act (σ j) = some (.add k)) {n : ℕ} (hn : n = len j k.val)
    {ox : Fin 2 → ℕ} (hox : ox = ![keep j k.val c, 0]) {h1} {w : (⟨2, ![n, 1024]⟩ : Shape).Idx → Elt F .f32} (hw : IsSum X c j k w) {hst} {hmk}
    {α : Type} {Q : α → sProp 𝕄} {p : PUnit → Prog (TpuEff nD τ sig (Elt F) Λ₀ .tc) α} {R : sProp 𝕄}
    (hk : iprop(St X K c (adv σ j) ∗ R) ⊢ wpc c (p ⟨⟩) Q) :
    iprop(St X K c σ ∗ R) ⊢ wpc c (.op (.store oM (Rect.unit (s := S1024x1024) ox ![n, 1024] h1) w Finset.univ hst hmk) p) Q := by
  subst hox hn
  have ok := held_ok ha
  have hkp : keep j k.val c + len j k.val ≤ 1024 := keep_lt k j c
  have hs : (oM.access (Rect.unit (s := S1024x1024) ![keep j k.val c, 0] ![len j k.val, 1024] h1)).setOn Finset.univ
      ⊆ oR (keep j k.val c) (len j k.val) := le_of_eq ((View.setOn_univ _).trans oM_access)
  rw [St_eq X K c σ j, chunk_add_take X c ok]
  iintro ⟨⟨Hctx, HO, ⟨Hm, Hch⟩, Hoth⟩, HR⟩
  ihave Hm := (midP_out X c j k) $$ Hm
  icases Hm with ⟨%f, Hm⟩
  iapply (wp_store (defs := defs₀ (F := F)) 𝒱₀ (c : Thread nD τ) none Set.univ (m := oM) hs) $$ Hm
  iintro Hm
  ihave Hm := (Entails.of_eq (pointsTo_congr (oM_write (pf := fun _ => rfl) f w (acc X j (k.val + 1) c) hkp fun e => hw e hkp))) $$ Hm
  ihave Hm := (made X c j k) $$ Hm
  iapply hk
  rw [St_adv X K c σ j ha, chunk_add_put X c ok, owes_adv c σ j ha rfl]
  isplitr [HR]; rotate_left; · iexact HR
  isplitl [Hctx]; · iexact Hctx
  isplitl [HO]; · iexact HO
  isplitr [Hoth]; rotate_left; · iexact Hoth
  isplitl [Hm]; · iexact Hm
  iexact Hch

end Cert.AllReduceIdeal

end
-- ==== Proof.Ideal.Splits.lean ====
/-
The three buffers cut into the rows of the six chunks, each chunk's rows into the halves, quarters and eighths its
messages carry, and put together again.
-/
module

public import proofs.«01_k».proof.Proof.Ideal.Waits
public import proofs.«01_k».proof.Proof.Ideal.Adds

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Cuts
variable {ℓ : Loc nD τ sig} {q : PosShare TreeShare}

omit [FloatOps F] in
/-- A set of elements cut in two. -/
theorem cut_two {I J K : Finset (Idx ℓ)} {f : Buf (Elt F) ℓ} (hd : Disjoint J K) (hu : J ∪ K = I) :
    (ℓ ↦[I]{q} f : sProp 𝕄) = iprop((ℓ ↦[J]{q} f) ∗ ℓ ↦[K]{q} f) := by
  subst hu; exact BI.equiv_iff.mp ⟨(pointsTo_union hd).1, (pointsTo_union hd).2⟩

/-- The whole of a buffer cut by a family of sets. -/
theorem cut_all {T : Type} [Fintype T] {K : T → Finset (Idx ℓ)} {f : Buf (Elt F) ℓ} (hd : ∀ t t', t ≠ t' → Disjoint (K t) (K t'))
    (hc : ∀ i, ∃ t, i ∈ K t) : (ℓ ↦{q} f : sProp 𝕄) = bigSep Finset.univ fun t => ℓ ↦[K t]{q} f := by
  classical
  rw [← pointsTo_biUnion Finset.univ K fun t _ t' _ => hd t t']
  refine congrArg (fun I => (ℓ ↦[I]{q} f : sProp 𝕄)) (Finset.ext fun i => ?_)
  rw [Finset.mem_biUnion]
  exact ⟨fun _ => (hc i).imp fun t ht => ⟨Finset.mem_univ _, ht⟩, fun _ => Finset.mem_univ _⟩

omit [FloatOps F] in
/-- Two sets of elements holding anything, put together; -/
theorem any_join {I J K : Finset (Idx ℓ)} (hd : Disjoint J K) (hu : J ∪ K = I) :
    iprop((∃ f, ℓ ↦[J]{q} f) ∗ (∃ f, ℓ ↦[K]{q} f)) ⊢ (iprop(∃ f, ℓ ↦[I]{q} f) : sProp 𝕄) := by
  subst hu
  iintro ⟨⟨%f, H1⟩, ⟨%g, H2⟩⟩
  iexists _
  iapply (pointsTo_join hd)
  isplitl [H1]; · iexact H1
  iexact H2

/-- and a family of sets. -/
theorem any_all {T : Type} [Fintype T] [DecidableEq T] {K : T → Finset (Idx ℓ)} (f₀ : Buf (Elt F) ℓ) (hd : ∀ t t', t ≠ t' → Disjoint (K t) (K t'))
    (hc : ∀ i, ∃ t, i ∈ K t) : bigSep Finset.univ (fun t => iprop(∃ f, ℓ ↦[K t]{q} f)) ⊢ (iprop(∃ f, ℓ ↦{q} f) : sProp 𝕄) := by
  haveI : Nonempty (Buf (Elt F) ℓ) := ⟨f₀⟩
  refine (BI.bigSep_exists_pi Finset.univ fun t f => ℓ ↦[K t]{q} f).trans ?_
  iintro ⟨%fs, H⟩
  ihave H := (pointsTo_biUnion_join Finset.univ K fs f₀ fun t _ t' _ => hd t t') $$ H
  icases H with ⟨%g, -, H⟩
  iexists g
  have e : Finset.univ.biUnion K = Finset.univ := Finset.ext fun i => by
    rw [Finset.mem_biUnion]
    exact ⟨fun _ => Finset.mem_univ _, fun _ => (hc i).imp fun t ht => ⟨Finset.mem_univ _, ht⟩⟩
  rw [e]
  iexact H

end Cuts

/-! ## The chunks -/

/-- Two chunks have no row in common. -/
theorem base_disjoint : ∀ j j' : Fin 6, j ≠ j' → base j + (len j 0 + len j 0) ≤ base j' ∨ base j' + (len j' 0 + len j' 0) ≤ base j := by decide +kernel
/-- Every row is in some chunk. -/
theorem base_cover : ∀ r : Fin 1024, ∃ j, base j ≤ r.val ∧ r.val < base j + (len j 0 + len j 0) := by decide +kernel

/-- The operand block, cut into the chunks' halves a device keeps and those it sends; -/
theorem x_cut (c : Dev nD) (f : XBuf F) : (xLoc c ↦{fullShare} f : sProp 𝕄)
    = bigSep Finset.univ fun j => iprop((xLoc c ↦[xR (keep j 0 c) (len j 0)]{fullShare} f) ∗ xLoc c ↦[xR (keep j 0 (mate j 0 c)) (len j 0)]{fullShare} f) := by
  rw [cut_all (ℓ := xLoc c) (K := fun j : Fin 6 => xR (base j) (len j 0 + len j 0)) (f := f) (fun j j' h => xR_disjoint (base_disjoint j j' h))
    (fun i => (base_cover (i 3)).imp fun j hj => mem_xR.mpr hj)]
  refine bigSep_congr fun j _ => ?_
  rcases keep_first j c with ⟨h1, h2⟩ | ⟨h1, h2⟩
  · exact cut_two (xR_disjoint (Or.inl (by rw [h1, h2]))) (by rw [h1, h2, xR_append])
  · exact cut_two (xR_disjoint (Or.inr (by rw [h1, h2]))) (by rw [h1, h2, Finset.union_comm, xR_append])

/-- the result likewise. -/
theorem o_cut (p c : Dev nD) (f : OBuf F) : (oLoc p ↦{fullShare} f : sProp 𝕄)
    = bigSep Finset.univ fun j => iprop((oLoc p ↦[oR (keep j 0 c) (len j 0)]{fullShare} f) ∗ oLoc p ↦[oR (keep j 0 (mate j 0 c)) (len j 0)]{fullShare} f) := by
  rw [cut_all (ℓ := oLoc p) (K := fun j : Fin 6 => oR (base j) (len j 0 + len j 0)) (f := f) (fun j j' h => oR_disjoint (base_disjoint j j' h))
    (fun i => (base_cover (i 0)).imp fun j hj => mem_oR.mpr hj)]
  refine bigSep_congr fun j _ => ?_
  rcases keep_first j c with ⟨h1, h2⟩ | ⟨h1, h2⟩
  · exact cut_two (oR_disjoint (Or.inl (by rw [h1, h2]))) (by rw [h1, h2, oR_append])
  · exact cut_two (oR_disjoint (Or.inr (by rw [h1, h2]))) (by rw [h1, h2, Finset.union_comm, oR_append])

/-- The rows kept at one halving are those kept at the next by the device and by its partner. -/
theorem o_half (p c : Dev nD) (j : Fin 6) (k : Fin 2) (f : OBuf F) : (oLoc p ↦[oR (keep j k.val c) (len j k.val)]{fullShare} f : sProp 𝕄)
    = iprop((oLoc p ↦[oR (keep j (k.val + 1) c) (len j (k.val + 1))]{fullShare} f)
      ∗ oLoc p ↦[oR (keep j (k.val + 1) (mate j (k.val + 1) c)) (len j (k.val + 1))]{fullShare} f) := by
  obtain ⟨hn, h⟩ := sum_halves j c k
  rcases h with ⟨h1, h2⟩ | ⟨h1, h2⟩
  · exact cut_two (oR_disjoint (Or.inl (by rw [h1, h2]))) (by rw [h1, h2, oR_append, ← hn])
  · exact cut_two (oR_disjoint (Or.inr (by rw [h1, h2]))) (by rw [h1, h2, Finset.union_comm, oR_append, ← hn])

/-- The rows kept at the first halving are four blocks. -/
theorem o_quarters (p c : Dev nD) (j : Fin 6) (f : OBuf F) : (oLoc p ↦[oR (keep j 0 c) (len j 0)]{fullShare} f : sProp 𝕄)
    = iprop((oLoc p ↦[oR (keep j 2 c) (len j 2)]{fullShare} f) ∗ (oLoc p ↦[oR (keep j 2 (mate j 2 c)) (len j 2)]{fullShare} f)
      ∗ (oLoc p ↦[oR (keep j 2 (mate j 1 c)) (len j 2)]{fullShare} f) ∗ oLoc p ↦[oR (keep j 2 (mate j 1 (mate j 2 c))) (len j 2)]{fullShare} f) := by
  have e0 := o_half p c j 0 f
  have e1 := o_half p c j 1 f
  have e2 := o_half p (mate j 1 c) j 1 f
  have e3 : mate j 2 (mate j 1 c) = mate j 1 (mate j 2 c) := mate_comm j 2 1 c
  refine e0.trans ?_
  refine (congrArg (fun A => iprop(A ∗ _)) e1).trans ?_
  refine (congrArg (fun A => iprop(_ ∗ A)) e2).trans ?_
  rw [← e3]
  show iprop((_ ∗ _) ∗ (_ ∗ _)) = iprop(_ ∗ _ ∗ _ ∗ _)
  exact sep_assoc'.assoc _ _ _

/-! ## The slots -/

/-- The rows of a chunk's part of the receive buffer that no message uses. -/
def spare (j : Fin 6) (c : Dev nD) : sProp 𝕄 := iprop(∃ f, rLoc c ↦[rR j.val (7 * eighth j) (168 - 7 * eighth j)]{fullShare} f)

/-- A chunk's slots and its spare rows follow one another in the receive buffer. -/
theorem off_next : ∀ j : Fin 6, off j 0 = 0 ∧ off j 1 = len j 0 ∧ off j 2 = len j 0 + len j 1 ∧ 7 * eighth j = len j 0 + len j 1 + len j 2 ∧
    168 = len j 0 + len j 1 + len j 2 + (168 - 7 * eighth j) := by decide +kernel

/-- Two chunks' parts of the receive buffer have no row in common. -/
theorem slots_disjoint (j j' : Fin 6) (h : j ≠ j') : Disjoint (rR j.val 0 168) (rR j'.val 0 168) :=
  rR_disjoint fun h' => absurd (Fin.ext h') h
/-- Every row of the receive buffer is in some chunk's part. -/
theorem slots_cover (i : S6x168x1024.Idx) : ∃ j : Fin 6, i ∈ rR j.val 0 168 :=
  ⟨i 0, mem_rR.mpr ⟨rfl, Nat.zero_le _, by rw [Nat.zero_add]; exact (i 1).isLt⟩⟩

/-- A chunk's part of the receive buffer is its three slots and the spare rows. -/
theorem r_parts (j : Fin 6) : rR j.val 0 168 = rR j.val (off j 0) (len j 0) ∪ (rR j.val (off j 1) (len j 1)
    ∪ (rR j.val (off j 2) (len j 2) ∪ rR j.val (7 * eighth j) (168 - 7 * eighth j))) := by
  obtain ⟨h0, h1, h2, h3, h4⟩ := off_next j
  ext i
  simp only [Finset.mem_union, mem_rR]
  omega

/-- A chunk's slots and its spare rows have no row in common. -/
theorem r_apart (j : Fin 6) : Disjoint (rR j.val (off j 0) (len j 0)) (rR j.val (off j 1) (len j 1)
      ∪ (rR j.val (off j 2) (len j 2) ∪ rR j.val (7 * eighth j) (168 - 7 * eighth j)))
    ∧ Disjoint (rR j.val (off j 1) (len j 1)) (rR j.val (off j 2) (len j 2) ∪ rR j.val (7 * eighth j) (168 - 7 * eighth j))
    ∧ Disjoint (rR j.val (off j 2) (len j 2)) (rR j.val (7 * eighth j) (168 - 7 * eighth j)) := by
  obtain ⟨h0, h1, h2, h3, h4⟩ := off_next j
  simp only [Finset.disjoint_left, Finset.mem_union, mem_rR]
  refine ⟨?_, ?_, ?_⟩ <;> intro i _ _ <;> omega

/-- A chunk's part of the receive buffer, cut into its slots and the spare rows; -/
theorem r_cut_one (c : Dev nD) (j : Fin 6) (f : RBuf F) : (rLoc c ↦[rR j.val 0 168]{fullShare} f : sProp 𝕄)
    ⊢ iprop(slotAny (F := F) j 0 c ∗ slotAny j 1 c ∗ slotAny j 2 c ∗ spare j c) := by
  obtain ⟨d1, d2, d3⟩ := r_apart j
  rw [r_parts j]
  unfold slotAny spare
  iintro H
  ihave H := (Entails.of_eq (cut_two d1 rfl)) $$ H
  icases H with ⟨H1, H⟩
  ihave H := (Entails.of_eq (cut_two d2 rfl)) $$ H
  icases H with ⟨H2, H⟩
  ihave H := (Entails.of_eq (cut_two d3 rfl)) $$ H
  icases H with ⟨H3, H4⟩
  isplitl [H1]; · iexists f; iexact H1
  isplitl [H2]; · iexists f; iexact H2
  isplitl [H3]; · iexists f; iexact H3
  iexists f; iexact H4

/-- and joined again. -/
theorem r_join_one (c : Dev nD) (j : Fin 6) : iprop(slotAny (F := F) j 0 c ∗ slotAny j 1 c ∗ slotAny j 2 c ∗ spare j c)
    ⊢ (iprop(∃ f, rLoc c ↦[rR j.val 0 168]{fullShare} f) : sProp 𝕄) := by
  obtain ⟨d1, d2, d3⟩ := r_apart j
  unfold slotAny spare
  iintro ⟨H1, H2, H3, H4⟩
  ihave H := (any_join (ℓ := rLoc c) (F := F) d3 rfl) $$ [H3 H4]
  · isplitl [H3]; · iexact H3
    iexact H4
  ihave H := (any_join (ℓ := rLoc c) (F := F) d2 rfl) $$ [H2 H]
  · isplitl [H2]; · iexact H2
    iexact H
  iapply (any_join (ℓ := rLoc c) (F := F) d1 (r_parts j).symm)
  isplitl [H1]; · iexact H1
  iexact H

/-- The receive buffer cut into the chunks' slots; -/
theorem r_cut (c : Dev nD) (f : RBuf F) : (rLoc c ↦{fullShare} f : sProp 𝕄)
    ⊢ bigSep Finset.univ fun j => iprop(slotAny (F := F) j 0 c ∗ slotAny j 1 c ∗ slotAny j 2 c ∗ spare j c) :=
  (Entails.of_eq (cut_all (ℓ := rLoc c) (K := fun j : Fin 6 => rR j.val 0 168) (f := f) slots_disjoint slots_cover)).trans
    (bigSep_mono fun j _ => r_cut_one c j f)

/-- and put together again. -/
theorem r_join (c : Dev nD) (f₀ : RBuf F) : (bigSep Finset.univ fun j => iprop(slotAny (F := F) j 0 c ∗ slotAny j 1 c ∗ slotAny j 2 c ∗ spare j c))
    ⊢ (iprop(∃ f, rLoc c ↦{fullShare} f) : sProp 𝕄) :=
  BIBase.Entails.trans (bigSep_mono fun j _ => r_join_one c j)
    (any_all (ℓ := rLoc c) (K := fun j : Fin 6 => rR j.val 0 168) f₀ slots_disjoint slots_cover)

end Cert.AllReduceIdeal

end
-- ==== Proof.Ideal.Sends.lean ====
/-
Starting a message: the rule for a transfer, at the protocol's cells, for the three kinds of message.
-/
module

public import proofs.«01_k».proof.Proof.Ideal.State

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD)

/-- The rows of messages 1 and 2, whatever they hold. -/
theorem leaves_any {j : Fin 6} {m : Fin 10} (h : Leaves m) (c : Dev nD) : srcP X j m c ⊢ rowsAny c (srcRow j m c) (rows j m) := by
  unfold srcP rowsAny
  rcases h with rfl | rfl <;> (rw [if_neg (by decide)]; iintro H; iexists _; iexact H)

/-- Starting message `m` of chunk `j`, whatever the memrefs: what its source rows are (`hs`), what the place it goes to is
    (`hd`), and what that place holds once it has arrived (`hl`). -/
theorem send_core {σ : Fin 6 → ℕ} {j : Fin 6} {m : Fin 10} (ha : act (σ j) = some (.send m)) {P : Dev nD} (hP : P = peer j m c) {n : ℕ}
    {src : Memref sig .tc .vmem ⟨2, ![n, 1024]⟩ .f32} {dst : Memref sig (Dev.tc P : Thread nD τ).2.kind .vmem ⟨2, ![n, 1024]⟩ .f32}
    {sS sR : DmaSem sig} (hS : sS = sndS j m) (hR : sR = rcvS j m) (hn : dst.view.dmaCredit = cr j m)
    {hsc : dst.view.ref.isScScratch = false} {hsrc : src.view.WordExact} {hdst : dst.view.WordExact}
    {hsem : DmaTarget.Typed .vmem (.dma sR) (.remote (Dev.tc P : Thread nD τ) dst (.dma sS) hsc)}
    {α : Type} {Q : α → sProp 𝕄} {k : PUnit → Prog (TpuEff nD τ sig (Elt F) Λ₀ .tc) α} {R : sProp 𝕄}
    {q : PosShare TreeShare} {fs : Buf (Elt F) (src.view.loc (c : Thread nD τ))}
    (hs : srcP X j m c = iprop(src.view.loc (c : Thread nD τ) ↦[src.view.set]{q} fs))
    (hd : (dstP j m c : sProp 𝕄) = iprop(∃ fd, dst.view.loc (P : Thread nD τ) ↦[dst.view.set]{fullShare} fd))
    (hl : ∀ fd, iprop(dst.view.loc (P : Thread nD τ) ↦[dst.view.set]{fullShare} (dst.view.write (Elt F) fd (src.view.read (Elt F) fs) Finset.univ))
      ⊢ gotP X j m P)
    (hk : iprop(St X K c (adv σ j) ∗ R) ⊢ wpc c (k ⟨⟩) Q) :
    iprop(St X K c σ ∗ R) ⊢ wpc c (.op (.enqueueDma src (.remote (Dev.tc P : Thread nD τ) dst (.dma sS) hsc) (.dma sR) hsrc hdst hsem) k) Q := by
  subst hS hR
  have ok := held_ok ha
  have hdR : (0 : Fin 3) ∈ (sched X).duties (rcvCell P j m) 0 := by rw [duties_rcv]; exact Finset.mem_singleton_self _
  have hdS : (0 : Fin 3) ∈ (sched X).duties (sndCell c j m) 0 := by rw [duties_snd]; exact Finset.mem_singleton_self _
  have hO := owed_adv c σ j ha
  rw [← hP] at hO
  have hback : peer j m P = c := by rw [hP, peer_peer]
  rw [St_eq X K c σ j, chunk_send_take X c ok, hd]
  unfold todoP owes' ctx
  rw [← hP]
  iintro ⟨⟨⟨#Hrec, #Hlev⟩, ⟨%W, HO⟩, ⟨⟨⟨Hat, HtS, HtR⟩, Hs, ⟨%fd, Hd⟩⟩, Hch⟩, Hoth⟩, HR⟩
  ihave HS := (record_snd X K c j m) $$ Hrec
  icases HS with ⟨#HIS, #HrS⟩
  ihave HV := (record_rcv X K P j m) $$ Hrec
  icases HV with ⟨#HIR, #HrR⟩
  ihave Hs := (Entails.of_eq hs) $$ Hs
  by_cases hL : Leaves m
  · iapply (Rounds.wp_send_landing_pointsTo 𝒱₀ ER (sched X) (c : Thread nD τ) none (κ₁ := K (c, .inr (false, j, m))) (κ₂ := K (P, .inr (true, j, m)))
      (r₁ := 0) (r₂ := 0) (d₁ := 0) (d₂ := 0) (fd := fd) hdS hdR () () (cr j m) hn (amount_snd X c j m 0) (amount_rcv X P j m 0)
      (owed (fun j' => (held (adv σ j j')).todo) c) hO (W := W)
      (by rw [payload_snd]; unfold sndPay; rw [if_pos hL])
      (by
        rw [payload_rcv]; unfold rcvPay; rw [if_pos hL, hback, ← hs]
        exact BIClass.sep_mono (hl fd) (leaves_any X hL c))) $$ [HO HtS HtR Hs Hd]
    · isplitr; · iexact HIS
      isplitr; · iexact HIR
      isplitl [Hs]; · iexact Hs
      isplitl [Hd]; · iexact Hd
      isplitl [HO]; · iexact HO
      isplitl [HtS]; · iexact HtS
      isplitr; · iexact HrS
      isplitl [HtR]; · iexact HtR
      iexact HrR
    iintro ⟨Hc, HO⟩
    iapply hk
    rw [St_adv X K c σ j ha, chunk_send_put X c ok]
    unfold flyP owes' ctx
    isplitr [HR]; rotate_left; · iexact HR
    isplitr
    · isplitr; · iexact Hrec
      iexact Hlev
    isplitl [HO]; · iexists W; iexact HO
    isplitr [Hoth]; rotate_left; · iexact Hoth
    isplitr [Hch]; rotate_left; · iexact Hch
    isplitl [Hat] <;> iassumption
  · iapply (Rounds.wp_send_pointsTo 𝒱₀ ER (sched X) (c : Thread nD τ) none (κ₁ := K (c, .inr (false, j, m))) (κ₂ := K (P, .inr (true, j, m)))
      (r₁ := 0) (r₂ := 0) (d₁ := 0) (d₂ := 0) (fd := fd) hdS hdR () () (cr j m) hn (amount_snd X c j m 0) (amount_rcv X P j m 0)
      (owed (fun j' => (held (adv σ j j')).todo) c) hO (W := W)
      (by rw [payload_snd]; unfold sndPay; rw [if_neg hL, hs])
      (by
        rw [payload_rcv]; unfold rcvPay; rw [if_neg hL]
        exact (hl fd).trans (sep_emp (PROP := sProp 𝕄)).2)) $$ [HO HtS HtR Hs Hd]
    · isplitr; · iexact HIS
      isplitr; · iexact HIR
      isplitl [Hs]; · iexact Hs
      isplitl [Hd]; · iexact Hd
      isplitl [HO]; · iexact HO
      isplitl [HtS]; · iexact HtS
      isplitr; · iexact HrS
      isplitl [HtR]; · iexact HtR
      iexact HrR
    iintro ⟨Hc, HO⟩
    iapply hk
    rw [St_adv X K c σ j ha, chunk_send_put X c ok]
    unfold flyP owes' ctx
    isplitr [HR]; rotate_left; · iexact HR
    isplitr
    · isplitr; · iexact Hrec
      iexact Hlev
    isplitl [HO]; · iexists W; iexact HO
    isplitr [Hoth]; rotate_left; · iexact Hoth
    isplitr [Hch]; rotate_left; · iexact Hch
    isplitl [Hat] <;> iassumption

/-! ### The three kinds of message -/

/-- The partner's sums written into a slot. -/
theorem slot_lands {j : Fin 6} {m : Fin 10} (hm : m.val < 3) {P : Dev nD} {n : ℕ} (hn : n = len j m.val) (hkeep : keep j m.val P + n ≤ 1024)
    {h} {pf} {hs : (⟨3, ![1, n, 1024]⟩ : Shape).Squeezes ⟨2, ![n, 1024]⟩} (fd : RBuf F) (w : (⟨2, ![n, 1024]⟩ : Shape).Idx → Elt F .f32)
    (hw : ∀ e, w e = acc X j m.val (mate j m.val P) (rowAt (keep j m.val P) e hkeep)) :
    iprop(rLoc P ↦[((rM.slice (Rect.unit (s := S6x168x1024) ![j.val, off j m.val, 0] ![1, n, 1024] h) pf :
        Memref sig .tc .vmem ⟨3, ![1, n, 1024]⟩ .f32).squeeze ⟨2, ![n, 1024]⟩ hs).view.set]{fullShare}
      ((rM.slice (Rect.unit (s := S6x168x1024) ![j.val, off j m.val, 0] ![1, n, 1024] h) pf :
        Memref sig .tc .vmem ⟨3, ![1, n, 1024]⟩ .f32).squeeze ⟨2, ![n, 1024]⟩ hs).view.write (Elt F) fd w Finset.univ)
      ⊢ gotP X j m P := by
  unfold gotP
  rw [if_pos hm, ← hn]
  refine Entails.of_eq ?_
  refine (congrArg (fun I => (rLoc P ↦[I]{fullShare} _ : sProp 𝕄)) (rM_set (h := h) (pf := pf) (hs := hs))).trans ?_
  exact pointsTo_congr (rM_write P fd w hkeep hw)

/-- Message 0: rows of the operand block into a slot. -/
theorem step_send0 {σ : Fin 6 → ℕ} {j : Fin 6} (ha : act (σ j) = some (.send 0)) {P : Dev nD} (hP : P = mate j 0 c) {n : ℕ} (hn : n = len j 0)
    {ox : Fin 5 → ℕ} (hox : ox = ![0, 0, 0, keep j 0 (mate j 0 c), 0]) {or : Fin 3 → ℕ} (hor : or = ![j.val, off j 0, 0])
    {h1} {pf1} {hs1 : (⟨5, ![1, 1, 1, n, 1024]⟩ : Shape).Squeezes ⟨2, ![n, 1024]⟩} {h2} {pf2} {hs2 : (⟨3, ![1, n, 1024]⟩ : Shape).Squeezes ⟨2, ![n, 1024]⟩}
    {sS sR : DmaSem sig} (hS : sS = sndS j 0) (hR : sR = rcvS j 0)
    {hsc} {hsrc} {hdst} {hsem} {α : Type} {Q : α → sProp 𝕄} {k : PUnit → Prog (TpuEff nD τ sig (Elt F) Λ₀ .tc) α} {R : sProp 𝕄}
    (hk : iprop(St X K c (adv σ j) ∗ R) ⊢ wpc c (k ⟨⟩) Q) :
    iprop(St X K c σ ∗ R) ⊢ wpc c (.op (.enqueueDma
      ((xM.slice (Rect.unit (s := S1x1x1x1024x1024) ox ![1, 1, 1, n, 1024] h1) pf1 : Memref sig .tc .vmem ⟨5, ![1, 1, 1, n, 1024]⟩ .f32).squeeze ⟨2, ![n, 1024]⟩ hs1)
      (.remote (Dev.tc P : Thread nD τ) ((rM.slice (Rect.unit (s := S6x168x1024) or ![1, n, 1024] h2) pf2 :
        Memref sig .tc .vmem ⟨3, ![1, n, 1024]⟩ .f32).squeeze ⟨2, ![n, 1024]⟩ hs2) (.dma sS) hsc) (.dma sR) hsrc hdst hsem) k) Q := by
  subst hox hor hn hP
  have hkp : keep j 0 (mate j 0 c) + len j 0 ≤ 1024 := keep_lt 0 j (mate j 0 c)
  refine send_core X K c ha rfl hS hR rfl (q := fullShare) (fs := X c) ?_ ?_ (fun fd => ?_) hk
  · unfold srcP; rw [if_pos rfl]
    exact (congrArg (fun I => (xLoc c ↦[I]{fullShare} X c : sProp 𝕄)) xM_set.symm)
  · unfold dstP slotAny; rw [if_pos (show (0 : Fin 10).val < 3 by decide)]
    exact congrArg (fun I => (iprop(∃ f, rLoc (mate j 0 c) ↦[I]{fullShare} f) : sProp 𝕄)) rM_set.symm
  · exact slot_lands X (m := 0) (by decide) rfl hkp fd _ fun e =>
      (xM_read (X c) e hkp).trans (congrArg (fun d => X d (lift5 (rowAt (keep j 0 (mate j 0 c)) e hkp))) (mate_mate j 0 c).symm)

/-- Messages 1 and 2: rows of partial sums into a slot. -/
theorem step_send12 {σ : Fin 6 → ℕ} {j : Fin 6} {m : Fin 10} (ha : act (σ j) = some (.send m)) (hm : Leaves m) {P : Dev nD} (hP : P = mate j m.val c)
    {n : ℕ} (hn : n = len j m.val)
    {ox : Fin 2 → ℕ} (hox : ox = ![keep j m.val (mate j m.val c), 0]) {or : Fin 3 → ℕ} (hor : or = ![j.val, off j m.val, 0])
    {h1} {pf1} {h2} {pf2} {hs2 : (⟨3, ![1, n, 1024]⟩ : Shape).Squeezes ⟨2, ![n, 1024]⟩}
    {sS sR : DmaSem sig} (hS : sS = sndS j m) (hR : sR = rcvS j m)
    {hsc} {hsrc} {hdst} {hsem} {α : Type} {Q : α → sProp 𝕄} {k : PUnit → Prog (TpuEff nD τ sig (Elt F) Λ₀ .tc) α} {R : sProp 𝕄}
    (hk : iprop(St X K c (adv σ j) ∗ R) ⊢ wpc c (k ⟨⟩) Q) :
    iprop(St X K c σ ∗ R) ⊢ wpc c (.op (.enqueueDma
      (oM.slice (Rect.unit (s := S1024x1024) ox ![n, 1024] h1) pf1 : Memref sig .tc .vmem ⟨2, ![n, 1024]⟩ .f32)
      (.remote (Dev.tc P : Thread nD τ) ((rM.slice (Rect.unit (s := S6x168x1024) or ![1, n, 1024] h2) pf2 :
        Memref sig .tc .vmem ⟨3, ![1, n, 1024]⟩ .f32).squeeze ⟨2, ![n, 1024]⟩ hs2) (.dma sS) hsc) (.dma sR) hsrc hdst hsem) k) Q := by
  have hP' : P = peer j m c := by rw [hP]; rcases hm with rfl | rfl <;> rfl
  have hr : n = rows j m := by rw [hn]; rcases hm with rfl | rfl <;> rfl
  have hrow : srcRow j m c = keep j m.val (mate j m.val c) := by rcases hm with rfl | rfl <;> rfl
  have hlv : lvl m = m.val := by rcases hm with rfl | rfl <;> rfl
  have hown : owner j m c = c := by rcases hm with rfl | rfl <;> rfl
  have hshr : shr m = fullShare := by rcases hm with rfl | rfl <;> rfl
  have h0 : m ≠ 0 := by rcases hm with rfl | rfl <;> decide
  have h3 : m.val < 3 := by rcases hm with rfl | rfl <;> decide
  subst hox hor hn
  have hkp : keep j m.val (mate j m.val c) + len j m.val ≤ 1024 := keep_lt ⟨m.val, h3⟩ j (mate j m.val c)
  have hcr : RefSig.tileCredit ⟨2, ![len j m.val, 1024]⟩ .f32 = cr j m := by unfold cr; rw [hr]
  refine send_core X K c ha hP' hS hR hcr (q := fullShare) (fs := acc X j m.val c) ?_ ?_ (fun fd => ?_) hk
  · unfold srcP cont; rw [if_neg h0, hrow, ← hr, hshr, hlv, hown]
    exact (congrArg (fun I => (oLoc c ↦[I]{fullShare} acc X j m.val c : sProp 𝕄)) oM_set.symm)
  · unfold dstP slotAny; rw [if_pos h3, ← hP']
    exact congrArg (fun I => (iprop(∃ f, rLoc P ↦[I]{fullShare} f) : sProp 𝕄)) rM_set.symm
  · subst hP
    exact slot_lands X (m := m) h3 rfl hkp fd _ fun e => by
      rw [oM_read (acc X j m.val c) e hkp, mate_mate]

/-- Messages 3 to 9: a block of rows to the same rows of the partner. -/
theorem step_sendG {σ : Fin 6 → ℕ} {j : Fin 6} {m : Fin 10} (ha : act (σ j) = some (.send m)) (hm : 3 ≤ m.val) {P : Dev nD} (hP : P = peer j m c)
    {n : ℕ} (hn : n = rows j m) {ox : Fin 2 → ℕ} (hox : ox = ![srcRow j m c, 0])
    {h1} {pf1} {h2} {pf2} {sS sR : DmaSem sig} (hS : sS = sndS j m) (hR : sR = rcvS j m)
    {hsc} {hsrc} {hdst} {hsem} {α : Type} {Q : α → sProp 𝕄} {k : PUnit → Prog (TpuEff nD τ sig (Elt F) Λ₀ .tc) α} {R : sProp 𝕄}
    (hk : iprop(St X K c (adv σ j) ∗ R) ⊢ wpc c (k ⟨⟩) Q) :
    iprop(St X K c σ ∗ R) ⊢ wpc c (.op (.enqueueDma
      (oM.slice (Rect.unit (s := S1024x1024) ox ![n, 1024] h1) pf1 : Memref sig .tc .vmem ⟨2, ![n, 1024]⟩ .f32)
      (.remote (Dev.tc P : Thread nD τ) (oM.slice (Rect.unit (s := S1024x1024) ox ![n, 1024] h2) pf2 : Memref sig .tc .vmem ⟨2, ![n, 1024]⟩ .f32)
        (.dma sS) hsc) (.dma sR) hsrc hdst hsem) k) Q := by
  have h0 : m ≠ 0 := fun h => by rw [h] at hm; exact absurd hm (by decide)
  have h3 : ¬ m.val < 3 := Nat.not_lt.mpr hm
  subst hox hn
  have hkp : srcRow j m c + rows j m ≤ 1024 := srcRow_lt m j c hm
  refine send_core X K c ha hP hS hR rfl (q := shr m) (fs := cont X j m c) ?_ ?_ (fun fd => ?_) hk
  · unfold srcP; rw [if_neg h0]
    exact (congrArg (fun I => (oLoc c ↦[I]{shr m} cont X j m c : sProp 𝕄)) oM_set.symm)
  · unfold dstP rowsAny; rw [if_neg h3, ← hP]
    exact congrArg (fun I => (iprop(∃ f, oLoc P ↦[I]{fullShare} f) : sProp 𝕄)) oM_set.symm
  · have hback : peer j m P = c := by rw [hP, peer_peer]
    unfold gotP
    rw [if_neg h3, hback]
    refine Entails.of_eq ?_
    refine (congrArg (fun I => (oLoc P ↦[I]{fullShare} _ : sProp 𝕄)) oM_set).trans ?_
    exact pointsTo_congr (oM_write fd _ _ hkp fun e => oM_read (cont X j m c) e hkp)

end Cert.AllReduceIdeal

end
-- ==== Proof.Ideal.Offsets.lean ====
/-
The kernel's own words for partners and rows, evaluated: which device a computed device number is, and which row a
computed offset is. Each of the kernel's offsets is given by a table of constants, one entry for each chunk that uses it;
the tables with four entries serve the chunks 0 to 3, those with two the chunks 4 and 5.
-/
module

public import proofs.«01_k».proof.Proof.Ideal.State

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A chunk among the first four. -/
abbrev four (r : Fin 4) : Fin 6 := ⟨r.val, by omega⟩

/-- A chunk among the last two. -/
abbrev two (r : Fin 2) : Fin 6 := ⟨r.val + 4, by omega⟩

/-- The partner along the first axis. -/
theorem dev_x (c : Dev nD) {n : ℕ} {h : n < nD} (e : n = (2 * ((c.val / 2) % 2) + (c.val % 2) + 4) - 4 * (c.val / 4)) : (⟨n, h⟩ : Dev nD) = flip 0 c := by
  subst e; revert c; decide +kernel

/-- The partner along the second axis. -/
theorem dev_y (c : Dev nD) {n : ℕ} {h : n < nD} (e : n = (4 * (c.val / 4) + (c.val % 2) + 2) - 2 * ((c.val / 2) % 2)) : (⟨n, h⟩ : Dev nD) = flip 1 c := by
  subst e; revert c; decide +kernel

/-- The partner along the third axis. -/
theorem dev_z (c : Dev nD) {n : ℕ} {h : n < nD} (e : n = (4 * (c.val / 4) + 2 * ((c.val / 2) % 2) + 1) - (c.val % 2)) : (⟨n, h⟩ : Dev nD) = flip 2 c := by
  subst e; revert c; decide +kernel

/-! ## Offsets

In the order of the kernel's text: the rows sent first, kept first and read from the input, kept first and summed; the
rows sent second, kept second; sent third; kept third; a device's own block; its second partner's block; the block of
the second partner of its third partner. -/

/-- Where the kernel finds the rows sent first, of chunks 0 to 3. -/
theorem off1 : ∀ (r : Fin 4) (c : Dev nD), k0_off1 c (k0_off1_at r).1 (k0_off1_at r).2 = ![0, 0, 0, keep (four r) 0 (mate (four r) 0 c), 0] := by decide +kernel
/-- Where the kernel finds the rows sent first, of chunks 4 and 5. -/
theorem off2 : ∀ (r : Fin 2) (c : Dev nD), k0_off2 c (k0_off2_at r).1 (k0_off2_at r).2 = ![0, 0, 0, keep (two r) 0 (mate (two r) 0 c), 0] := by decide +kernel
/-- Where the kernel finds the rows kept first and read from the operand block, of chunks 0 to 3. -/
theorem off3 : ∀ (r : Fin 4) (c : Dev nD), k0_off3 c (k0_off3_at r).1 (k0_off3_at r).2 = ![0, 0, 0, keep (four r) 0 c, 0] := by decide +kernel
/-- Where the kernel finds the rows kept first and summed, of chunks 0 to 3. -/
theorem off4 : ∀ (r : Fin 4) (c : Dev nD), k0_off4 c (k0_off4_at r).1 (k0_off4_at r).2 = ![keep (four r) 0 c, 0] := by decide +kernel
/-- Where the kernel finds the rows sent second, of chunks 0 to 3. -/
theorem off5 : ∀ (r : Fin 4) (c : Dev nD), k0_off5 c (k0_off5_at r).1 (k0_off5_at r).2.1 (k0_off5_at r).2.2 = ![keep (four r) 1 (mate (four r) 1 c), 0] := by decide +kernel
/-- Where the kernel finds the rows kept first and read from the operand block, of chunks 4 and 5. -/
theorem off6 : ∀ (r : Fin 2) (c : Dev nD), k0_off6 c (k0_off6_at r).1 (k0_off6_at r).2 = ![0, 0, 0, keep (two r) 0 c, 0] := by decide +kernel
/-- Where the kernel finds the rows kept first and summed, of chunks 4 and 5. -/
theorem off7 : ∀ (r : Fin 2) (c : Dev nD), k0_off7 c (k0_off7_at r).1 (k0_off7_at r).2 = ![keep (two r) 0 c, 0] := by decide +kernel
/-- Where the kernel finds the rows sent second, of chunks 4 and 5. -/
theorem off8 : ∀ (r : Fin 2) (c : Dev nD), k0_off8 c (k0_off8_at r).1 (k0_off8_at r).2.1 (k0_off8_at r).2.2 = ![keep (two r) 1 (mate (two r) 1 c), 0] := by decide +kernel
/-- Where the kernel finds the rows kept second, of chunks 0 to 3. -/
theorem off9 : ∀ (r : Fin 4) (c : Dev nD), k0_off9 c (k0_off9_at r).1 (k0_off9_at r).2.1 (k0_off9_at r).2.2 = ![keep (four r) 1 c, 0] := by decide +kernel
/-- Where the kernel finds the rows sent third, of chunks 0 to 3. -/
theorem off10 : ∀ (r : Fin 4) (c : Dev nD), k0_off10 c (k0_off10_at r).1 (k0_off10_at r).2.1 (k0_off10_at r).2.2.1 (k0_off10_at r).2.2.2 = ![keep (four r) 2 (mate (four r) 2 c), 0] := by decide +kernel
/-- Where the kernel finds the rows kept second, of chunks 4 and 5. -/
theorem off11 : ∀ (r : Fin 2) (c : Dev nD), k0_off11 c (k0_off11_at r).1 (k0_off11_at r).2.1 (k0_off11_at r).2.2 = ![keep (two r) 1 c, 0] := by decide +kernel
/-- Where the kernel finds the rows sent third, of chunks 4 and 5. -/
theorem off12 : ∀ (r : Fin 2) (c : Dev nD), k0_off12 c (k0_off12_at r).1 (k0_off12_at r).2.1 (k0_off12_at r).2.2.1 (k0_off12_at r).2.2.2 = ![keep (two r) 2 (mate (two r) 2 c), 0] := by decide +kernel
/-- Where the kernel finds the rows kept third, of chunks 0 to 3. -/
theorem off13 : ∀ (r : Fin 4) (c : Dev nD), k0_off13 c (k0_off13_at r).1 (k0_off13_at r).2.1 (k0_off13_at r).2.2.1 (k0_off13_at r).2.2.2 = ![keep (four r) 2 c, 0] := by decide +kernel
/-- Where the kernel finds the device's own block, of chunks 0 to 3. -/
theorem off14 : ∀ (r : Fin 4) (c : Dev nD), k0_off14 c (k0_off14_at r).1 (k0_off14_at r).2.1 (k0_off14_at r).2.2.1 (k0_off14_at r).2.2.2 = ![keep (four r) 2 c, 0] := by decide +kernel
/-- Where the kernel finds the rows kept third, of chunks 4 and 5. -/
theorem off15 : ∀ (r : Fin 2) (c : Dev nD), k0_off15 c (k0_off15_at r).1 (k0_off15_at r).2.1 (k0_off15_at r).2.2.1 (k0_off15_at r).2.2.2 = ![keep (two r) 2 c, 0] := by decide +kernel
/-- Where the kernel finds the device's own block, of chunks 4 and 5. -/
theorem off16 : ∀ (r : Fin 2) (c : Dev nD), k0_off16 c (k0_off16_at r).1 (k0_off16_at r).2.1 (k0_off16_at r).2.2.1 (k0_off16_at r).2.2.2 = ![keep (two r) 2 c, 0] := by decide +kernel
/-- Where the kernel finds the block of the second partner, of chunks 0 to 3. -/
theorem off17 : ∀ (r : Fin 4) (c : Dev nD), k0_off17 c (k0_off17_at r).1 (k0_off17_at r).2.1 (k0_off17_at r).2.2.1 (k0_off17_at r).2.2.2 = ![keep (four r) 2 (mate (four r) 1 c), 0] := by decide +kernel
/-- Where the kernel finds the block of the second partner, of chunks 4 and 5. -/
theorem off18 : ∀ (r : Fin 2) (c : Dev nD), k0_off18 c (k0_off18_at r).1 (k0_off18_at r).2.1 (k0_off18_at r).2.2.1 (k0_off18_at r).2.2.2 = ![keep (two r) 2 (mate (two r) 1 c), 0] := by decide +kernel
/-- Where the kernel finds the block of the third partner's second partner, of chunks 0 to 3. -/
theorem off19 : ∀ (r : Fin 4) (c : Dev nD), k0_off19 c (k0_off19_at r).1 (k0_off19_at r).2.1 (k0_off19_at r).2.2.1 (k0_off19_at r).2.2.2 = ![keep (four r) 2 (mate (four r) 1 (mate (four r) 2 c)), 0] := by decide +kernel
/-- Where the kernel finds the block of the third partner's second partner, of chunks 4 and 5. -/
theorem off20 : ∀ (r : Fin 2) (c : Dev nD), k0_off20 c (k0_off20_at r).1 (k0_off20_at r).2.1 (k0_off20_at r).2.2.1 (k0_off20_at r).2.2.2 = ![keep (two r) 2 (mate (two r) 1 (mate (two r) 2 c)), 0] := by decide +kernel

end Cert.AllReduceIdeal

end
-- ==== Proof.Ideal.Runs.lean ====
/-
What it is for a stretch of the program to take the six chunks from one stage of their work to another.
-/
module

public import proofs.«01_k».proof.Proof.Ideal.Sends
public import proofs.«01_k».proof.Proof.Ideal.Waits
public import proofs.«01_k».proof.Proof.Ideal.Adds
public import proofs.«01_k».proof.Proof.Ideal.Offsets
public import proofs.«01_k».proof.Proof.Gen.KernelIdeal.Skeleton

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD)

/-- Run on device `c` from the holdings at progress `σ`, a program returns with the holdings at progress `σ'`, and the
    value it returns satisfies `φ`. -/
def Runs {α : Type} (p : Prog (TpuEff nD τ sig (Elt F) Λ₀ .tc) α) (σ σ' : Fin 6 → ℕ) (φ : α → Prop := fun _ => True) : Prop :=
  ∀ (Q : α → sProp 𝕄) (R : sProp 𝕄), (∀ r, φ r → iprop(St X K c σ' ∗ R) ⊢ Q r) → iprop(St X K c σ ∗ R) ⊢ wpc c p Q

/-- A program that only returns changes nothing. -/
theorem runs_ret {α : Type} (a : α) (σ : Fin 6 → ℕ) : Runs X K c (.ret a) σ σ := fun _ _ h => wpc_end c (h _ trivial)

/-- Two programs one after the other. -/
theorem Runs.bind {α β : Type} {p : Prog (TpuEff nD τ sig (Elt F) Λ₀ .tc) α} {k : α → Prog (TpuEff nD τ sig (Elt F) Λ₀ .tc) β}
    {σ σ' σ'' : Fin 6 → ℕ} {φ : α → Prop} {ψ : β → Prop} (hp : Runs X K c p σ σ' φ) (hk : ∀ r, φ r → Runs X K c (k r) σ' σ'' ψ) :
    Runs X K c (p >>= k) σ σ'' ψ := by
  intro Q R h
  unfold wpc; rw [wp_bind]
  exact hp _ R fun r hr => hk r hr Q R h

end Cert.AllReduceIdeal

end
-- ==== Proof.Ideal.Start.lean ====
/-
The handshake: a device signals its three partners, handing each the places that partner's messages go to, and waits for
their signals, which hand it the places its own messages go to.
-/
module

public import proofs.«01_k».proof.Proof.Ideal.Splits
public import proofs.«01_k».proof.Proof.Ideal.Runs

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD)

omit [FloatOps F] in
/-- A family over the three axes. -/
theorem fam_three (Φ : Fin 3 → sProp 𝕄) : bigSep Finset.univ Φ = iprop(Φ 0 ∗ Φ 1 ∗ Φ 2) :=
  bigSep_univ_eq_bigSepL [0, 1, 2] (by decide) (by decide) Φ

/-! ## Payloads by axis are payloads by chunk and halving -/

omit [FloatOps F] in
/-- A family summed over the axis of each halving is summed over the halvings. -/
theorem by_axis (Ψ : Fin 3 → Fin 6 → Fin 3 → sProp 𝕄) :
    (bigSep Finset.univ fun a => bigSep Finset.univ fun j : Fin 6 => bigSep Finset.univ fun k : Fin 3 => if axis j k.val = a then Ψ a j k else iprop(emp))
      = bigSep Finset.univ fun j : Fin 6 => bigSep Finset.univ fun k : Fin 3 => Ψ (axis j k.val) j k := by
  rw [bigSep_univ_comm]
  refine bigSep_congr fun j _ => ?_
  rw [bigSep_univ_comm]
  refine bigSep_congr fun k _ => ?_
  rw [fam_erase (Finset.mem_univ (axis j k.val)), if_pos rfl,
    bigSep_congr (Ψ := fun _ => iprop(emp)) fun a ha => if_neg (Finset.ne_of_mem_erase ha).symm, show (bigSep (Finset.univ.erase (axis j k.val)) fun _ => iprop(emp)) = (BI.emp : sProp 𝕄) from BI.bigSep_emp_const _]
  exact BI.equiv_iff.mp BI.sep_emp

/-- What a device hands its partners; -/
theorem bar_given : (bigSep Finset.univ fun a => barPay (F := F) a (flip a c))
    = bigSep Finset.univ fun j : Fin 6 => bigSep Finset.univ fun k : Fin 3 => part j k c (mate j k.val c) := by
  unfold barPay
  refine (by_axis fun a j k => part j k (flip a (flip a c)) (flip a c)).trans ?_
  exact bigSep_congr fun j _ => bigSep_congr fun k _ => by rw [Cert.AllReduce.flip_flip]; rfl

/-- and what they hand it. -/
theorem bar_taken : (bigSep Finset.univ fun a => barPay (F := F) a c)
    = bigSep Finset.univ fun j : Fin 6 => bigSep Finset.univ fun k : Fin 3 => part j k (mate j k.val c) c := by
  unfold barPay
  exact by_axis fun a j k => part j k (flip a c) c

/-! ## The signals and the wait -/

/-- What is owed with the partners along the axes in `A` still to be signalled. -/
def owesBar (A : Finset (Fin 3)) : sProp 𝕄 := iprop(∃ W, owes (c : Thread nD τ) (owedBar A c + owed (fun _ => Finset.univ) c) W)

/-- What is held for those signals. -/
def signals (A : Finset (Fin 3)) : sProp 𝕄 := bigSep A fun a => iprop(dutyTok ER (barCell (flip a c)) 0 a ∗ barPay (F := F) a (flip a c))

/-- What is owed with one partner's unit taken out. -/
theorem owedBar_peel {A : Finset (Fin 3)} {a : Fin 3} (ha : a ∈ A) :
    owedBar A c + owed (fun _ => Finset.univ) c = (owedBar (A.erase a) c + owed (fun _ => Finset.univ) c) + tallyAt (barCell (flip a c)) () 1 := by
  unfold owedBar
  rw [← Finset.sum_erase_add _ _ ha, add_right_comm]

/-- A signal to the partner along `a`. -/
theorem step_signal {A : Finset (Fin 3)} (a : Fin 3) (ha : a ∈ A) {d : Dev nD} (hd : d = flip a c) {n : ℕ} (hn : 1 = n)
    {α : Type} {Q : α → sProp 𝕄} {p : PUnit → Prog (TpuEff nD τ sig (Elt F) Λ₀ .tc) α} {R : sProp 𝕄}
    (hk : iprop(ctx X K ∗ owesBar (F := F) c (A.erase a) ∗ signals c (A.erase a) ∗ R) ⊢ wpc c (p ⟨⟩) Q) :
    iprop(ctx X K ∗ owesBar c A ∗ signals c A ∗ R) ⊢ wpc c (.op (.semSignal (d : Thread nD τ) barS n) p) Q := by
  subst hd hn
  unfold owesBar signals at *
  rw [fam_erase ha, owedBar_peel c ha]
  iintro ⟨#Hc, ⟨%W, HO⟩, ⟨⟨Ht, Hp⟩, Hs⟩, HR⟩
  unfold ctx at *
  icases Hc with ⟨#Hr, #Hl⟩
  ihave #Hi := (record X K (flip a c, .inl ())) $$ Hr
  icases Hi with ⟨#HI, #Hre⟩
  iapply (Rounds.wp_signal 𝒱₀ ER (sched X) (c : Thread nD τ) none (dst := (flip a c : Thread nD τ)) (κ := K (flip a c, .inl ()))
      (d := a) (by rw [duties_bar]; exact Finset.mem_univ _) (amount_bar X (flip a c) a) () _ rfl) $$ [HO Ht Hp]
  · isplitr; · iexact HI
    isplitl [HO]; · iexact HO
    isplitl [Ht]; · iexact Ht
    isplitl [Hp]; · rw [payload_bar]; iexact Hp
    iexact Hre
  iintro HO
  iapply hk
  isplitr
  · isplitr; · iexact Hr
    iexact Hl
  isplitl [HO]; · iexists W; iexact HO
  isplitl [Hs]; · iexact Hs
  iexact HR

/-- The wait for the three signals; the barrier cell closes. -/
theorem step_barrier {n : ℕ} (hn : 3 = n)
    {α : Type} {Q : α → sProp 𝕄} {p : PUnit → Prog (TpuEff nD τ sig (Elt F) Λ₀ .tc) α} {R : sProp 𝕄}
    (hk : iprop(ctx X K ∗ owesBar (F := F) c ∅ ∗ (bigSep Finset.univ fun a => barPay (F := F) a c) ∗ semVal (barCell c) 0 ∗ R) ⊢ wpc c (p ⟨⟩) Q) :
    iprop(ctx X K ∗ owesBar c ∅ ∗ (atPos ER (barCell c) 0 ∅ 0 ∗ cred (tallyAt (barCell c) () 3)) ∗ R) ⊢ wpc c (.op (.semWait barS n) p) Q := by
  subst hn
  unfold owesBar at *
  iintro ⟨#Hc, ⟨%W, HO⟩, ⟨Hat, Hcr⟩, HR⟩
  unfold ctx at *
  icases Hc with ⟨#Hr, #Hl⟩
  ihave #Hi := (record X K (c, .inl ())) $$ Hr
  icases Hi with ⟨#HI, #Hre⟩
  iapply (Rounds.wp_wait_rest_token 𝒱₀ ER (sched X) (c : Thread nD τ) none (κ := K (c, .inl ()))
      (wpE_semWait_eq 𝒱₀ (c : Thread nD τ) none Set.univ) (Set.mem_univ _) () (O := owedBar ∅ c + owed (fun _ => Finset.univ) c) (W := W) (R := 0) (m := 0) (T := ∅)
      (by rw [expect_bar])) $$ [Hcr HO Hat]
  · isplitr; · iexact HI
    isplitl [Hcr]; · iexact Hcr
    isplitl [HO]; · iexact HO
    isplitr
    · iapply (mayWait_below (F := F) c (.reg barS) (owedBar ∅ c + owed (fun _ => Finset.univ) c) fun g u hg => by
        have e : owedBar ∅ c + owed (fun _ => Finset.univ) c = owed (fun _ => Finset.univ) c := by
          unfold owedBar; rw [Finset.sum_empty, zero_add]
        rw [e] at hg
        obtain ⟨j, m, -, rfl⟩ := owed_pos hg
        exact ⟨rfl, by rw [lvS_bar, lvS_rcv]; omega⟩)
      iexact Hl
    iexact Hat
  iintro ⟨HO, Hat, -, Hpay⟩
  ihave Hp := (Entails.of_eq (rest_bar X c)) $$ Hpay
  imod (Rounds.cell_close ER (sched X) (Set.mem_univ (K (c, .inl ()))) (fun h => h) (R := 0 + 1) (duties_later X (barCell c))) $$ [Hat] with Hz
  · isplitr; · iexact HI
    iexact Hat
  iapply hk
  isplitr
  · isplitr; · iexact Hr
    iexact Hl
  isplitl [HO]; · iexists _; iexact HO
  isplitl [Hp]; · iexact Hp
  isplitl [Hz]; · iexact Hz
  iexact HR

/-! ## The holdings before and after -/

/-- What a device starts the body with, besides what it knows and owes: its position and credit at the barrier, the tokens
    it signals with, all its messages to send and to receive, and the three buffers. -/
def tokens : sProp 𝕄 :=
  iprop((atPos ER (barCell c) 0 ∅ 0 ∗ cred (tallyAt (barCell c) () 3)) ∗ (bigSep Finset.univ fun a => dutyTok ER (barCell (flip a c)) 0 a)
    ∗ bigSep Finset.univ fun j => iprop(bigSep Finset.univ (todoP (F := F) c j) ∗ bigSep Finset.univ (waitP (F := F) c j)))

/-- What a device keeps through the handshake. -/
def kept : sProp 𝕄 :=
  bigSep Finset.univ fun j => iprop((bigSep Finset.univ (todoP (F := F) c j) ∗ bigSep Finset.univ (waitP (F := F) c j))
    ∗ ((xLoc c ↦[xR (keep j 0 c) (len j 0)]{fullShare} X c) ∗ xLoc c ↦[xR (keep j 0 (mate j 0 c)) (len j 0)]{fullShare} X c)
    ∗ rowsAny c (keep j 0 c) (len j 0))

/-- The places a device hands out, from its result's and receive buffer's rows. -/
theorem given_one (f : OBuf F) (j : Fin 6) : iprop(((oLoc c ↦[oR (keep j 0 c) (len j 0)]{fullShare} f)
      ∗ oLoc c ↦[oR (keep j 0 (mate j 0 c)) (len j 0)]{fullShare} f) ∗ (slotAny (F := F) j 0 c ∗ slotAny j 1 c ∗ slotAny j 2 c ∗ spare j c) : sProp 𝕄)
    ⊢ iprop(rowsAny c (keep j 0 c) (len j 0) ∗ (bigSep Finset.univ fun k : Fin 3 => part j k c (mate j k.val c)) ∗ spare j c) := by
  rw [fam_three]
  unfold part
  rw [if_pos rfl, if_neg (show (1 : Fin 3) ≠ 0 by decide), if_neg (show (2 : Fin 3) ≠ 0 by decide)]
  iintro ⟨⟨H1, H2⟩, S0, S1, S2, Hs⟩
  isplitl [H1]; · unfold rowsAny; iexists f; iexact H1
  isplitr [Hs]
  · isplitl [S0 H2]
    · isplitl [S0]; · iexact S0
      unfold rowsAny; iexists f; iexact H2
    isplitl [S1]
    · isplitl [S1]; · iexact S1
      iempintro
    isplitl [S2]; · iexact S2
    iempintro
  iexact Hs

/-- The four places on the first partner the last messages go to. -/
theorem last_places (j : Fin 6) : rowsAny (mate j 0 c) (keep j 0 c) (len j 0)
    ⊢ iprop(dstP (F := F) j 6 c ∗ dstP j 7 c ∗ dstP j 8 c ∗ dstP j 9 c) := by
  unfold rowsAny
  iintro ⟨%f, H⟩
  ihave H := (Entails.of_eq (o_quarters (mate j 0 c) c j f)) $$ H
  icases H with ⟨H6, H7, H8, H9⟩
  unfold dstP
  rw [if_neg (by decide), if_neg (by decide), if_neg (by decide), if_neg (by decide)]
  unfold rowsAny
  isplitl [H6]; · iexists f; iexact H6
  isplitl [H7]; · iexists f; iexact H7
  isplitl [H8]; · iexists f; iexact H8
  iexists f; iexact H9

/-- The holdings of a chunk when the handshake is over. -/
theorem chunk_zero (j : Fin 6) : iprop(((bigSep Finset.univ (todoP (F := F) c j) ∗ bigSep Finset.univ (waitP (F := F) c j))
      ∗ ((xLoc c ↦[xR (keep j 0 c) (len j 0)]{fullShare} X c) ∗ xLoc c ↦[xR (keep j 0 (mate j 0 c)) (len j 0)]{fullShare} X c)
      ∗ rowsAny c (keep j 0 c) (len j 0)) ∗ bigSep Finset.univ fun k : Fin 3 => part j k (mate j k.val c) c)
    ⊢ chunk X c j (held 0) := by
  rw [fam_three]
  unfold part
  rw [if_pos rfl, if_neg (show (1 : Fin 3) ≠ 0 by decide), if_neg (show (2 : Fin 3) ≠ 0 by decide), show ((0 : Fin 3) : ℕ) = 0 from rfl,
    show ((1 : Fin 3) : ℕ) = 1 from rfl, show ((2 : Fin 3) : ℕ) = 2 from rfl]
  show _ ⊢ chunk X c j Held.start
  unfold chunk fams Held.start
  dsimp only
  rw [bigSep_empty, bigSep_empty, bigSep_empty, bigSep_empty, bigSep_singleton,
    show (bigSep ({0, 1, 2, 6, 7, 8, 9} : Finset (Fin 10)) fun m => dstP (F := F) j m c)
      = iprop(dstP j 0 c ∗ dstP j 1 c ∗ dstP j 2 c ∗ dstP j 6 c ∗ dstP j 7 c ∗ dstP j 8 c ∗ dstP j 9 c) from
      bigSep_eq_bigSepL_of_eq [0, 1, 2, 6, 7, 8, 9] (by decide) (by decide) _]
  iintro ⟨⟨⟨Ht, Hw⟩, ⟨Hx1, Hx2⟩, Ho⟩, ⟨S0, H⟩, ⟨S1, -⟩, S2, -⟩
  ihave H := (last_places c j) $$ H
  icases H with ⟨H6, H7, H8, H9⟩
  isplitl [Hx1]; · iexact Hx1
  isplitl [Ho]; · rw [show midP X c j 0 = rowsAny c (keep j 0 c) (len j 0) from rfl]; iexact Ho
  isplitl [Ht]; · iexact Ht
  isplitr; · iempintro
  isplitr; · iempintro
  isplitl [Hw]; · iexact Hw
  isplitr; · iempintro
  isplitl [Hx2]; · unfold srcP; rw [if_pos rfl]; iexact Hx2
  isplitl [S0 S1 S2 H6 H7 H8 H9]
  · isplitl [S0]; · unfold dstP; rw [if_pos (by decide)]; iexact S0
    isplitl [S1]; · unfold dstP; rw [if_pos (by decide)]; iexact S1
    isplitl [S2]; · unfold dstP; rw [if_pos (by decide)]; iexact S2
    isplitl [H6]; · iexact H6
    isplitl [H7]; · iexact H7
    isplitl [H8]; · iexact H8
    iexact H9
  iempintro

/-- After the barrier a device owes what it owes at the chunks' first step. -/
theorem owedBar_none : owedBar ∅ c + owed (fun _ => Finset.univ) c = owed (fun j => (held ((![0, 0, 0, 0, 0, 0] : Fin 6 → ℕ) j)).todo) c := by
  have e : (fun j => (held ((![0, 0, 0, 0, 0, 0] : Fin 6 → ℕ) j)).todo) = fun _ => Finset.univ :=
    funext fun j => by rw [show (![0, 0, 0, 0, 0, 0] : Fin 6 → ℕ) j = 0 by revert j; decide]; rfl
  unfold owedBar; rw [Finset.sum_empty, zero_add, e]

/-- The holdings made ready for the signals; -/
theorem ready (f : OBuf F) (g : RBuf F) :
    iprop(ctx X K ∗ owesBar (F := F) c Finset.univ ∗ tokens c ∗ (xLoc c ↦{fullShare} X c) ∗ (oLoc c ↦{fullShare} f) ∗ rLoc c ↦{fullShare} g)
      ⊢ iprop(ctx X K ∗ owesBar c Finset.univ ∗ signals c Finset.univ ∗ (atPos ER (barCell c) 0 ∅ 0 ∗ cred (tallyAt (barCell c) () 3)) ∗ kept X c
        ∗ bigSep Finset.univ fun j => spare (F := F) j c) := by
  have eS : signals (F := F) c Finset.univ = iprop((bigSep Finset.univ fun a => dutyTok ER (barCell (flip a c)) 0 a)
      ∗ bigSep Finset.univ fun j : Fin 6 => bigSep Finset.univ fun k : Fin 3 => part j k c (mate j k.val c)) :=
    (bigSep_sep' Finset.univ _ _).trans (congrArg (fun A => iprop(_ ∗ A)) (bar_given c))
  have eK : kept X c = iprop((bigSep Finset.univ fun j => iprop(bigSep Finset.univ (todoP (F := F) c j) ∗ bigSep Finset.univ (waitP (F := F) c j)))
      ∗ (bigSep Finset.univ fun j => iprop((xLoc c ↦[xR (keep j 0 c) (len j 0)]{fullShare} X c) ∗ xLoc c ↦[xR (keep j 0 (mate j 0 c)) (len j 0)]{fullShare} X c))
      ∗ bigSep Finset.univ fun j => rowsAny c (keep j 0 c) (len j 0)) :=
    (bigSep_sep' Finset.univ _ _).trans (congrArg (fun A => iprop(_ ∗ A)) (bigSep_sep' Finset.univ _ _))
  unfold tokens
  rw [x_cut, o_cut c c, eS, eK]
  iintro ⟨Hc, HO, ⟨Hb, Ht, Htw⟩, Hx, Ho, Hr⟩
  ihave Hr := (r_cut c g) $$ Hr
  ihave H := (show iprop((bigSep Finset.univ fun j => iprop((oLoc c ↦[oR (keep j 0 c) (len j 0)]{fullShare} f)
      ∗ oLoc c ↦[oR (keep j 0 (mate j 0 c)) (len j 0)]{fullShare} f)) ∗ bigSep Finset.univ fun j => iprop(slotAny (F := F) j 0 c ∗ slotAny j 1 c ∗ slotAny j 2 c ∗ spare j c))
      ⊢ iprop((bigSep Finset.univ fun j => rowsAny c (keep j 0 c) (len j 0))
        ∗ (bigSep Finset.univ fun j : Fin 6 => bigSep Finset.univ fun k : Fin 3 => part j k c (mate j k.val c)) ∗ bigSep Finset.univ fun j => spare j c) from by
        rw [← bigSep_sep', ← bigSep_sep', ← bigSep_sep']; exact bigSep_mono fun j _ => given_one c f j) $$ [Ho Hr]
  · isplitl [Ho]; · iexact Ho
    iexact Hr
  icases H with ⟨Ho, Hp, Hs⟩
  isplitl [Hc]; · iexact Hc
  isplitl [HO]; · iexact HO
  isplitl [Ht Hp]
  · isplitl [Ht]; · iexact Ht
    iexact Hp
  isplitl [Hb]; · iexact Hb
  isplitl [Htw Hx Ho]
  · isplitl [Htw]; · iexact Htw
    isplitl [Hx]; · iexact Hx
    iexact Ho
  iexact Hs

/-- and what they are once the barrier is passed. -/
theorem entered {R : sProp 𝕄} : iprop(ctx X K ∗ owesBar (F := F) c ∅ ∗ (bigSep Finset.univ fun a => barPay (F := F) a c) ∗ semVal (barCell c) 0 ∗ kept X c ∗ R)
    ⊢ iprop(St X K c ![0, 0, 0, 0, 0, 0] ∗ semVal (barCell c) 0 ∗ R) := by
  unfold owesBar St owes' kept
  rw [owedBar_none, bar_taken]
  iintro ⟨Hc, HO, Hp, Hz, Hk, HR⟩
  isplitr [Hz HR]
  · isplitl [Hc]; · iexact Hc
    isplitl [HO]; · iexact HO
    iapply ((Entails.of_eq (bigSep_sep' Finset.univ _ _).symm).trans (bigSep_mono fun j _ =>
      (chunk_zero X c j).trans (Entails.of_eq (by rw [show (![0, 0, 0, 0, 0, 0] : Fin 6 → ℕ) j = 0 by revert j; decide]))))
    isplitl [Hk]; · iexact Hk
    iexact Hp
  isplitl [Hz]; · iexact Hz
  iexact HR

section Parts
variable {hx : xM.IsWhole} {ho : oM.IsWhole} {hr : rM.IsWhole}

/-- Part 1: the three signals. -/
theorem part1 {R : sProp 𝕄} {Q : _ → sProp 𝕄}
    (h : ∀ v2 v5 v8 v9 v10 v11, iprop(ctx X K ∗ owesBar (F := F) c ∅ ∗ R) ⊢ Q ⟨c, v2, v5, v8, v9, v10, v11, SemArray.scalar (sig.barrier 0 rfl)⟩) :
    iprop(ctx X K ∗ owesBar (F := F) c Finset.univ ∗ signals c Finset.univ ∗ R)
      ⊢ wpc c (k0_part1 xM hx oM ho rM hr cc0_scratch1 cc0_scratch2) Q := by
  rw [k0_part1_eq_skeleton]; unfold k0_part1_skel
  simp only [semSignalWord, Prog.lift, Prog.bind_op, Prog.bind_ret, Prog.pure_eq_ret, wpc, wp_deviceId]
  refine step_signal X K c (A := Finset.univ) 0 (by decide) (dev_x c (k0_dev1_eq c)) (by decide) ?_
  refine step_signal X K c 1 (by decide) (dev_y c (k0_dev2_eq c)) (by decide) ?_
  refine step_signal X K c 2 (by decide) (dev_z c (k0_dev3_eq c)) (by decide) ?_
  rw [show ((Finset.univ.erase (0 : Fin 3)).erase 1).erase 2 = ∅ by decide]
  refine wpc_end c (BIBase.Entails.trans ?_ (h _ _ _ _ _ _))
  unfold signals
  iintro ⟨H1, H2, -, H3⟩
  isplitl [H1]; · iexact H1
  isplitl [H2]; · iexact H2
  iexact H3

/-- Part 2: the wait for the partners' signals. -/
theorem part2 {v2 v5 v8 : BitVec 32} {R : sProp 𝕄} {Q : _ → sProp 𝕄}
    (h : ∀ v, iprop(St X K c ![0, 0, 0, 0, 0, 0] ∗ semVal (barCell c) 0 ∗ R) ⊢ Q v) :
    iprop(ctx X K ∗ owesBar c ∅ ∗ (atPos ER (barCell c) 0 ∅ 0 ∗ cred (tallyAt (barCell c) () 3)) ∗ kept X c ∗ R)
      ⊢ wpc c (k0_part2 xM hx oM ho rM hr cc0_scratch1 cc0_scratch2 v2 v5 v8 (SemArray.scalar (sig.barrier 0 rfl))) Q := by
  rw [k0_part2_eq_skeleton]; unfold k0_part2_skel
  simp only [semWaitWord, Prog.lift, Prog.bind_op, Prog.bind_ret, Prog.pure_eq_ret]
  refine step_barrier X K c (by decide) ?_
  exact wpc_end c ((entered X K c).trans (h _))

end Parts

end Cert.AllReduceIdeal

end
-- ==== Proof.Ideal.Finish.lean ====
/-
What a device holds when the body is over: the three buffers whole, the result holding in each block of rows the sum of
the device that block belongs to, and every cell back at zero.
-/
module

public import proofs.«01_k».proof.Proof.Ideal.Splits

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD)

/-! ## The result -/

/-- What the result holds, on every device: in the block of rows of chunk `j` and device `d`, what `d` has summed. -/
def outAt : OBuf F := fun i => acc X (Classical.choose (blk_cover (i 0))).1 3 (Classical.choose (blk_cover (i 0))).2 i

/-- In the rows of a device's final block the result is what that device has summed. -/
theorem outAt_eq (j : Fin 6) (d : Dev nD) (i : S1024x1024.Idx) (hi : i ∈ oR (keep j 2 d) (len j 2)) : acc X j 3 d i = outAt X i := by
  have h1 := Classical.choose_spec (blk_cover (i 0))
  have h2 := mem_oR.mp hi
  have e : Classical.choose (blk_cover (i 0)) = (j, d) := by
    by_contra hn
    rcases blk_disjoint _ _ hn with h | h
    · exact absurd h2.1 (Nat.not_le.mpr (Nat.lt_of_lt_of_le h1.2 h))
    · exact absurd h1.1 (Nat.not_le.mpr (Nat.lt_of_lt_of_le h2.2 h))
  unfold outAt
  rw [e]

/-- The rows of a block, at what the result holds. -/
theorem block_out (p : Dev nD) (j : Fin 6) (d : Dev nD) (q : PosShare TreeShare) :
    (oLoc p ↦[oR (keep j 2 d) (len j 2)]{q} acc X j 3 d : sProp 𝕄) = (oLoc p ↦[oR (keep j 2 d) (len j 2)]{q} outAt X) :=
  pointsTo_congr fun i hi => outAt_eq X j d i hi

/-! ## Rows shared between messages -/

omit [FloatOps F] in
/-- Two halves of the ownership of a buffer's part make the whole. -/
theorem join_two (ℓ : Loc nD τ sig) (I : Finset (Idx ℓ)) (q : PosShare TreeShare) (f : Buf (Elt F) ℓ) :
    iprop((ℓ ↦[I]{q.left} f) ∗ ℓ ↦[I]{q.right} f) ⊢ (ℓ ↦[I]{q} f : sProp 𝕄) :=
  (pointsTo_share (PosShare.mem_left_op_right q)).2

/-! ## One chunk -/

/-- A family over the seven messages whose received rows are held at the end. -/
theorem seven (Φ : Fin 10 → sProp 𝕄) : bigSep ({0, 1, 2, 6, 7, 8, 9} : Finset (Fin 10)) Φ = iprop(Φ 0 ∗ Φ 1 ∗ Φ 2 ∗ Φ 6 ∗ Φ 7 ∗ Φ 8 ∗ Φ 9) :=
  bigSep_eq_bigSepL_of_eq [0, 1, 2, 6, 7, 8, 9] (by decide) (by decide) Φ
/-- A family over the eight messages whose source rows are held at the end. -/
theorem eight (Φ : Fin 10 → sProp 𝕄) : bigSep ({0, 3, 4, 5, 6, 7, 8, 9} : Finset (Fin 10)) Φ = iprop(Φ 0 ∗ Φ 3 ∗ Φ 4 ∗ Φ 5 ∗ Φ 6 ∗ Φ 7 ∗ Φ 8 ∗ Φ 9) :=
  bigSep_eq_bigSepL_of_eq [0, 3, 4, 5, 6, 7, 8, 9] (by decide) (by decide) Φ

/-- The rows the gather's messages left from are the rows kept at the first halving; -/
theorem sent_rows (j : Fin 6) : iprop(srcP X j 3 c ∗ srcP X j 4 c ∗ srcP X j 5 c ∗ srcP X j 6 c ∗ srcP X j 7 c ∗ srcP X j 8 c ∗ srcP X j 9 c)
    ⊢ (oLoc c ↦[oR (keep j 0 c) (len j 0)]{fullShare} outAt X : sProp 𝕄) := by
  unfold srcP cont
  rw [if_neg (by decide), if_neg (by decide), if_neg (by decide), if_neg (by decide), if_neg (by decide), if_neg (by decide), if_neg (by decide),
    o_quarters c c j (outAt X), ← block_out X c j c, ← block_out X c j (mate j 2 c), ← block_out X c j (mate j 1 c), ← block_out X c j (mate j 1 (mate j 2 c))]
  iintro ⟨H3, H4, H5, H6, H7, H8, H9⟩
  isplitl [H3 H4 H6]
  · iapply (join_two (F := F) (oLoc c) _ fullShare _)
    isplitl [H3]; · iexact H3
    iapply (join_two (F := F) (oLoc c) _ (fullShare : PosShare TreeShare).right _)
    isplitl [H4]; · iexact H4
    iexact H6
  isplitl [H5 H7]
  · iapply (join_two (F := F) (oLoc c) _ fullShare _)
    isplitl [H5]; · iexact H5
    iexact H7
  isplitl [H8]; · iexact H8
  iexact H9

/-- the rows the last four messages brought are the rows the partner kept at it. -/
theorem got_rows (j : Fin 6) : iprop(gotP X j 6 c ∗ gotP X j 7 c ∗ gotP X j 8 c ∗ gotP X j 9 c)
    ⊢ (oLoc c ↦[oR (keep j 0 (mate j 0 c)) (len j 0)]{fullShare} outAt X : sProp 𝕄) := by
  unfold gotP cont
  rw [if_neg (by decide), if_neg (by decide), if_neg (by decide), if_neg (by decide),
    o_quarters c (mate j 0 c) j (outAt X), ← block_out X c j (mate j 0 c), ← block_out X c j (mate j 2 (mate j 0 c)), ← block_out X c j (mate j 1 (mate j 0 c)),
    ← block_out X c j (mate j 1 (mate j 2 (mate j 0 c)))]
  iintro ⟨H6, H7, H8, H9⟩
  isplitl [H6]; · iexact H6
  isplitl [H7]; · iexact H7
  isplitl [H8]; · iexact H8
  iexact H9

/-- A slot with what a message brought is a slot with some contents. -/
theorem slot_any (j : Fin 6) (m : Fin 10) (hm : m.val < 3) : gotP X j m c ⊢ slotAny j m.val c := by
  unfold gotP slotAny
  rw [if_pos hm]
  iintro H
  iexists _
  iexact H

/-- What is held of a chunk when its steps are over. -/
theorem chunk_end (j : Fin 6) : chunk X c j (held 33)
    ⊢ iprop(((xLoc c ↦[xR (keep j 0 c) (len j 0)]{fullShare} X c) ∗ xLoc c ↦[xR (keep j 0 (mate j 0 c)) (len j 0)]{fullShare} X c)
      ∗ ((oLoc c ↦[oR (keep j 0 c) (len j 0)]{fullShare} outAt X) ∗ oLoc c ↦[oR (keep j 0 (mate j 0 c)) (len j 0)]{fullShare} outAt X)
      ∗ (slotAny j 0 c ∗ slotAny j 1 c ∗ slotAny j 2 c)
      ∗ bigSep Finset.univ (doneP (F := F) c j) ∗ bigSep Finset.univ (cameP (F := F) c j)) := by
  obtain ⟨h1, h2, h3, h4, h5, h6, h7, h8, h9⟩ := held_end
  unfold chunk fams
  rw [h1, h2, h3, h4, h5, h6, h7, h8, h9, bigSep_empty, bigSep_empty, bigSep_empty, bigSep_empty, seven, eight]
  iintro ⟨Hx, -, -, -, Hd, -, Hc, ⟨S0, S3, S4, S5, S6, S7, S8, S9⟩, -, G0, G1, G2, G6, G7, G8, G9⟩
  isplitl [Hx S0]
  · isplitl [Hx]; · iexact Hx
    ihave S0 := (show srcP X j 0 c ⊢ (xLoc c ↦[xR (keep j 0 (mate j 0 c)) (len j 0)]{fullShare} X c : sProp 𝕄) from Entails.of_eq (if_pos rfl)) $$ S0
    iexact S0
  isplitl [S3 S4 S5 S6 S7 S8 S9 G6 G7 G8 G9]
  · isplitl [S3 S4 S5 S6 S7 S8 S9]
    · iapply (sent_rows X c j)
      isplitl [S3]; · iexact S3
      isplitl [S4]; · iexact S4
      isplitl [S5]; · iexact S5
      isplitl [S6]; · iexact S6
      isplitl [S7]; · iexact S7
      isplitl [S8]; · iexact S8
      iexact S9
    iapply (got_rows X c j)
    isplitl [G6]; · iexact G6
    isplitl [G7]; · iexact G7
    isplitl [G8]; · iexact G8
    iexact G9
  isplitl [G0 G1 G2]
  · isplitl [G0]; · iapply (slot_any X c j 0 (by decide)); iexact G0
    isplitl [G1]; · iapply (slot_any X c j 1 (by decide)); iexact G1
    iapply (slot_any X c j 2 (by decide)); iexact G2
  isplitl [Hd]; · iexact Hd
  iexact Hc

/-! ## All of it -/

/-- All the chunks when their steps are over. -/
theorem chunks_end : (bigSep Finset.univ fun j => chunk X c j (held 33))
    ⊢ iprop((bigSep Finset.univ fun j => iprop((xLoc c ↦[xR (keep j 0 c) (len j 0)]{fullShare} X c) ∗ xLoc c ↦[xR (keep j 0 (mate j 0 c)) (len j 0)]{fullShare} X c))
      ∗ (bigSep Finset.univ fun j => iprop((oLoc c ↦[oR (keep j 0 c) (len j 0)]{fullShare} outAt X) ∗ oLoc c ↦[oR (keep j 0 (mate j 0 c)) (len j 0)]{fullShare} outAt X))
      ∗ (bigSep Finset.univ fun j => iprop(slotAny j 0 c ∗ slotAny j 1 c ∗ slotAny j 2 c))
      ∗ (bigSep Finset.univ fun j => bigSep Finset.univ (doneP (F := F) c j)) ∗ bigSep Finset.univ fun j => bigSep Finset.univ (cameP (F := F) c j)) :=
  (bigSep_mono fun j _ => chunk_end X c j).trans (Entails.of_eq ((bigSep_sep' Finset.univ _ _).trans
    (congrArg (fun A => iprop(_ ∗ A)) ((bigSep_sep' Finset.univ _ _).trans (congrArg (fun A => iprop(_ ∗ A)) ((bigSep_sep' Finset.univ _ _).trans
      (congrArg (fun A => iprop(_ ∗ A)) (bigSep_sep' Finset.univ _ _))))))))

/-- All the slots and the spare rows are the receive buffer. -/
theorem slots_end (f₀ : RBuf F) : iprop((bigSep Finset.univ fun j => iprop(slotAny (F := F) j 0 c ∗ slotAny j 1 c ∗ slotAny j 2 c))
      ∗ bigSep Finset.univ fun j => spare (F := F) j c) ⊢ iprop(∃ f, rLoc c ↦{fullShare} f : sProp 𝕄) := by
  refine BIBase.Entails.trans ?_ (r_join c f₀)
  rw [← bigSep_sep']
  refine bigSep_mono fun j _ => ?_
  have e : iprop((slotAny (F := F) j 0 c ∗ slotAny j 1 c ∗ slotAny j 2 c) ∗ spare j c) = iprop(slotAny j 0 c ∗ slotAny j 1 c ∗ slotAny j 2 c ∗ spare j c) := by ac_rfl
  rw [e]
  exact BI.Entails.refl _

/-- The chunks' message cells are the device's scoped cells. -/
theorem own_cells : (bigSep Finset.univ fun o : Own => semVal ((c : Thread nD τ), ownSem o) 0 : sProp 𝕄)
    = iprop((bigSep Finset.univ fun j => bigSep Finset.univ (doneP (F := F) c j)) ∗ bigSep Finset.univ fun j => bigSep Finset.univ (cameP (F := F) c j)) := by
  rw [bigSep_univ_prod, bigSep_univ_eq_bigSepL [false, true] (by decide) (by decide), bigSepL_cons_cons, bigSepL_singleton, bigSep_univ_prod, bigSep_univ_prod]
  rfl

/-- What a device holds when the body is over. -/
theorem finish : iprop(St X K c (fun _ => 33) ∗ semVal (barCell c) 0 ∗ bigSep Finset.univ fun j => spare (F := F) j c)
    ⊢ iprop((xLoc c ↦{fullShare} X c) ∗ (oLoc c ↦{fullShare} outAt X) ∗ (∃ f, rLoc c ↦{fullShare} f)
      ∗ (bigSep Finset.univ fun o : Own => semVal ((c : Thread nD τ), ownSem o) 0) ∗ semVal (barCell c) 0 ∗ ∃ W, owes (c : Thread nD τ) 0 W) := by
  have e0 : owed (fun j => (held ((fun _ => 33 : Fin 6 → ℕ) j)).todo) c = 0 := by
    unfold owed
    exact Finset.sum_eq_zero fun j _ => by dsimp only; rw [held_end.1, Finset.sum_empty]
  unfold St owes'
  rw [e0, x_cut, o_cut c c, own_cells]
  iintro ⟨⟨-, HO, Hch⟩, Hz, Hs⟩
  ihave H := (chunks_end X c) $$ Hch
  icases H with ⟨Hx, Ho, Hr, Hd, Hc⟩
  isplitl [Hx]; · iexact Hx
  isplitl [Ho]; · iexact Ho
  isplitl [Hr Hs]
  · iapply (slots_end c fun _ => X c fun a => ⟨0, by revert a; decide⟩)
    isplitl [Hr]; · iexact Hr
    iexact Hs
  isplitl [Hd Hc]
  · isplitl [Hd]; · iexact Hd
    iexact Hc
  isplitl [Hz]; · iexact Hz
  iexact HO

end Cert.AllReduceIdeal

end
-- ==== Proof.Ideal.Ghost.lean ====
/-
What the launch deals out: every cell's invariant and position, the tokens each device pays with, and the credits it
waits with. The tokens are minted with the cells they pay, and moved to the devices that pay them.
-/
module

public import proofs.«01_k».proof.Proof.Ideal.Start
public import proofs.«01_k».proof.Proof.Ideal.Finish
public import proofs.«01_k».proof.Proof.Gen.KernelIdeal.Launch
public import Idealize.ShloMosaic.Lib.Pipeline.Launch

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD)

/-! ## Families of devices -/

omit [FloatOps F] in
/-- A family over the scoped cells of a device is one over its send cells and one over its receive cells. -/
theorem over_own (Φ : Own → sProp 𝕄) : bigSep Finset.univ Φ
    = iprop((bigSep Finset.univ fun j => bigSep Finset.univ fun m => Φ (false, j, m)) ∗ bigSep Finset.univ fun j => bigSep Finset.univ fun m => Φ (true, j, m)) := by
  rw [bigSep_univ_prod, bigSep_univ_eq_bigSepL [false, true] (by decide) (by decide), bigSepL_cons_cons, bigSepL_singleton, bigSep_univ_prod, bigSep_univ_prod]
  rfl

omit [FloatOps F] in
/-- A family over all cells is the barrier cell's member and one over the scoped cells. -/
theorem over_cells (Φ : Cell → sProp 𝕄) : bigSep Finset.univ Φ = iprop(Φ (.inl ()) ∗ bigSep Finset.univ fun o => Φ (.inr o)) := by
  rw [bigSep_univ_sum, show (Finset.univ : Finset Unit) = {()} from rfl, bigSep_singleton]
  rfl

/-- The partner along an axis, and at a message, as permutations of the devices. -/
def flips (a : Fin 3) : Dev nD ≃ Dev nD := ⟨flip a, flip a, Cert.AllReduce.flip_flip a, Cert.AllReduce.flip_flip a⟩
/-- The exchange of a message's sender and receiver, as a permutation of the devices. -/
def peers (j : Fin 6) (m : Fin 10) : Dev nD ≃ Dev nD := ⟨peer j m, peer j m, peer_peer j m, peer_peer j m⟩

omit [FloatOps F] in
/-- A family over devices and names, each name's members moved around the devices. -/
theorem around {T : Type} [Fintype T] (e : T → Dev nD ≃ Dev nD) (Φ : Dev nD → T → sProp 𝕄) :
    (bigSep Finset.univ fun c => bigSep Finset.univ fun t => Φ c t) = bigSep Finset.univ fun c => bigSep Finset.univ fun t => Φ (e t c) t := by
  rw [bigSep_univ_comm, bigSep_univ_comm (fun c t => Φ (e t c) t)]
  exact bigSep_congr fun t _ => bigSep_univ_equiv (e t) fun c => Φ c t

/-! ## The cells and the tokens at launch -/

/-- The cells of all devices. -/
def allCells : Finset (GSem nD τ sig) := Finset.univ.map ⟨kcell, kcell_injective⟩

/-- The tokens: of a barrier cell one per axis, of a scoped cell one. -/
def tokCell : Fin 3 ⊕ Own → Cell × Fin 3
  | .inl a => (.inl (), a)
  | .inr o => (.inr o, 0)
/-- The duty a token stands for: its cell, its round, its name. -/
def tokOf (p : Dev nD × (Fin 3 ⊕ Own)) : GSem nD τ sig × ℕ × Fin 3 := (kcell (p.1, (tokCell p.2).1), 0, (tokCell p.2).2)

/-- Tokens of a device with the same cell and name are the same. -/
theorem tokCell_injective : Function.Injective tokCell := by
  rintro (a | o) (a' | o') h <;> simp only [tokCell, Prod.mk.injEq, Sum.inl.injEq, Sum.inr.injEq, reduceCtorEq, true_and, and_true, false_and] at h <;> rw [h]

/-- Tokens of all devices that stand for the same duty are the same. -/
theorem tokOf_injective : Function.Injective tokOf := by
  rintro ⟨c, t⟩ ⟨c', t'⟩ h
  have h1 := kcell_injective (congrArg Prod.fst h)
  have h2 : (tokCell t).2 = (tokCell t').2 := congrArg (fun x : GSem nD τ sig × ℕ × Fin 3 => x.2.2) h
  have h3 : t = t' := tokCell_injective (Prod.ext (congrArg Prod.snd h1) h2)
  have h4 : c = c' := congrArg Prod.fst h1
  rw [h3, h4]

/-- The tokens of all devices. -/
def allToks : Finset (GSem nD τ sig × ℕ × Fin 3) := Finset.univ.map ⟨tokOf, tokOf_injective⟩

/-- The launch's ghost state: the pipeline's, and the protocol's. -/
def u₀ : UU := (initOf (Pipeline.cells cfgs cellOf_inj) (Pipeline.launchToks cfgs cellOf_inj), initOf allCells allToks)

/-- The tokens of a device's own cells; -/
def minted : sProp 𝕄 :=
  iprop((bigSep Finset.univ fun a : Fin 3 => dutyTok ER (barCell c) 0 a)
    ∗ (bigSep Finset.univ fun jm : Fin 6 × Fin 10 => dutyTok ER (sndCell c jm.1 jm.2) 0 0) ∗ bigSep Finset.univ fun jm : Fin 6 × Fin 10 => dutyTok ER (rcvCell c jm.1 jm.2) 0 0)
/-- those it pays with. -/
def paid : sProp 𝕄 :=
  iprop((bigSep Finset.univ fun a : Fin 3 => dutyTok ER (barCell (flip a c)) 0 a)
    ∗ (bigSep Finset.univ fun jm : Fin 6 × Fin 10 => dutyTok ER (sndCell c jm.1 jm.2) 0 0)
    ∗ bigSep Finset.univ fun jm : Fin 6 × Fin 10 => dutyTok ER (rcvCell (peer jm.1 jm.2 c) jm.1 jm.2) 0 0)

omit [FloatOps F] in
/-- A device's tokens, sorted by the kind of cell. -/
theorem minted_eq : (bigSep Finset.univ fun t : Fin 3 ⊕ Own => (dutyTok ER (tokOf (c, t)).1 (tokOf (c, t)).2.1 (tokOf (c, t)).2.2 : sProp 𝕄)) = minted c := by
  unfold minted
  rw [bigSep_univ_sum, over_own, bigSep_univ_prod, bigSep_univ_prod]
  rfl

omit [FloatOps F] in
/-- All the tokens, from the devices whose cells they pay to the devices that pay. -/
theorem minted_paid : (bigSep Finset.univ fun c => (minted (F := F) c)) = bigSep Finset.univ fun c => paid c := by
  unfold minted paid
  refine (bigSep_sep' Finset.univ _ _).trans ?_
  refine Eq.trans ?_ (bigSep_sep' Finset.univ _ _).symm
  refine congr (congrArg (fun A B => iprop(A ∗ B)) (around flips fun c a => dutyTok ER (barCell c) 0 a)) ?_
  refine (bigSep_sep' Finset.univ _ _).trans ?_
  refine Eq.trans ?_ (bigSep_sep' Finset.univ _ _).symm
  exact congrArg (fun B => iprop(_ ∗ B)) (around (fun jm : Fin 6 × Fin 10 => peers jm.1 jm.2) fun c jm => dutyTok ER (rcvCell c jm.1 jm.2) 0 0)

/-! ## What is dealt -/

/-- What the launch element deals device `c`. -/
def dealt : sProp 𝕄 :=
  iprop((bigSep Finset.univ fun x : Cell => roundState ER (sched X) (kcell (c, x)) 0)
    ∗ (bigSep Finset.univ fun x : Cell => iprop(atPos ER (kcell (c, x)) 0 ∅ 0 ∗ reached ER (kcell (c, x)) 0)) ∗ minted c)

/-- A device's positions, and the tokens it pays with. -/
def linear : sProp 𝕄 := iprop((bigSep Finset.univ fun x : Cell => atPos ER (kcell (c, x)) 0 ∅ 0) ∗ paid c)

/-- What it has when the invariants are made. -/
def given : sProp 𝕄 := iprop(∃ K, records X K ∗ linear c)

/-- The launch's ghost state yields what each device is dealt. -/
theorem fund_cells : BI.own (ER (initOf allCells allToks)) ⊢ (|==> bigSep Finset.univ (dealt X) : sProp 𝕄) := by
  have hX (Φ : GSem nD τ sig → sProp 𝕄) : bigSep allCells Φ = bigSep Finset.univ fun c : Dev nD => bigSep Finset.univ fun x : Cell => Φ (kcell (c, x)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => minted_eq c
  iintro HX
  imod (Rounds.fund ER (sched X) allCells allToks) $$ HX with ⟨Hst, Hr, Hat, Htok⟩
  imodintro
  ihave Hst := (Entails.of_eq (hX fun g => roundState ER (sched X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

omit [FloatOps F] in
/-- The barrier semaphore is the launch's one unscoped semaphore; -/
theorem unscoped_eq : (unscopedSems0 c : sProp 𝕄) = semVal (barCell c) 0 := by
  unfold unscopedSems0; rw [bigSep_eq_bigSepL_of_eq [SemLoc.reg barS] (by decide +kernel) (by decide)]; rfl

omit [FloatOps F] in
/-- with the scoped ones it makes the device's cells. -/
theorem sems_cells : iprop(Pipeline.ownSems0 (Ix := Unit) (Name := ℕ) (U := UU) (Lvl := ℕ) (Val := Elt F) (τ := τ) ownSem c ∗ unscopedSems0 c)
    ⊢ (bigSep Finset.univ fun x : Cell => semVal (kcell (c, x)) 0 : sProp 𝕄) := by
  rw [unscoped_eq, over_cells]
  unfold Pipeline.ownSems0
  iintro ⟨H1, H2⟩
  isplitl [H2]; · iexact H2
  iexact H1

/-- The invariants of a device's cells made. -/
theorem make_invs : iprop(Pipeline.ownSems0 (Ix := Unit) (Name := ℕ) (U := UU) (Lvl := ℕ) (Val := Elt F) (τ := τ) ownSem c ∗ unscopedSems0 c ∗ dealt X c)
      ⊢ |={Set.univ}=> iprop((bigSep Finset.univ fun x : Cell => iprop(∃ κ : ℕ, cellInv ER (sched X) κ (kcell (c, x))))
          ∗ (bigSep Finset.univ fun x : Cell => iprop(atPos ER (kcell (c, x)) 0 ∅ 0 ∗ reached ER (kcell (c, x)) 0)) ∗ minted c) := by
  unfold dealt
  iintro ⟨Hos, Hus, Hst, Hat, Htok⟩
  ihave Hv := (sems_cells (F := F) c) $$ [Hos Hus]
  · isplitl [Hos] <;> iassumption
  imod (show iprop((bigSep Finset.univ fun x : Cell => semVal (kcell (c, x)) 0) ∗ bigSep Finset.univ fun x : Cell => roundState ER (sched X) (kcell (c, x)) 0)
      ⊢ (|={Set.univ}=> bigSep Finset.univ fun x : Cell => iprop(∃ κ : ℕ, cellInv ER (sched X) κ (kcell (c, x))) : sProp 𝕄) from by
        rw [← bigSep_sep']
        exact (bigSep_mono fun x _ => (Rounds.body_intro ER (sched X) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A fact that may be used again and again turns each member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Everything regrouped by device. -/
theorem regroup :
    (bigSep Finset.univ fun c : Dev nD => iprop((bigSep Finset.univ fun x : Cell => iprop(∃ κ : ℕ, cellInv ER (sched X) κ (kcell (c, x))))
          ∗ (bigSep Finset.univ fun x : Cell => iprop(atPos ER (kcell (c, x)) 0 ∅ 0 ∗ reached ER (kcell (c, x)) 0)) ∗ minted c) : sProp 𝕄)
      ⊢ bigSep Finset.univ (given X) := by
  have eI := bigSep_univ_prod (M := 𝕄) (fun p : Dev nD × Cell => iprop(∃ κ : ℕ, cellInv ER (sched X) κ (kcell p)))
  have eA : (bigSep Finset.univ fun c : Dev nD => bigSep Finset.univ fun x : Cell => iprop(atPos ER (kcell (c, x)) 0 ∅ 0 ∗ reached ER (kcell (c, x)) 0))
      = iprop((bigSep Finset.univ fun c : Dev nD => bigSep Finset.univ fun x : Cell => (atPos ER (kcell (c, x)) 0 ∅ 0 : sProp 𝕄))
        ∗ bigSep Finset.univ fun p : Dev nD × Cell => reached ER (kcell p) 0) := by
    rw [bigSep_univ_prod (fun p : Dev nD × Cell => (reached ER (kcell p) 0 : sProp 𝕄)), ← bigSep_sep']
    exact bigSep_congr fun c _ => bigSep_sep' _ _ _
  have eL : (bigSep Finset.univ fun c => linear (F := F) c)
      = iprop((bigSep Finset.univ fun c : Dev nD => bigSep Finset.univ fun x : Cell => (atPos ER (kcell (c, x)) 0 ∅ 0 : sProp 𝕄)) ∗ bigSep Finset.univ fun c => paid c) :=
    bigSep_sep' _ _ _
  rw [bigSep_sep', bigSep_sep', eA, ← eI, minted_paid]
  iintro ⟨HI, ⟨Hat, #HR⟩, Htok⟩
  ihave HK := (BI.bigSep_exists_pi Finset.univ (fun (p : Dev nD × Cell) (κ : ℕ) => (cellInv ER (sched X) κ (kcell p) : sProp 𝕄))) $$ HI
  icases HK with ⟨%K, #HI⟩
  iapply (with_persistent (R := records X K) (Φ := fun c => linear (F := F) c) fun c _ => show iprop(records X K ∗ linear c) ⊢ given X c from by
    unfold given; iintro H; iexists K; iexact H)
  isplitr
  · unfold records
    rw [bigSep_sep']
    isplitl; · iexact HI
    iexact HR
  rw [eL]
  isplitl [Hat]; · iexact Hat
  iexact Htok

/-- The global step: all devices' semaphores and what was dealt, made into what each is given. -/
theorem glob : (bigSep Finset.univ fun c => iprop(Pipeline.ownSems0 (Ix := Unit) (Name := ℕ) (U := UU) (Lvl := ℕ) (Val := Elt F) (τ := τ) ownSem c ∗ unscopedSems0 c ∗ dealt X c) : sProp 𝕄)
    ⊢ |={Set.univ}=> bigSep Finset.univ (given X) :=
  ((bigSep_mono fun c _ => make_invs X c).trans (bigSep_fupd _ _)).trans (BI.fupd_mono (regroup X))

/-! ## The credits -/

/-- What a device owes at launch. -/
def O₀ : CellTallies nD τ sig Unit := owedBar Finset.univ c + owed (fun _ => Finset.univ) c

omit [FloatOps F] in
/-- One tally, read at a cell: its amount there, nothing elsewhere. -/
theorem tally_kcell (p q : Dev nD × Cell) (n : ℕ) : (tallyAt (kcell p) () n : CellTallies nD τ sig Unit) (kcell q) () = if p = q then n else 0 := by
  rw [tallyAt_apply]
  by_cases h : p = q
  · subst h; rw [if_pos ⟨rfl, rfl⟩, if_pos rfl]
  · rw [if_neg fun h' => h (kcell_injective h'.1).symm, if_neg h]

omit [FloatOps F] in
/-- What a device owes at a cell at launch: a unit for each partner's barrier, a message's credit for each receive
    cell it sends to. -/
theorem owed_at (d : Dev nD) (q : Dev nD × Cell) : O₀ d (kcell q) ()
    = (∑ a : Fin 3, if (flip a d, (.inl () : Cell)) = q then 1 else 0)
      + ∑ j : Fin 6, ∑ m : Fin 10, if (peer j m d, (.inr (true, j, m) : Cell)) = q then cr j m else 0 := by
  unfold O₀ owedBar owed
  rw [Pi.add_apply, Finsupp.add_apply, Finset.sum_apply, Finsupp.finset_sum_apply, Finset.sum_apply, Finsupp.finset_sum_apply]
  refine congrArg₂ (· + ·) ?_ ?_
  · exact Finset.sum_congr rfl fun a _ => tally_kcell (flip a d, .inl ()) q 1
  · refine Finset.sum_congr rfl fun j _ => ?_
    rw [Finset.sum_apply, Finsupp.finset_sum_apply]
    exact Finset.sum_congr rfl fun m _ => tally_kcell (peer j m d, .inr (true, j, m)) q (cr j m)

omit [FloatOps F] in
/-- The three partners' signals are all a barrier cell's credit; -/
theorem launch_bar : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  refine (Finset.sum_congr rfl fun d _ => owed_at d (c, .inl ())).trans ?_
  rw [Finset.sum_add_distrib, Finset.sum_comm, Finset.sum_eq_zero (s := Finset.univ) (f := fun d : Dev nD =>
    ∑ j : Fin 6, ∑ m : Fin 10, if (peer j m d, (.inr (true, j, m) : Cell)) = (c, .inl ()) then cr j m else 0) fun d _ =>
      Finset.sum_eq_zero fun j _ => Finset.sum_eq_zero fun m _ => if_neg fun h => by cases congrArg Prod.snd h]
  revert c; decide +kernel

omit [FloatOps F] in
/-- the message of the receive cell's credit is all of it. -/
theorem launch_rcv (j : Fin 6) (m : Fin 10) :
    tallyOn (rcvCell c j m) (launchCredit (Pipeline.owing O₀) 0 (rcvCell c j m)) = (tallyAt (rcvCell c j m) () (cr j m) : CellTallies nD τ sig Unit) := by
  unfold tallyAt; refine congrArg _ (Finsupp.ext fun u => ?_); cases u
  rw [Pipeline.launchCredit_owing, Finsupp.single_eq_same]
  refine (Finset.sum_congr rfl fun d _ => owed_at d (c, .inr (true, j, m))).trans ?_
  refine (Finset.sum_congr rfl fun d _ => show _ = if d = peer j m c then cr j m else 0 from ?_).trans
    ((Finset.sum_ite_eq' Finset.univ (peer j m c) fun _ => cr j m).trans (if_pos (Finset.mem_univ _)))
  refine (congrArg₂ (· + ·) (Finset.sum_eq_zero fun a _ => if_neg fun h => by cases congrArg Prod.snd h) rfl).trans ((Nat.zero_add _).trans ?_)
  rw [Finset.sum_eq_single j, Finset.sum_eq_single m]
  · refine if_congr ⟨fun h => ?_, fun h => ?_⟩ rfl rfl
    · exact (peer_peer j m d).symm.trans (congrArg (peer j m) (congrArg Prod.fst h))
    · rw [h, peer_peer]
  · intro m' _ hm
    exact if_neg fun h => hm (congrArg (fun x : Own => x.2.2) (Sum.inr.inj (congrArg Prod.snd h)))
  · exact fun h => absurd (Finset.mem_univ m) h
  · intro j' _ hj
    exact Finset.sum_eq_zero fun m' _ => if_neg fun h => hj (congrArg (fun x : Own => x.2.1) (Sum.inr.inj (congrArg Prod.snd h)))
  · exact fun h => absurd (Finset.mem_univ j) h

omit [FloatOps F] in
/-- What a device is credited at launch: three units at its barrier, each message's credit at its receive cells. -/
theorem credits : (Pipeline.launchCred O₀ c : sProp 𝕄)
    ⊢ iprop(cred (tallyAt (barCell c) () 3) ∗ bigSep Finset.univ fun jm : Fin 6 × Fin 10 => cred (tallyAt (rcvCell c jm.1 jm.2) () (cr jm.1 jm.2))) := by
  unfold Pipeline.launchCred
  refine BIBase.Entails.trans (BI.bigSep_subset (Finset.subset_univ (Finset.univ.map ⟨semAt, semAt_injective⟩))) ?_
  rw [bigSep_map, over_cells, over_own]
  iintro ⟨H1, -, H2⟩
  isplitl [H1]
  · rw [← launch_bar c]; iexact H1
  · rw [bigSep_univ_prod]
    rw [bigSep_congr (s := Finset.univ) fun j _ => bigSep_congr (s := Finset.univ) fun m _ => congrArg cred (launch_rcv c j m).symm]
    iexact H2

/-- All a device's body starts with, from what it was given and its credits. -/
theorem tokens_intro : iprop(linear (F := F) c ∗ cred (tallyAt (barCell c) () 3)
      ∗ bigSep Finset.univ fun jm : Fin 6 × Fin 10 => cred (tallyAt (rcvCell c jm.1 jm.2) () (cr jm.1 jm.2))) ⊢ tokens c := by
  unfold linear paid tokens
  rw [over_cells, over_own]
  have e : (bigSep Finset.univ fun j => iprop(bigSep Finset.univ (todoP (F := F) c j) ∗ bigSep Finset.univ (waitP (F := F) c j)))
      = iprop(((bigSep Finset.univ fun j => bigSep Finset.univ fun m => atPos ER (sndCell c j m) 0 ∅ 0)
          ∗ (bigSep Finset.univ fun jm : Fin 6 × Fin 10 => dutyTok ER (sndCell c jm.1 jm.2) 0 0)
          ∗ bigSep Finset.univ fun jm : Fin 6 × Fin 10 => dutyTok ER (rcvCell (peer jm.1 jm.2 c) jm.1 jm.2) 0 0)
        ∗ (bigSep Finset.univ fun j => bigSep Finset.univ fun m => atPos ER (rcvCell c j m) 0 ∅ 0)
        ∗ bigSep Finset.univ fun jm : Fin 6 × Fin 10 => cred (tallyAt (rcvCell c jm.1 jm.2) () (cr jm.1 jm.2))) := by
    have e1 (j : Fin 6) : bigSep Finset.univ (todoP (F := F) c j) = iprop((bigSep Finset.univ fun m => atPos ER (sndCell c j m) 0 ∅ 0)
        ∗ (bigSep Finset.univ fun m => dutyTok ER (sndCell c j m) 0 0) ∗ bigSep Finset.univ fun m => dutyTok ER (rcvCell (peer j m c) j m) 0 0) :=
      (bigSep_sep' Finset.univ _ _).trans (congrArg (fun A => iprop(_ ∗ A)) (bigSep_sep' Finset.univ _ _))
    have e2 (j : Fin 6) : bigSep Finset.univ (waitP (F := F) c j) = iprop((bigSep Finset.univ fun m => atPos ER (rcvCell c j m) 0 ∅ 0)
        ∗ bigSep Finset.univ fun m => cred (tallyAt (rcvCell c j m) () (cr j m))) := bigSep_sep' Finset.univ _ _
    simp only [e1, e2, bigSep_sep', bigSep_univ_prod]
  rw [e]
  iintro ⟨⟨⟨Hb, Hs, Hr⟩, Ht, Hts, Htr⟩, Hc, Hcs⟩
  isplitl [Hb Hc]
  · isplitl [Hb]; · iexact Hb
    iexact Hc
  isplitl [Ht]; · iexact Ht
  isplitl [Hs Hts Htr]
  · isplitl [Hs]; · iexact Hs
    isplitl [Hts]; · iexact Hts
    iexact Htr
  isplitl [Hr]; · iexact Hr
  iexact Hcs

end Cert.AllReduceIdeal

end
-- ==== Proof.Ideal.First.lean ====
/-
The computation of the constants and the first halving: messages 0, the sums of the rows received by them and the messages 1.
-/
module

public import proofs.«01_k».proof.Proof.Ideal.Runs

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD) {hx : xM.IsWhole} {ho : oM.IsWhole} {hr : rM.IsWhole}

/-- Nothing but arithmetic on the device's place. -/
theorem part3 {w0 w1 w2 w3 w4 : BitVec 32} :
    Runs X K c (k0_part3 xM hx oM ho rM hr cc0_scratch1 cc0_scratch2 w0 w1 w2 w3 w4) ![0, 0, 0, 0, 0, 0] ![0, 0, 0, 0, 0, 0] := by
  rw [k0_part3_eq_skeleton]; exact runs_ret X K c _ _

/-- Nothing but arithmetic on the device's place. -/
theorem part4 {w0 w1 w2 w3 w4 : BitVec 32} :
    Runs X K c (k0_part4 xM hx oM ho rM hr cc0_scratch1 cc0_scratch2 w0 w1 w2 w3 w4) ![0, 0, 0, 0, 0, 0] ![0, 0, 0, 0, 0, 0] := by
  rw [k0_part4_eq_skeleton]; exact runs_ret X K c _ _

/-- Nothing but arithmetic on the device's place. -/
theorem part5 {w0 w1 w2 w3 w4 : BitVec 32} :
    Runs X K c (k0_part5 xM hx oM ho rM hr cc0_scratch1 cc0_scratch2 w0 w1 w2 w3 w4) ![0, 0, 0, 0, 0, 0] ![0, 0, 0, 0, 0, 0] := by
  rw [k0_part5_eq_skeleton]; exact runs_ret X K c _ _

/-- Nothing but arithmetic on the device's place. -/
theorem part6 {w0 w1 w2 w3 : BitVec 32} :
    Runs X K c (k0_part6 xM hx oM ho rM hr cc0_scratch1 cc0_scratch2 w0 w1 w2 w3) ![0, 0, 0, 0, 0, 0] ![0, 0, 0, 0, 0, 0] := by
  rw [k0_part6_eq_skeleton]; exact runs_ret X K c _ _

/-- Nothing but arithmetic on the device's place. -/
theorem part7 {w0 w1 w2 w3 w4 : BitVec 32} :
    Runs X K c (k0_part7 xM hx oM ho rM hr cc0_scratch1 cc0_scratch2 w0 w1 w2 w3 w4) ![0, 0, 0, 0, 0, 0] ![0, 0, 0, 0, 0, 0] := by
  rw [k0_part7_eq_skeleton]; exact runs_ret X K c _ _

/-- Nothing but arithmetic on the device's place. -/
theorem part8 {w0 w1 w2 w3 w4 w5 : BitVec 32} :
    Runs X K c (k0_part8 xM hx oM ho rM hr cc0_scratch1 cc0_scratch2 w0 w1 w2 w3 w4 w5) ![0, 0, 0, 0, 0, 0] ![0, 0, 0, 0, 0, 0] := by
  rw [k0_part8_eq_skeleton]; exact runs_ret X K c _ _

/-- Nothing but arithmetic on the device's place. -/
theorem part9 {w0 w1 w2 w3 w4 w5 w6 : BitVec 32} :
    Runs X K c (k0_part9 xM hx oM ho rM hr cc0_scratch1 cc0_scratch2 w0 w1 w2 w3 w4 w5 w6) ![0, 0, 0, 0, 0, 0] ![0, 0, 0, 0, 0, 0] := by
  rw [k0_part9_eq_skeleton]; exact runs_ret X K c _ _

/-- Nothing but arithmetic on the device's place. -/
theorem part10 {w0 w1 w2 w3 w4 w5 : BitVec 32} :
    Runs X K c (k0_part10 xM hx oM ho rM hr cc0_scratch1 cc0_scratch2 c w0 w1 w2 w3 w4 w5) ![0, 0, 0, 0, 0, 0] ![0, 0, 0, 0, 0, 0] := by
  rw [k0_part10_eq_skeleton]; exact runs_ret X K c _ _

/-- The messages of chunks 0 and 1: send 0. -/
theorem part11 {w0 w1 w2 w3 w4 : BitVec 32} :
    Runs X K c (k0_part11 xM hx oM ho rM hr cc0_scratch1 cc0_scratch2 c w0 w1 w2 w3 w4) ![0, 0, 0, 0, 0, 0] ![1, 1, 0, 0, 0, 0] := by
  intro Q R h
  rw [k0_part11_eq_skeleton]; unfold k0_part11_skel
  simp only [Prog.lift, Prog.bind_op, Prog.bind_ret, Prog.pure_eq_ret]
  refine step_send0 X K c (j := 0) rfl (dev_x c (k0_dev4_eq c)) rfl (off1 0 c) rfl rfl rfl ?_
  refine step_send0 X K c (j := 1) rfl (dev_y c (k0_dev5_eq c)) rfl (off1 1 c) rfl rfl rfl ?_
  exact wpc_end c (St_at X K c (by decide) (h _ trivial))

/-- The messages of chunks 2 and 3: send 0. -/
theorem part12 {w0 w1 w2 w3 w4 : BitVec 32} :
    Runs X K c (k0_part12 xM hx oM ho rM hr cc0_scratch1 cc0_scratch2 c w0 w1 w2 w3 w4) ![1, 1, 0, 0, 0, 0] ![1, 1, 1, 1, 0, 0] := by
  intro Q R h
  rw [k0_part12_eq_skeleton]; unfold k0_part12_skel
  simp only [Prog.lift, Prog.bind_op, Prog.bind_ret, Prog.pure_eq_ret]
  refine step_send0 X K c (j := 2) rfl (dev_z c (k0_dev6_eq c)) rfl (off1 2 c) rfl rfl rfl ?_
  refine step_send0 X K c (j := 3) rfl (dev_x c (k0_dev7_eq c)) rfl (off1 3 c) rfl rfl rfl ?_
  exact wpc_end c (St_at X K c (by decide) (h _ trivial))

/-- The messages of chunk 0: receive 0; chunks 4 and 5: send 0. -/
theorem part13 {w0 w1 w2 w3 w4 : BitVec 32} :
    Runs X K c (k0_part13 xM hx oM ho rM hr cc0_scratch1 cc0_scratch2 c w0 w1 w2 w3 w4) ![1, 1, 1, 1, 0, 0] ![2, 1, 1, 1, 1, 1] := by
  intro Q R h
  rw [k0_part13_eq_skeleton]; unfold k0_part13_skel
  simp only [Prog.lift, Prog.bind_op, Prog.bind_ret, Prog.pure_eq_ret]
  refine step_send0 X K c (j := 4) rfl (dev_y c (k0_dev8_eq c)) rfl (off2 0 c) rfl rfl rfl ?_
  refine step_send0 X K c (j := 5) rfl (dev_z c (k0_dev9_eq c)) rfl (off2 1 c) rfl rfl rfl ?_
  refine step_wait X K c (j := 0) (m := 0) rfl (by decide +kernel) rfl rfl ?_
  exact wpc_end c (St_at X K c (by decide) (h _ trivial))

/-- The messages of chunk 0: add 0, send 1. -/
theorem part14 {w0 w1 w2 w3 : BitVec 32} :
    Runs X K c (k0_part14 xM hx oM ho rM hr cc0_scratch1 cc0_scratch2 c w0 w1 w2 w3) ![2, 1, 1, 1, 1, 1] ![4, 1, 1, 1, 1, 1] := by
  intro Q R h
  rw [k0_part14_eq_skeleton]; unfold k0_part14_skel
  simp only [Prog.lift, Prog.bind_op, Prog.bind_ret, Prog.pure_eq_ret]
  refine load_x X K c 0 rfl (off3 0 c) ?_
  refine load_slot X K c 0 0 (by decide +kernel) rfl rfl ?_
  refine load_dead X K c 0 0 rfl rfl (off4 0 c) fun _ => ?_
  refine step_add X K c (j := 0) (k := 0) rfl rfl (off4 0 c) (sum_first X c 0 (off3 0 c) rfl rfl) ?_
  refine step_send12 X K c (j := 0) (m := 1) rfl (Or.inl rfl) (dev_y c (k0_dev10_eq c)) rfl (off5 0 c) rfl rfl rfl ?_
  exact wpc_end c (St_at X K c (by decide) (h _ trivial))

/-- The messages of chunk 1: receive 0, add 0, send 1. -/
theorem part15 {w0 w1 w2 w3 w4 w5 : BitVec 32} :
    Runs X K c (k0_part15 xM hx oM ho rM hr cc0_scratch1 cc0_scratch2 c w0 w1 w2 w3 w4 w5) ![4, 1, 1, 1, 1, 1] ![4, 4, 1, 1, 1, 1] := by
  intro Q R h
  rw [k0_part15_eq_skeleton]; unfold k0_part15_skel
  simp only [Prog.lift, Prog.bind_op, Prog.bind_ret, Prog.pure_eq_ret]
  refine step_wait X K c (j := 1) (m := 0) rfl (by decide +kernel) rfl rfl ?_
  refine load_x X K c 1 rfl (off3 1 c) ?_
  refine load_slot X K c 1 0 (by decide +kernel) rfl rfl ?_
  refine load_dead X K c 1 0 rfl rfl (off4 1 c) fun _ => ?_
  refine step_add X K c (j := 1) (k := 0) rfl rfl (off4 1 c) (sum_first X c 1 (off3 1 c) rfl rfl) ?_
  refine step_send12 X K c (j := 1) (m := 1) rfl (Or.inl rfl) (dev_z c (k0_dev11_eq c)) rfl (off5 1 c) rfl rfl rfl ?_
  exact wpc_end c (St_at X K c (by decide) (h _ trivial))

/-- The messages of chunk 2: receive 0, add 0. -/
theorem part16 {w0 w1 w2 w3 w4 w5 : BitVec 32} :
    Runs X K c (k0_part16 xM hx oM ho rM hr cc0_scratch1 cc0_scratch2 c w0 w1 w2 w3 w4 w5) ![4, 4, 1, 1, 1, 1] ![4, 4, 3, 1, 1, 1] := by
  intro Q R h
  rw [k0_part16_eq_skeleton]; unfold k0_part16_skel
  simp only [Prog.lift, Prog.bind_op, Prog.bind_ret, Prog.pure_eq_ret]
  refine step_wait X K c (j := 2) (m := 0) rfl (by decide +kernel) rfl rfl ?_
  refine load_x X K c 2 rfl (off3 2 c) ?_
  refine load_slot X K c 2 0 (by decide +kernel) rfl rfl ?_
  refine load_dead X K c 2 0 rfl rfl (off4 2 c) fun _ => ?_
  refine step_add X K c (j := 2) (k := 0) rfl rfl (off4 2 c) (sum_first X c 2 (off3 2 c) rfl rfl) ?_
  exact wpc_end c (St_at X K c (by decide) (h _ trivial))

/-- The messages of chunk 2: send 1; chunk 3: receive 0, add 0. -/
theorem part17 {w0 w1 w2 w3 w4 : BitVec 32} :
    Runs X K c (k0_part17 xM hx oM ho rM hr cc0_scratch1 cc0_scratch2 c w0 w1 w2 w3 w4) ![4, 4, 3, 1, 1, 1] ![4, 4, 4, 3, 1, 1] := by
  intro Q R h
  rw [k0_part17_eq_skeleton]; unfold k0_part17_skel
  simp only [Prog.lift, Prog.bind_op, Prog.bind_ret, Prog.pure_eq_ret]
  refine step_send12 X K c (j := 2) (m := 1) rfl (Or.inl rfl) (dev_x c (k0_dev12_eq c)) rfl (off5 2 c) rfl rfl rfl ?_
  refine step_wait X K c (j := 3) (m := 0) rfl (by decide +kernel) rfl rfl ?_
  refine load_x X K c 3 rfl (off3 3 c) ?_
  refine load_slot X K c 3 0 (by decide +kernel) rfl rfl ?_
  refine load_dead X K c 3 0 rfl rfl (off4 3 c) fun _ => ?_
  refine step_add X K c (j := 3) (k := 0) rfl rfl (off4 3 c) (sum_first X c 3 (off3 3 c) rfl rfl) ?_
  exact wpc_end c (St_at X K c (by decide) (h _ trivial))

/-- The messages of chunk 3: send 1; chunk 4: receive 0. -/
theorem part18 {w0 w1 w2 w3 w4 w5 : BitVec 32} :
    Runs X K c (k0_part18 xM hx oM ho rM hr cc0_scratch1 cc0_scratch2 c w0 w1 w2 w3 w4 w5) ![4, 4, 4, 3, 1, 1] ![4, 4, 4, 4, 2, 1] (fun w => IsSum X c 4 0 w) := by
  intro Q R h
  rw [k0_part18_eq_skeleton]; unfold k0_part18_skel
  simp only [Prog.lift, Prog.bind_op, Prog.bind_ret, Prog.pure_eq_ret]
  refine step_send12 X K c (j := 3) (m := 1) rfl (Or.inl rfl) (dev_y c (k0_dev13_eq c)) rfl (off5 3 c) rfl rfl rfl ?_
  refine step_wait X K c (j := 4) (m := 0) rfl (by decide +kernel) rfl rfl ?_
  refine load_x X K c 4 rfl (off6 0 c) ?_
  refine load_slot X K c 4 0 (by decide +kernel) rfl rfl ?_
  refine load_dead X K c 4 0 rfl rfl (off7 0 c) fun _ => ?_
  exact wpc_end c (St_at X K c (by decide) (h _ (sum_first X c 4 (off6 0 c) rfl rfl)))

/-- The messages of chunk 4: add 0, send 1; chunk 5: receive 0. -/
theorem part19 {w0 w1 w2 w3 : BitVec 32} {w : FVec F S64x1024 .f32} (hw : IsSum X c 4 0 w) :
    Runs X K c (k0_part19 xM hx oM ho rM hr cc0_scratch1 cc0_scratch2 c w0 w1 w2 w3 w) ![4, 4, 4, 4, 2, 1] ![4, 4, 4, 4, 4, 2] := by
  intro Q R h
  rw [k0_part19_eq_skeleton]; unfold k0_part19_skel
  simp only [Prog.lift, Prog.bind_op, Prog.bind_ret, Prog.pure_eq_ret]
  refine step_add X K c (j := 4) (k := 0) rfl rfl (off7 0 c) hw ?_
  refine step_send12 X K c (j := 4) (m := 1) rfl (Or.inl rfl) (dev_z c (k0_dev14_eq c)) rfl (off8 0 c) rfl rfl rfl ?_
  refine step_wait X K c (j := 5) (m := 0) rfl (by decide +kernel) rfl rfl ?_
  exact wpc_end c (St_at X K c (by decide) (h _ trivial))

/-- The messages of chunk 5: add 0, send 1. -/
theorem part20 {w0 w1 w2 w3 w4 w5 : BitVec 32} :
    Runs X K c (k0_part20 xM hx oM ho rM hr cc0_scratch1 cc0_scratch2 c w0 w1 w2 w3 w4 w5) ![4, 4, 4, 4, 4, 2] ![4, 4, 4, 4, 4, 4] := by
  intro Q R h
  rw [k0_part20_eq_skeleton]; unfold k0_part20_skel
  simp only [Prog.lift, Prog.bind_op, Prog.bind_ret, Prog.pure_eq_ret]
  refine load_x X K c 5 rfl (off6 1 c) ?_
  refine load_slot X K c 5 0 (by decide +kernel) rfl rfl ?_
  refine load_dead X K c 5 0 rfl rfl (off7 1 c) fun _ => ?_
  refine step_add X K c (j := 5) (k := 0) rfl rfl (off7 1 c) (sum_first X c 5 (off6 1 c) rfl rfl) ?_
  refine step_send12 X K c (j := 5) (m := 1) rfl (Or.inl rfl) (dev_x c (k0_dev15_eq c)) rfl (off8 1 c) rfl rfl rfl ?_
  exact wpc_end c (St_at X K c (by decide) (h _ trivial))

end Cert.AllReduceIdeal

end
-- ==== Proof.Ideal.Second.lean ====
/-
The second halving: the sums of the rows received by messages 1, and messages 2.
-/
module

public import proofs.«01_k».proof.Proof.Ideal.Runs

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD) {hx : xM.IsWhole} {ho : oM.IsWhole} {hr : rM.IsWhole}

/-- The messages of chunk 0: receive 1, add 1, send 2. -/
theorem part21 {w0 w1 w2 w3 : BitVec 32} :
    Runs X K c (k0_part21 xM hx oM ho rM hr cc0_scratch1 cc0_scratch2 c w0 w1 w2 w3) ![4, 4, 4, 4, 4, 4] ![7, 4, 4, 4, 4, 4] := by
  intro Q R h
  rw [k0_part21_eq_skeleton]; unfold k0_part21_skel
  simp only [Prog.lift, Prog.bind_op, Prog.bind_ret, Prog.pure_eq_ret]
  refine step_wait X K c (j := 0) (m := 1) rfl (by decide +kernel) rfl rfl ?_
  refine load_sum X K c 0 1 (by decide) rfl rfl (off9 0 c) ?_
  refine load_slot X K c 0 1 (by decide +kernel) rfl rfl ?_
  refine load_dead X K c 0 1 rfl rfl (off9 0 c) fun _ => ?_
  refine step_add X K c (j := 0) (k := 1) rfl rfl (off9 0 c) (sum_next X c 0 1 (off9 0 c) rfl rfl) ?_
  refine step_send12 X K c (j := 0) (m := 2) rfl (Or.inr rfl) (dev_z c (k0_dev16_eq c)) rfl (off10 0 c) rfl rfl rfl ?_
  exact wpc_end c (St_at X K c (by decide) (h _ trivial))

/-- The messages of chunk 1: receive 1, add 1, send 2. -/
theorem part22 {w0 w1 w2 w3 : BitVec 32} :
    Runs X K c (k0_part22 xM hx oM ho rM hr cc0_scratch1 cc0_scratch2 c w0 w1 w2 w3) ![7, 4, 4, 4, 4, 4] ![7, 7, 4, 4, 4, 4] := by
  intro Q R h
  rw [k0_part22_eq_skeleton]; unfold k0_part22_skel
  simp only [Prog.lift, Prog.bind_op, Prog.bind_ret, Prog.pure_eq_ret]
  refine step_wait X K c (j := 1) (m := 1) rfl (by decide +kernel) rfl rfl ?_
  refine load_sum X K c 1 1 (by decide) rfl rfl (off9 1 c) ?_
  refine load_slot X K c 1 1 (by decide +kernel) rfl rfl ?_
  refine load_dead X K c 1 1 rfl rfl (off9 1 c) fun _ => ?_
  refine step_add X K c (j := 1) (k := 1) rfl rfl (off9 1 c) (sum_next X c 1 1 (off9 1 c) rfl rfl) ?_
  refine step_send12 X K c (j := 1) (m := 2) rfl (Or.inr rfl) (dev_x c (k0_dev17_eq c)) rfl (off10 1 c) rfl rfl rfl ?_
  exact wpc_end c (St_at X K c (by decide) (h _ trivial))

/-- The messages of chunk 2: receive 1, add 1, send 2. -/
theorem part23 {w0 w1 w2 w3 w4 w5 : BitVec 32} :
    Runs X K c (k0_part23 xM hx oM ho rM hr cc0_scratch1 cc0_scratch2 c w0 w1 w2 w3 w4 w5) ![7, 7, 4, 4, 4, 4] ![7, 7, 7, 4, 4, 4] := by
  intro Q R h
  rw [k0_part23_eq_skeleton]; unfold k0_part23_skel
  simp only [Prog.lift, Prog.bind_op, Prog.bind_ret, Prog.pure_eq_ret]
  refine step_wait X K c (j := 2) (m := 1) rfl (by decide +kernel) rfl rfl ?_
  refine load_sum X K c 2 1 (by decide) rfl rfl (off9 2 c) ?_
  refine load_slot X K c 2 1 (by decide +kernel) rfl rfl ?_
  refine load_dead X K c 2 1 rfl rfl (off9 2 c) fun _ => ?_
  refine step_add X K c (j := 2) (k := 1) rfl rfl (off9 2 c) (sum_next X c 2 1 (off9 2 c) rfl rfl) ?_
  refine step_send12 X K c (j := 2) (m := 2) rfl (Or.inr rfl) (dev_y c (k0_dev18_eq c)) rfl (off10 2 c) rfl rfl rfl ?_
  exact wpc_end c (St_at X K c (by decide) (h _ trivial))

/-- The messages of chunk 3: receive 1, add 1, send 2. -/
theorem part24 {w0 w1 w2 w3 w4 w5 w6 w7 : BitVec 32} :
    Runs X K c (k0_part24 xM hx oM ho rM hr cc0_scratch1 cc0_scratch2 c w0 w1 w2 w3 w4 w5 w6 w7) ![7, 7, 7, 4, 4, 4] ![7, 7, 7, 7, 4, 4] := by
  intro Q R h
  rw [k0_part24_eq_skeleton]; unfold k0_part24_skel
  simp only [Prog.lift, Prog.bind_op, Prog.bind_ret, Prog.pure_eq_ret]
  refine step_wait X K c (j := 3) (m := 1) rfl (by decide +kernel) rfl rfl ?_
  refine load_sum X K c 3 1 (by decide) rfl rfl (off9 3 c) ?_
  refine load_slot X K c 3 1 (by decide +kernel) rfl rfl ?_
  refine load_dead X K c 3 1 rfl rfl (off9 3 c) fun _ => ?_
  refine step_add X K c (j := 3) (k := 1) rfl rfl (off9 3 c) (sum_next X c 3 1 (off9 3 c) rfl rfl) ?_
  refine step_send12 X K c (j := 3) (m := 2) rfl (Or.inr rfl) (dev_z c (k0_dev19_eq c)) rfl (off10 3 c) rfl rfl rfl ?_
  exact wpc_end c (St_at X K c (by decide) (h _ trivial))

/-- The messages of chunk 4: receive 1, add 1, send 2. -/
theorem part25 {w0 w1 w2 w3 w4 w5 w6 : BitVec 32} :
    Runs X K c (k0_part25 xM hx oM ho rM hr cc0_scratch1 cc0_scratch2 c w0 w1 w2 w3 w4 w5 w6) ![7, 7, 7, 7, 4, 4] ![7, 7, 7, 7, 7, 4] := by
  intro Q R h
  rw [k0_part25_eq_skeleton]; unfold k0_part25_skel
  simp only [Prog.lift, Prog.bind_op, Prog.bind_ret, Prog.pure_eq_ret]
  refine step_wait X K c (j := 4) (m := 1) rfl (by decide +kernel) rfl rfl ?_
  refine load_sum X K c 4 1 (by decide) rfl rfl (off11 0 c) ?_
  refine load_slot X K c 4 1 (by decide +kernel) rfl rfl ?_
  refine load_dead X K c 4 1 rfl rfl (off11 0 c) fun _ => ?_
  refine step_add X K c (j := 4) (k := 1) rfl rfl (off11 0 c) (sum_next X c 4 1 (off11 0 c) rfl rfl) ?_
  refine step_send12 X K c (j := 4) (m := 2) rfl (Or.inr rfl) (dev_x c (k0_dev20_eq c)) rfl (off12 0 c) rfl rfl rfl ?_
  exact wpc_end c (St_at X K c (by decide) (h _ trivial))

/-- The messages of chunk 5: receive 1, add 1. -/
theorem part26 {w0 w1 w2 w3 w4 w5 : BitVec 32} :
    Runs X K c (k0_part26 xM hx oM ho rM hr cc0_scratch1 cc0_scratch2 c w0 w1 w2 w3 w4 w5) ![7, 7, 7, 7, 7, 4] ![7, 7, 7, 7, 7, 6] := by
  intro Q R h
  rw [k0_part26_eq_skeleton]; unfold k0_part26_skel
  simp only [Prog.lift, Prog.bind_op, Prog.bind_ret, Prog.pure_eq_ret]
  refine step_wait X K c (j := 5) (m := 1) rfl (by decide +kernel) rfl rfl ?_
  refine load_sum X K c 5 1 (by decide) rfl rfl (off11 1 c) ?_
  refine load_slot X K c 5 1 (by decide +kernel) rfl rfl ?_
  refine load_dead X K c 5 1 rfl rfl (off11 1 c) fun _ => ?_
  refine step_add X K c (j := 5) (k := 1) rfl rfl (off11 1 c) (sum_next X c 5 1 (off11 1 c) rfl rfl) ?_
  exact wpc_end c (St_at X K c (by decide) (h _ trivial))

end Cert.AllReduceIdeal

end
-- ==== Proof.Ideal.Third.lean ====
/-
The third halving: the sums of the rows received by messages 2, and the sending of each device's own blocks.
-/
module

public import proofs.«01_k».proof.Proof.Ideal.Runs

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD) {hx : xM.IsWhole} {ho : oM.IsWhole} {hr : rM.IsWhole}

/-- The messages of chunk 0: receive 2, add 2; chunk 5: send 2. -/
theorem part27 {w0 w1 w2 w3 : BitVec 32} :
    Runs X K c (k0_part27 xM hx oM ho rM hr cc0_scratch1 cc0_scratch2 c w0 w1 w2 w3) ![7, 7, 7, 7, 7, 6] ![9, 7, 7, 7, 7, 7] := by
  intro Q R h
  rw [k0_part27_eq_skeleton]; unfold k0_part27_skel
  simp only [Prog.lift, Prog.bind_op, Prog.bind_ret, Prog.pure_eq_ret]
  refine step_send12 X K c (j := 5) (m := 2) rfl (Or.inr rfl) (dev_y c (k0_dev21_eq c)) rfl (off12 1 c) rfl rfl rfl ?_
  refine step_wait X K c (j := 0) (m := 2) rfl (by decide +kernel) rfl rfl ?_
  refine load_sum X K c 0 2 (by decide) rfl rfl (off13 0 c) ?_
  refine load_slot X K c 0 2 (by decide +kernel) rfl rfl ?_
  refine load_dead X K c 0 2 rfl rfl (off13 0 c) fun _ => ?_
  refine step_add X K c (j := 0) (k := 2) rfl rfl (off13 0 c) (sum_next X c 0 2 (off13 0 c) rfl rfl) ?_
  exact wpc_end c (St_at X K c (by decide) (h _ trivial))

/-- The messages of chunk 0: send 3, 4 and 6. -/
theorem part28 {w0 w1 w2 w3 w4 : BitVec 32} :
    Runs X K c (k0_part28 xM hx oM ho rM hr cc0_scratch1 cc0_scratch2 c w0 w1 w2 w3 w4) ![9, 7, 7, 7, 7, 7] ![12, 7, 7, 7, 7, 7] := by
  intro Q R h
  rw [k0_part28_eq_skeleton]; unfold k0_part28_skel
  simp only [Prog.lift, Prog.bind_op, Prog.bind_ret, Prog.pure_eq_ret]
  refine step_sendG X K c (j := 0) (m := 3) rfl (by decide) (dev_z c (k0_dev22_eq c)) rfl (off14 0 c) rfl rfl ?_
  refine step_sendG X K c (j := 0) (m := 4) rfl (by decide) (dev_y c (k0_dev23_eq c)) rfl (off14 0 c) rfl rfl ?_
  refine step_sendG X K c (j := 0) (m := 6) rfl (by decide) (dev_x c (k0_dev24_eq c)) rfl (off14 0 c) rfl rfl ?_
  exact wpc_end c (St_at X K c (by decide) (h _ trivial))

/-- The messages of chunk 1: receive 2, add 2, send 3. -/
theorem part29 {w0 w1 w2 w3 w4 w5 w6 : BitVec 32} :
    Runs X K c (k0_part29 xM hx oM ho rM hr cc0_scratch1 cc0_scratch2 c w0 w1 w2 w3 w4 w5 w6) ![12, 7, 7, 7, 7, 7] ![12, 10, 7, 7, 7, 7] := by
  intro Q R h
  rw [k0_part29_eq_skeleton]; unfold k0_part29_skel
  simp only [Prog.lift, Prog.bind_op, Prog.bind_ret, Prog.pure_eq_ret]
  refine step_wait X K c (j := 1) (m := 2) rfl (by decide +kernel) rfl rfl ?_
  refine load_sum X K c 1 2 (by decide) rfl rfl (off13 1 c) ?_
  refine load_slot X K c 1 2 (by decide +kernel) rfl rfl ?_
  refine load_dead X K c 1 2 rfl rfl (off13 1 c) fun _ => ?_
  refine step_add X K c (j := 1) (k := 2) rfl rfl (off13 1 c) (sum_next X c 1 2 (off13 1 c) rfl rfl) ?_
  refine step_sendG X K c (j := 1) (m := 3) rfl (by decide) (dev_x c (k0_dev25_eq c)) rfl (off14 1 c) rfl rfl ?_
  exact wpc_end c (St_at X K c (by decide) (h _ trivial))

/-- The messages of chunk 1: send 4 and 6; chunk 2: receive 2. -/
theorem part30 {w0 w1 w2 w3 w4 w5 : BitVec 32} :
    Runs X K c (k0_part30 xM hx oM ho rM hr cc0_scratch1 cc0_scratch2 c w0 w1 w2 w3 w4 w5) ![12, 10, 7, 7, 7, 7] ![12, 12, 8, 7, 7, 7] := by
  intro Q R h
  rw [k0_part30_eq_skeleton]; unfold k0_part30_skel
  simp only [Prog.lift, Prog.bind_op, Prog.bind_ret, Prog.pure_eq_ret]
  refine step_sendG X K c (j := 1) (m := 4) rfl (by decide) (dev_z c (k0_dev26_eq c)) rfl (off14 1 c) rfl rfl ?_
  refine step_sendG X K c (j := 1) (m := 6) rfl (by decide) (dev_y c (k0_dev27_eq c)) rfl (off14 1 c) rfl rfl ?_
  refine step_wait X K c (j := 2) (m := 2) rfl (by decide +kernel) rfl rfl ?_
  exact wpc_end c (St_at X K c (by decide) (h _ trivial))

/-- The messages of chunk 2: add 2, send 3 and 4. -/
theorem part31 {w0 w1 w2 w3 w4 w5 : BitVec 32} :
    Runs X K c (k0_part31 xM hx oM ho rM hr cc0_scratch1 cc0_scratch2 c w0 w1 w2 w3 w4 w5) ![12, 12, 8, 7, 7, 7] ![12, 12, 11, 7, 7, 7] := by
  intro Q R h
  rw [k0_part31_eq_skeleton]; unfold k0_part31_skel
  simp only [Prog.lift, Prog.bind_op, Prog.bind_ret, Prog.pure_eq_ret]
  refine load_sum X K c 2 2 (by decide) rfl rfl (off13 2 c) ?_
  refine load_slot X K c 2 2 (by decide +kernel) rfl rfl ?_
  refine load_dead X K c 2 2 rfl rfl (off13 2 c) fun _ => ?_
  refine step_add X K c (j := 2) (k := 2) rfl rfl (off13 2 c) (sum_next X c 2 2 (off13 2 c) rfl rfl) ?_
  refine step_sendG X K c (j := 2) (m := 3) rfl (by decide) (dev_y c (k0_dev28_eq c)) rfl (off14 2 c) rfl rfl ?_
  refine step_sendG X K c (j := 2) (m := 4) rfl (by decide) (dev_x c (k0_dev29_eq c)) rfl (off14 2 c) rfl rfl ?_
  exact wpc_end c (St_at X K c (by decide) (h _ trivial))

/-- The messages of chunk 2: send 6; chunk 3: receive 2. -/
theorem part32 {w0 w1 w2 w3 : BitVec 32} :
    Runs X K c (k0_part32 xM hx oM ho rM hr cc0_scratch1 cc0_scratch2 c w0 w1 w2 w3) ![12, 12, 11, 7, 7, 7] ![12, 12, 12, 8, 7, 7] (fun w => IsSum X c 3 2 w) := by
  intro Q R h
  rw [k0_part32_eq_skeleton]; unfold k0_part32_skel
  simp only [Prog.lift, Prog.bind_op, Prog.bind_ret, Prog.pure_eq_ret]
  refine step_sendG X K c (j := 2) (m := 6) rfl (by decide) (dev_z c (k0_dev30_eq c)) rfl (off14 2 c) rfl rfl ?_
  refine step_wait X K c (j := 3) (m := 2) rfl (by decide +kernel) rfl rfl ?_
  refine load_sum X K c 3 2 (by decide) rfl rfl (off13 3 c) ?_
  refine load_slot X K c 3 2 (by decide +kernel) rfl rfl ?_
  refine load_dead X K c 3 2 rfl rfl (off13 3 c) fun _ => ?_
  exact wpc_end c (St_at X K c (by decide) (h _ (sum_next X c 3 2 (off13 3 c) rfl rfl)))

/-- The messages of chunk 3: add 2, send 3 and 4. -/
theorem part33 {w0 w1 w2 w3 w4 w5 : BitVec 32} {w : FVec F S24x1024 .f32} (hw : IsSum X c 3 2 w) :
    Runs X K c (k0_part33 xM hx oM ho rM hr cc0_scratch1 cc0_scratch2 c w0 w1 w2 w3 w4 w5 w) ![12, 12, 12, 8, 7, 7] ![12, 12, 12, 11, 7, 7] := by
  intro Q R h
  rw [k0_part33_eq_skeleton]; unfold k0_part33_skel
  simp only [Prog.lift, Prog.bind_op, Prog.bind_ret, Prog.pure_eq_ret]
  refine step_add X K c (j := 3) (k := 2) rfl rfl (off13 3 c) hw ?_
  refine step_sendG X K c (j := 3) (m := 3) rfl (by decide) (dev_z c (k0_dev31_eq c)) rfl (off14 3 c) rfl rfl ?_
  refine step_sendG X K c (j := 3) (m := 4) rfl (by decide) (dev_y c (k0_dev32_eq c)) rfl (off14 3 c) rfl rfl ?_
  exact wpc_end c (St_at X K c (by decide) (h _ trivial))

/-- The messages of chunk 3: send 6; chunk 4: receive 2, add 2. -/
theorem part34 {w0 w1 w2 w3 w4 w5 : BitVec 32} :
    Runs X K c (k0_part34 xM hx oM ho rM hr cc0_scratch1 cc0_scratch2 c w0 w1 w2 w3 w4 w5) ![12, 12, 12, 11, 7, 7] ![12, 12, 12, 12, 9, 7] := by
  intro Q R h
  rw [k0_part34_eq_skeleton]; unfold k0_part34_skel
  simp only [Prog.lift, Prog.bind_op, Prog.bind_ret, Prog.pure_eq_ret]
  refine step_sendG X K c (j := 3) (m := 6) rfl (by decide) (dev_x c (k0_dev33_eq c)) rfl (off14 3 c) rfl rfl ?_
  refine step_wait X K c (j := 4) (m := 2) rfl (by decide +kernel) rfl rfl ?_
  refine load_sum X K c 4 2 (by decide) rfl rfl (off15 0 c) ?_
  refine load_slot X K c 4 2 (by decide +kernel) rfl rfl ?_
  refine load_dead X K c 4 2 rfl rfl (off15 0 c) fun _ => ?_
  refine step_add X K c (j := 4) (k := 2) rfl rfl (off15 0 c) (sum_next X c 4 2 (off15 0 c) rfl rfl) ?_
  exact wpc_end c (St_at X K c (by decide) (h _ trivial))

/-- The messages of chunk 4: send 3, 4 and 6. -/
theorem part35 {w0 w1 w2 w3 w4 w5 w6 : BitVec 32} :
    Runs X K c (k0_part35 xM hx oM ho rM hr cc0_scratch1 cc0_scratch2 c w0 w1 w2 w3 w4 w5 w6) ![12, 12, 12, 12, 9, 7] ![12, 12, 12, 12, 12, 7] := by
  intro Q R h
  rw [k0_part35_eq_skeleton]; unfold k0_part35_skel
  simp only [Prog.lift, Prog.bind_op, Prog.bind_ret, Prog.pure_eq_ret]
  refine step_sendG X K c (j := 4) (m := 3) rfl (by decide) (dev_x c (k0_dev34_eq c)) rfl (off16 0 c) rfl rfl ?_
  refine step_sendG X K c (j := 4) (m := 4) rfl (by decide) (dev_z c (k0_dev35_eq c)) rfl (off16 0 c) rfl rfl ?_
  refine step_sendG X K c (j := 4) (m := 6) rfl (by decide) (dev_y c (k0_dev36_eq c)) rfl (off16 0 c) rfl rfl ?_
  exact wpc_end c (St_at X K c (by decide) (h _ trivial))

/-- The messages of chunk 5: receive 2, add 2, send 3. -/
theorem part36 {w0 w1 w2 w3 : BitVec 32} :
    Runs X K c (k0_part36 xM hx oM ho rM hr cc0_scratch1 cc0_scratch2 c w0 w1 w2 w3) ![12, 12, 12, 12, 12, 7] ![12, 12, 12, 12, 12, 10] := by
  intro Q R h
  rw [k0_part36_eq_skeleton]; unfold k0_part36_skel
  simp only [Prog.lift, Prog.bind_op, Prog.bind_ret, Prog.pure_eq_ret]
  refine step_wait X K c (j := 5) (m := 2) rfl (by decide +kernel) rfl rfl ?_
  refine load_sum X K c 5 2 (by decide) rfl rfl (off15 1 c) ?_
  refine load_slot X K c 5 2 (by decide +kernel) rfl rfl ?_
  refine load_dead X K c 5 2 rfl rfl (off15 1 c) fun _ => ?_
  refine step_add X K c (j := 5) (k := 2) rfl rfl (off15 1 c) (sum_next X c 5 2 (off15 1 c) rfl rfl) ?_
  refine step_sendG X K c (j := 5) (m := 3) rfl (by decide) (dev_y c (k0_dev37_eq c)) rfl (off16 1 c) rfl rfl ?_
  exact wpc_end c (St_at X K c (by decide) (h _ trivial))

/-- The messages of chunk 5: send 4 and 6. -/
theorem part37 {w0 w1 w2 w3 w4 : BitVec 32} :
    Runs X K c (k0_part37 xM hx oM ho rM hr cc0_scratch1 cc0_scratch2 c w0 w1 w2 w3 w4) ![12, 12, 12, 12, 12, 10] ![12, 12, 12, 12, 12, 12] := by
  intro Q R h
  rw [k0_part37_eq_skeleton]; unfold k0_part37_skel
  simp only [Prog.lift, Prog.bind_op, Prog.bind_ret, Prog.pure_eq_ret]
  refine step_sendG X K c (j := 5) (m := 4) rfl (by decide) (dev_x c (k0_dev38_eq c)) rfl (off16 1 c) rfl rfl ?_
  refine step_sendG X K c (j := 5) (m := 6) rfl (by decide) (dev_z c (k0_dev39_eq c)) rfl (off16 1 c) rfl rfl ?_
  exact wpc_end c (St_at X K c (by decide) (h _ trivial))

end Cert.AllReduceIdeal

end
-- ==== Proof.Ideal.Gather.lean ====
/-
The gather: each block received is sent on, until every device has all eight blocks of every chunk.
-/
module

public import proofs.«01_k».proof.Proof.Ideal.Runs

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD) {hx : xM.IsWhole} {ho : oM.IsWhole} {hr : rM.IsWhole}

/-- The messages of chunk 0: receive 3, send 5 and 7. -/
theorem part38 {w0 w1 w2 w3 w4 : BitVec 32} :
    Runs X K c (k0_part38 xM hx oM ho rM hr cc0_scratch1 cc0_scratch2 c w0 w1 w2 w3 w4) ![12, 12, 12, 12, 12, 12] ![15, 12, 12, 12, 12, 12] := by
  intro Q R h
  rw [k0_part38_eq_skeleton]; unfold k0_part38_skel
  simp only [Prog.lift, Prog.bind_op, Prog.bind_ret, Prog.pure_eq_ret]
  refine step_wait X K c (j := 0) (m := 3) rfl (by decide +kernel) rfl rfl ?_
  refine step_sendG X K c (j := 0) (m := 5) rfl (by decide) (dev_y c (k0_dev40_eq c)) rfl (off10 0 c) rfl rfl ?_
  refine step_sendG X K c (j := 0) (m := 7) rfl (by decide) (dev_x c (k0_dev41_eq c)) rfl (off10 0 c) rfl rfl ?_
  exact wpc_end c (St_at X K c (by decide) (h _ trivial))

/-- The messages of chunk 1: receive 3, send 5 and 7. -/
theorem part39 {w0 w1 w2 w3 w4 w5 w6 : BitVec 32} :
    Runs X K c (k0_part39 xM hx oM ho rM hr cc0_scratch1 cc0_scratch2 c w0 w1 w2 w3 w4 w5 w6) ![15, 12, 12, 12, 12, 12] ![15, 15, 12, 12, 12, 12] := by
  intro Q R h
  rw [k0_part39_eq_skeleton]; unfold k0_part39_skel
  simp only [Prog.lift, Prog.bind_op, Prog.bind_ret, Prog.pure_eq_ret]
  refine step_wait X K c (j := 1) (m := 3) rfl (by decide +kernel) rfl rfl ?_
  refine step_sendG X K c (j := 1) (m := 5) rfl (by decide) (dev_z c (k0_dev42_eq c)) rfl (off10 1 c) rfl rfl ?_
  refine step_sendG X K c (j := 1) (m := 7) rfl (by decide) (dev_y c (k0_dev43_eq c)) rfl (off10 1 c) rfl rfl ?_
  exact wpc_end c (St_at X K c (by decide) (h _ trivial))

/-- The messages of chunk 2: receive 3, send 5. -/
theorem part40 {w0 w1 w2 w3 w4 w5 : BitVec 32} :
    Runs X K c (k0_part40 xM hx oM ho rM hr cc0_scratch1 cc0_scratch2 c w0 w1 w2 w3 w4 w5) ![15, 15, 12, 12, 12, 12] ![15, 15, 14, 12, 12, 12] := by
  intro Q R h
  rw [k0_part40_eq_skeleton]; unfold k0_part40_skel
  simp only [Prog.lift, Prog.bind_op, Prog.bind_ret, Prog.pure_eq_ret]
  refine step_wait X K c (j := 2) (m := 3) rfl (by decide +kernel) rfl rfl ?_
  refine step_sendG X K c (j := 2) (m := 5) rfl (by decide) (dev_x c (k0_dev44_eq c)) rfl (off10 2 c) rfl rfl ?_
  exact wpc_end c (St_at X K c (by decide) (h _ trivial))

/-- The messages of chunk 2: send 7; chunk 3: receive 3, send 5. -/
theorem part41 {w0 w1 w2 w3 w4 w5 : BitVec 32} :
    Runs X K c (k0_part41 xM hx oM ho rM hr cc0_scratch1 cc0_scratch2 c w0 w1 w2 w3 w4 w5) ![15, 15, 14, 12, 12, 12] ![15, 15, 15, 14, 12, 12] := by
  intro Q R h
  rw [k0_part41_eq_skeleton]; unfold k0_part41_skel
  simp only [Prog.lift, Prog.bind_op, Prog.bind_ret, Prog.pure_eq_ret]
  refine step_sendG X K c (j := 2) (m := 7) rfl (by decide) (dev_z c (k0_dev45_eq c)) rfl (off10 2 c) rfl rfl ?_
  refine step_wait X K c (j := 3) (m := 3) rfl (by decide +kernel) rfl rfl ?_
  refine step_sendG X K c (j := 3) (m := 5) rfl (by decide) (dev_y c (k0_dev46_eq c)) rfl (off10 3 c) rfl rfl ?_
  exact wpc_end c (St_at X K c (by decide) (h _ trivial))

/-- The messages of chunk 3: send 7; chunk 4: receive 3, send 5. -/
theorem part42 {w0 w1 w2 w3 w4 w5 : BitVec 32} :
    Runs X K c (k0_part42 xM hx oM ho rM hr cc0_scratch1 cc0_scratch2 c w0 w1 w2 w3 w4 w5) ![15, 15, 15, 14, 12, 12] ![15, 15, 15, 15, 14, 12] := by
  intro Q R h
  rw [k0_part42_eq_skeleton]; unfold k0_part42_skel
  simp only [Prog.lift, Prog.bind_op, Prog.bind_ret, Prog.pure_eq_ret]
  refine step_sendG X K c (j := 3) (m := 7) rfl (by decide) (dev_x c (k0_dev47_eq c)) rfl (off10 3 c) rfl rfl ?_
  refine step_wait X K c (j := 4) (m := 3) rfl (by decide +kernel) rfl rfl ?_
  refine step_sendG X K c (j := 4) (m := 5) rfl (by decide) (dev_z c (k0_dev48_eq c)) rfl (off12 0 c) rfl rfl ?_
  exact wpc_end c (St_at X K c (by decide) (h _ trivial))

/-- The messages of chunk 4: send 7; chunk 5: receive 3. -/
theorem part43 {w0 w1 w2 w3 w4 : BitVec 32} :
    Runs X K c (k0_part43 xM hx oM ho rM hr cc0_scratch1 cc0_scratch2 c w0 w1 w2 w3 w4) ![15, 15, 15, 15, 14, 12] ![15, 15, 15, 15, 15, 13] := by
  intro Q R h
  rw [k0_part43_eq_skeleton]; unfold k0_part43_skel
  simp only [Prog.lift, Prog.bind_op, Prog.bind_ret, Prog.pure_eq_ret]
  refine step_sendG X K c (j := 4) (m := 7) rfl (by decide) (dev_y c (k0_dev49_eq c)) rfl (off12 0 c) rfl rfl ?_
  refine step_wait X K c (j := 5) (m := 3) rfl (by decide +kernel) rfl rfl ?_
  exact wpc_end c (St_at X K c (by decide) (h _ trivial))

/-- The messages of chunk 0: receive 4; chunk 5: send 5 and 7. -/
theorem part44 {w0 w1 w2 w3 w4 w5 : BitVec 32} :
    Runs X K c (k0_part44 xM hx oM ho rM hr cc0_scratch1 cc0_scratch2 c w0 w1 w2 w3 w4 w5) ![15, 15, 15, 15, 15, 13] ![16, 15, 15, 15, 15, 15] := by
  intro Q R h
  rw [k0_part44_eq_skeleton]; unfold k0_part44_skel
  simp only [Prog.lift, Prog.bind_op, Prog.bind_ret, Prog.pure_eq_ret]
  refine step_sendG X K c (j := 5) (m := 5) rfl (by decide) (dev_x c (k0_dev50_eq c)) rfl (off12 1 c) rfl rfl ?_
  refine step_sendG X K c (j := 5) (m := 7) rfl (by decide) (dev_z c (k0_dev51_eq c)) rfl (off12 1 c) rfl rfl ?_
  refine step_wait X K c (j := 0) (m := 4) rfl (by decide +kernel) rfl rfl ?_
  exact wpc_end c (St_at X K c (by decide) (h _ trivial))

/-- The messages of chunk 0: send 8; chunk 1: receive 4, send 8. -/
theorem part45 {w0 w1 w2 w3 w4 w5 w6 w7 : BitVec 32} :
    Runs X K c (k0_part45 xM hx oM ho rM hr cc0_scratch1 cc0_scratch2 c w0 w1 w2 w3 w4 w5 w6 w7) ![16, 15, 15, 15, 15, 15] ![17, 17, 15, 15, 15, 15] := by
  intro Q R h
  rw [k0_part45_eq_skeleton]; unfold k0_part45_skel
  simp only [Prog.lift, Prog.bind_op, Prog.bind_ret, Prog.pure_eq_ret]
  refine step_sendG X K c (j := 0) (m := 8) rfl (by decide) (dev_x c (k0_dev52_eq c)) rfl (off17 0 c) rfl rfl ?_
  refine step_wait X K c (j := 1) (m := 4) rfl (by decide +kernel) rfl rfl ?_
  refine step_sendG X K c (j := 1) (m := 8) rfl (by decide) (dev_y c (k0_dev53_eq c)) rfl (off17 1 c) rfl rfl ?_
  exact wpc_end c (St_at X K c (by decide) (h _ trivial))

/-- The messages of chunk 2: receive 4, send 8; chunk 3: receive 4. -/
theorem part46 {w0 w1 w2 w3 w4 w5 : BitVec 32} :
    Runs X K c (k0_part46 xM hx oM ho rM hr cc0_scratch1 cc0_scratch2 c w0 w1 w2 w3 w4 w5) ![17, 17, 15, 15, 15, 15] ![17, 17, 17, 16, 15, 15] := by
  intro Q R h
  rw [k0_part46_eq_skeleton]; unfold k0_part46_skel
  simp only [Prog.lift, Prog.bind_op, Prog.bind_ret, Prog.pure_eq_ret]
  refine step_wait X K c (j := 2) (m := 4) rfl (by decide +kernel) rfl rfl ?_
  refine step_sendG X K c (j := 2) (m := 8) rfl (by decide) (dev_z c (k0_dev54_eq c)) rfl (off17 2 c) rfl rfl ?_
  refine step_wait X K c (j := 3) (m := 4) rfl (by decide +kernel) rfl rfl ?_
  exact wpc_end c (St_at X K c (by decide) (h _ trivial))

/-- The messages of chunk 3: send 8; chunk 4: receive 4. -/
theorem part47 {w0 w1 w2 w3 w4 w5 : BitVec 32} :
    Runs X K c (k0_part47 xM hx oM ho rM hr cc0_scratch1 cc0_scratch2 c w0 w1 w2 w3 w4 w5) ![17, 17, 17, 16, 15, 15] ![17, 17, 17, 17, 16, 15] := by
  intro Q R h
  rw [k0_part47_eq_skeleton]; unfold k0_part47_skel
  simp only [Prog.lift, Prog.bind_op, Prog.bind_ret, Prog.pure_eq_ret]
  refine step_sendG X K c (j := 3) (m := 8) rfl (by decide) (dev_x c (k0_dev55_eq c)) rfl (off17 3 c) rfl rfl ?_
  refine step_wait X K c (j := 4) (m := 4) rfl (by decide +kernel) rfl rfl ?_
  exact wpc_end c (St_at X K c (by decide) (h _ trivial))

/-- The messages of chunk 4: send 8; chunk 5: receive 4, send 8. -/
theorem part48 {w0 w1 w2 w3 w4 w5 : BitVec 32} :
    Runs X K c (k0_part48 xM hx oM ho rM hr cc0_scratch1 cc0_scratch2 c w0 w1 w2 w3 w4 w5) ![17, 17, 17, 17, 16, 15] ![17, 17, 17, 17, 17, 17] := by
  intro Q R h
  rw [k0_part48_eq_skeleton]; unfold k0_part48_skel
  simp only [Prog.lift, Prog.bind_op, Prog.bind_ret, Prog.pure_eq_ret]
  refine step_sendG X K c (j := 4) (m := 8) rfl (by decide) (dev_y c (k0_dev56_eq c)) rfl (off18 0 c) rfl rfl ?_
  refine step_wait X K c (j := 5) (m := 4) rfl (by decide +kernel) rfl rfl ?_
  refine step_sendG X K c (j := 5) (m := 8) rfl (by decide) (dev_z c (k0_dev57_eq c)) rfl (off18 1 c) rfl rfl ?_
  exact wpc_end c (St_at X K c (by decide) (h _ trivial))

/-- The messages of chunk 0: receive 5, send 9; chunk 1: receive 5. -/
theorem part49 {w0 w1 w2 w3 w4 w5 w6 : BitVec 32} :
    Runs X K c (k0_part49 xM hx oM ho rM hr cc0_scratch1 cc0_scratch2 c w0 w1 w2 w3 w4 w5 w6) ![17, 17, 17, 17, 17, 17] ![19, 18, 17, 17, 17, 17] := by
  intro Q R h
  rw [k0_part49_eq_skeleton]; unfold k0_part49_skel
  simp only [Prog.lift, Prog.bind_op, Prog.bind_ret, Prog.pure_eq_ret]
  refine step_wait X K c (j := 0) (m := 5) rfl (by decide +kernel) rfl rfl ?_
  refine step_sendG X K c (j := 0) (m := 9) rfl (by decide) (dev_x c (k0_dev58_eq c)) rfl (off19 0 c) rfl rfl ?_
  refine step_wait X K c (j := 1) (m := 5) rfl (by decide +kernel) rfl rfl ?_
  exact wpc_end c (St_at X K c (by decide) (h _ trivial))

/-- The messages of chunk 1: send 9; chunk 2: receive 5. -/
theorem part50 {w0 w1 w2 w3 w4 w5 w6 : BitVec 32} :
    Runs X K c (k0_part50 xM hx oM ho rM hr cc0_scratch1 cc0_scratch2 c w0 w1 w2 w3 w4 w5 w6) ![19, 18, 17, 17, 17, 17] ![19, 19, 18, 17, 17, 17] := by
  intro Q R h
  rw [k0_part50_eq_skeleton]; unfold k0_part50_skel
  simp only [Prog.lift, Prog.bind_op, Prog.bind_ret, Prog.pure_eq_ret]
  refine step_sendG X K c (j := 1) (m := 9) rfl (by decide) (dev_y c (k0_dev59_eq c)) rfl (off19 1 c) rfl rfl ?_
  refine step_wait X K c (j := 2) (m := 5) rfl (by decide +kernel) rfl rfl ?_
  exact wpc_end c (St_at X K c (by decide) (h _ trivial))

/-- The messages of chunk 2: send 9; chunk 3: receive 5, send 9. -/
theorem part51 {w0 w1 w2 w3 w4 w5 : BitVec 32} :
    Runs X K c (k0_part51 xM hx oM ho rM hr cc0_scratch1 cc0_scratch2 c w0 w1 w2 w3 w4 w5) ![19, 19, 18, 17, 17, 17] ![19, 19, 19, 19, 17, 17] := by
  intro Q R h
  rw [k0_part51_eq_skeleton]; unfold k0_part51_skel
  simp only [Prog.lift, Prog.bind_op, Prog.bind_ret, Prog.pure_eq_ret]
  refine step_sendG X K c (j := 2) (m := 9) rfl (by decide) (dev_z c (k0_dev60_eq c)) rfl (off19 2 c) rfl rfl ?_
  refine step_wait X K c (j := 3) (m := 5) rfl (by decide +kernel) rfl rfl ?_
  refine step_sendG X K c (j := 3) (m := 9) rfl (by decide) (dev_x c (k0_dev61_eq c)) rfl (off19 3 c) rfl rfl ?_
  exact wpc_end c (St_at X K c (by decide) (h _ trivial))

/-- The messages of chunk 4: receive 5, send 9; chunk 5: receive 5. -/
theorem part52 {w0 w1 w2 w3 w4 : BitVec 32} :
    Runs X K c (k0_part52 xM hx oM ho rM hr cc0_scratch1 cc0_scratch2 c w0 w1 w2 w3 w4) ![19, 19, 19, 19, 17, 17] ![19, 19, 19, 19, 19, 18] := by
  intro Q R h
  rw [k0_part52_eq_skeleton]; unfold k0_part52_skel
  simp only [Prog.lift, Prog.bind_op, Prog.bind_ret, Prog.pure_eq_ret]
  refine step_wait X K c (j := 4) (m := 5) rfl (by decide +kernel) rfl rfl ?_
  refine step_sendG X K c (j := 4) (m := 9) rfl (by decide) (dev_y c (k0_dev62_eq c)) rfl (off20 0 c) rfl rfl ?_
  refine step_wait X K c (j := 5) (m := 5) rfl (by decide +kernel) rfl rfl ?_
  exact wpc_end c (St_at X K c (by decide) (h _ trivial))

/-- The messages of chunk 0: receive 6 and 7; chunk 5: send 9. -/
theorem part53 {w0 w1 w2 w3 w4 w5 : BitVec 32} :
    Runs X K c (k0_part53 xM hx oM ho rM hr cc0_scratch1 cc0_scratch2 c w0 w1 w2 w3 w4 w5) ![19, 19, 19, 19, 19, 18] ![21, 19, 19, 19, 19, 19] := by
  intro Q R h
  rw [k0_part53_eq_skeleton]; unfold k0_part53_skel
  simp only [Prog.lift, Prog.bind_op, Prog.bind_ret, Prog.pure_eq_ret]
  refine step_sendG X K c (j := 5) (m := 9) rfl (by decide) (dev_z c (k0_dev63_eq c)) rfl (off20 1 c) rfl rfl ?_
  refine step_wait X K c (j := 0) (m := 6) rfl (by decide +kernel) rfl rfl ?_
  refine step_wait X K c (j := 0) (m := 7) rfl (by decide +kernel) rfl rfl ?_
  exact wpc_end c (St_at X K c (by decide) (h _ trivial))

/-- The messages of chunk 0: receive 8 and 9; chunk 1: receive 6. -/
theorem part54 {w0 w1 w2 w3 w4 : BitVec 32} :
    Runs X K c (k0_part54 xM hx oM ho rM hr cc0_scratch1 cc0_scratch2 c w0 w1 w2 w3 w4) ![21, 19, 19, 19, 19, 19] ![23, 20, 19, 19, 19, 19] := by
  intro Q R h
  rw [k0_part54_eq_skeleton]; unfold k0_part54_skel
  simp only [Prog.lift, Prog.bind_op, Prog.bind_ret, Prog.pure_eq_ret]
  refine step_wait X K c (j := 0) (m := 8) rfl (by decide +kernel) rfl rfl ?_
  refine step_wait X K c (j := 0) (m := 9) rfl (by decide +kernel) rfl rfl ?_
  refine step_wait X K c (j := 1) (m := 6) rfl (by decide +kernel) rfl rfl ?_
  exact wpc_end c (St_at X K c (by decide) (h _ trivial))

/-- The messages of chunk 1: receive 7 and 8. -/
theorem part55 {w0 w1 w2 : BitVec 32} :
    Runs X K c (k0_part55 xM hx oM ho rM hr cc0_scratch1 cc0_scratch2 c w0 w1 w2) ![23, 20, 19, 19, 19, 19] ![23, 22, 19, 19, 19, 19] := by
  intro Q R h
  rw [k0_part55_eq_skeleton]; unfold k0_part55_skel
  simp only [Prog.lift, Prog.bind_op, Prog.bind_ret, Prog.pure_eq_ret]
  refine step_wait X K c (j := 1) (m := 7) rfl (by decide +kernel) rfl rfl ?_
  refine step_wait X K c (j := 1) (m := 8) rfl (by decide +kernel) rfl rfl ?_
  exact wpc_end c (St_at X K c (by decide) (h _ trivial))

/-- The messages of chunk 1: receive 9; chunk 2: receive 6 and 7. -/
theorem part56 {w0 w1 w2 : BitVec 32} :
    Runs X K c (k0_part56 xM hx oM ho rM hr cc0_scratch1 cc0_scratch2 c w0 w1 w2) ![23, 22, 19, 19, 19, 19] ![23, 23, 21, 19, 19, 19] := by
  intro Q R h
  rw [k0_part56_eq_skeleton]; unfold k0_part56_skel
  simp only [Prog.lift, Prog.bind_op, Prog.bind_ret, Prog.pure_eq_ret]
  refine step_wait X K c (j := 1) (m := 9) rfl (by decide +kernel) rfl rfl ?_
  refine step_wait X K c (j := 2) (m := 6) rfl (by decide +kernel) rfl rfl ?_
  refine step_wait X K c (j := 2) (m := 7) rfl (by decide +kernel) rfl rfl ?_
  exact wpc_end c (St_at X K c (by decide) (h _ trivial))

/-- The messages of chunk 2: receive 8 and 9; chunk 3: receive 6. -/
theorem part57 {w0 w1 w2 w3 w4 : BitVec 32} :
    Runs X K c (k0_part57 xM hx oM ho rM hr cc0_scratch1 cc0_scratch2 c w0 w1 w2 w3 w4) ![23, 23, 21, 19, 19, 19] ![23, 23, 23, 20, 19, 19] := by
  intro Q R h
  rw [k0_part57_eq_skeleton]; unfold k0_part57_skel
  simp only [Prog.lift, Prog.bind_op, Prog.bind_ret, Prog.pure_eq_ret]
  refine step_wait X K c (j := 2) (m := 8) rfl (by decide +kernel) rfl rfl ?_
  refine step_wait X K c (j := 2) (m := 9) rfl (by decide +kernel) rfl rfl ?_
  refine step_wait X K c (j := 3) (m := 6) rfl (by decide +kernel) rfl rfl ?_
  exact wpc_end c (St_at X K c (by decide) (h _ trivial))

/-- The messages of chunk 3: receive 7, 8 and 9. -/
theorem part58 {w0 w1 w2 w3 w4 w5 w6 : BitVec 32} :
    Runs X K c (k0_part58 xM hx oM ho rM hr cc0_scratch1 cc0_scratch2 c w0 w1 w2 w3 w4 w5 w6) ![23, 23, 23, 20, 19, 19] ![23, 23, 23, 23, 19, 19] := by
  intro Q R h
  rw [k0_part58_eq_skeleton]; unfold k0_part58_skel
  simp only [Prog.lift, Prog.bind_op, Prog.bind_ret, Prog.pure_eq_ret]
  refine step_wait X K c (j := 3) (m := 7) rfl (by decide +kernel) rfl rfl ?_
  refine step_wait X K c (j := 3) (m := 8) rfl (by decide +kernel) rfl rfl ?_
  refine step_wait X K c (j := 3) (m := 9) rfl (by decide +kernel) rfl rfl ?_
  exact wpc_end c (St_at X K c (by decide) (h _ trivial))

/-- The messages of chunk 4: receive 6, 7 and 8. -/
theorem part59 {w0 w1 w2 w3 w4 : BitVec 32} :
    Runs X K c (k0_part59 xM hx oM ho rM hr cc0_scratch1 cc0_scratch2 c w0 w1 w2 w3 w4) ![23, 23, 23, 23, 19, 19] ![23, 23, 23, 23, 22, 19] := by
  intro Q R h
  rw [k0_part59_eq_skeleton]; unfold k0_part59_skel
  simp only [Prog.lift, Prog.bind_op, Prog.bind_ret, Prog.pure_eq_ret]
  refine step_wait X K c (j := 4) (m := 6) rfl (by decide +kernel) rfl rfl ?_
  refine step_wait X K c (j := 4) (m := 7) rfl (by decide +kernel) rfl rfl ?_
  refine step_wait X K c (j := 4) (m := 8) rfl (by decide +kernel) rfl rfl ?_
  exact wpc_end c (St_at X K c (by decide) (h _ trivial))

/-- The messages of chunk 4: receive 9; chunk 5: receive 6 and 7. -/
theorem part60 {w0 w1 w2 w3 w4 w5 w6 : BitVec 32} :
    Runs X K c (k0_part60 xM hx oM ho rM hr cc0_scratch1 cc0_scratch2 c w0 w1 w2 w3 w4 w5 w6) ![23, 23, 23, 23, 22, 19] ![23, 23, 23, 23, 23, 21] := by
  intro Q R h
  rw [k0_part60_eq_skeleton]; unfold k0_part60_skel
  simp only [Prog.lift, Prog.bind_op, Prog.bind_ret, Prog.pure_eq_ret]
  refine step_wait X K c (j := 4) (m := 9) rfl (by decide +kernel) rfl rfl ?_
  refine step_wait X K c (j := 5) (m := 6) rfl (by decide +kernel) rfl rfl ?_
  refine step_wait X K c (j := 5) (m := 7) rfl (by decide +kernel) rfl rfl ?_
  exact wpc_end c (St_at X K c (by decide) (h _ trivial))

end Cert.AllReduceIdeal

end
-- ==== Proof.Ideal.Closing.lean ====
/-
The last arrivals, and the waits for the ends of the device's own sends.
-/
module

public import proofs.«01_k».proof.Proof.Ideal.Runs

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD) {hx : xM.IsWhole} {ho : oM.IsWhole} {hr : rM.IsWhole}

/-- The messages of chunk 0: await the sending of 0; chunk 5: receive 8 and 9. -/
theorem part61 {w0 w1 w2 : BitVec 32} :
    Runs X K c (k0_part61 xM hx oM ho rM hr cc0_scratch1 cc0_scratch2 c w0 w1 w2) ![23, 23, 23, 23, 23, 21] ![24, 23, 23, 23, 23, 23] := by
  intro Q R h
  rw [k0_part61_eq_skeleton]; unfold k0_part61_skel
  simp only [Prog.lift, Prog.bind_op, Prog.bind_ret, Prog.pure_eq_ret]
  refine step_wait X K c (j := 5) (m := 8) rfl (by decide +kernel) rfl rfl ?_
  refine step_wait X K c (j := 5) (m := 9) rfl (by decide +kernel) rfl rfl ?_
  refine step_back X K c (j := 0) (m := 0) rfl rfl rfl ?_
  exact wpc_end c (St_at X K c (by decide) (h _ trivial))

/-- The messages of chunk 0: await the sending of 1, 2, 3 and 4. -/
theorem part62 :
    Runs X K c (k0_part62 xM hx oM ho rM hr cc0_scratch1 cc0_scratch2 c) ![24, 23, 23, 23, 23, 23] ![28, 23, 23, 23, 23, 23] := by
  intro Q R h
  rw [k0_part62_eq_skeleton]; unfold k0_part62_skel
  simp only [Prog.lift, Prog.bind_op, Prog.bind_ret, Prog.pure_eq_ret]
  refine step_back X K c (j := 0) (m := 1) rfl rfl rfl ?_
  refine step_back X K c (j := 0) (m := 2) rfl rfl rfl ?_
  refine step_back X K c (j := 0) (m := 3) rfl rfl rfl ?_
  refine step_back X K c (j := 0) (m := 4) rfl rfl rfl ?_
  exact wpc_end c (St_at X K c (by decide) (h _ trivial))

/-- The messages of chunk 0: await the sending of 5, 6, 7, 8 and 9. -/
theorem part63 :
    Runs X K c (k0_part63 xM hx oM ho rM hr cc0_scratch1 cc0_scratch2 c) ![28, 23, 23, 23, 23, 23] ![33, 23, 23, 23, 23, 23] := by
  intro Q R h
  rw [k0_part63_eq_skeleton]; unfold k0_part63_skel
  simp only [Prog.lift, Prog.bind_op, Prog.bind_ret, Prog.pure_eq_ret]
  refine step_back X K c (j := 0) (m := 5) rfl rfl rfl ?_
  refine step_back X K c (j := 0) (m := 6) rfl rfl rfl ?_
  refine step_back X K c (j := 0) (m := 7) rfl rfl rfl ?_
  refine step_back X K c (j := 0) (m := 8) rfl rfl rfl ?_
  refine step_back X K c (j := 0) (m := 9) rfl rfl rfl ?_
  exact wpc_end c (St_at X K c (by decide) (h _ trivial))

/-- The messages of chunk 1: await the sending of 0, 1, 2 and 3. -/
theorem part64 :
    Runs X K c (k0_part64 xM hx oM ho rM hr cc0_scratch1 cc0_scratch2 c) ![33, 23, 23, 23, 23, 23] ![33, 27, 23, 23, 23, 23] := by
  intro Q R h
  rw [k0_part64_eq_skeleton]; unfold k0_part64_skel
  simp only [Prog.lift, Prog.bind_op, Prog.bind_ret, Prog.pure_eq_ret]
  refine step_back X K c (j := 1) (m := 0) rfl rfl rfl ?_
  refine step_back X K c (j := 1) (m := 1) rfl rfl rfl ?_
  refine step_back X K c (j := 1) (m := 2) rfl rfl rfl ?_
  refine step_back X K c (j := 1) (m := 3) rfl rfl rfl ?_
  exact wpc_end c (St_at X K c (by decide) (h _ trivial))

/-- The messages of chunk 1: await the sending of 4, 5, 6, 7 and 8. -/
theorem part65 :
    Runs X K c (k0_part65 xM hx oM ho rM hr cc0_scratch1 cc0_scratch2 c) ![33, 27, 23, 23, 23, 23] ![33, 32, 23, 23, 23, 23] := by
  intro Q R h
  rw [k0_part65_eq_skeleton]; unfold k0_part65_skel
  simp only [Prog.lift, Prog.bind_op, Prog.bind_ret, Prog.pure_eq_ret]
  refine step_back X K c (j := 1) (m := 4) rfl rfl rfl ?_
  refine step_back X K c (j := 1) (m := 5) rfl rfl rfl ?_
  refine step_back X K c (j := 1) (m := 6) rfl rfl rfl ?_
  refine step_back X K c (j := 1) (m := 7) rfl rfl rfl ?_
  refine step_back X K c (j := 1) (m := 8) rfl rfl rfl ?_
  exact wpc_end c (St_at X K c (by decide) (h _ trivial))

/-- The messages of chunk 1: await the sending of 9; chunk 2: await the sending of 0, 1 and 2. -/
theorem part66 :
    Runs X K c (k0_part66 xM hx oM ho rM hr cc0_scratch1 cc0_scratch2 c) ![33, 32, 23, 23, 23, 23] ![33, 33, 26, 23, 23, 23] := by
  intro Q R h
  rw [k0_part66_eq_skeleton]; unfold k0_part66_skel
  simp only [Prog.lift, Prog.bind_op, Prog.bind_ret, Prog.pure_eq_ret]
  refine step_back X K c (j := 1) (m := 9) rfl rfl rfl ?_
  refine step_back X K c (j := 2) (m := 0) rfl rfl rfl ?_
  refine step_back X K c (j := 2) (m := 1) rfl rfl rfl ?_
  refine step_back X K c (j := 2) (m := 2) rfl rfl rfl ?_
  exact wpc_end c (St_at X K c (by decide) (h _ trivial))

/-- The messages of chunk 2: await the sending of 3, 4, 5, 6 and 7. -/
theorem part67 :
    Runs X K c (k0_part67 xM hx oM ho rM hr cc0_scratch1 cc0_scratch2 c) ![33, 33, 26, 23, 23, 23] ![33, 33, 31, 23, 23, 23] := by
  intro Q R h
  rw [k0_part67_eq_skeleton]; unfold k0_part67_skel
  simp only [Prog.lift, Prog.bind_op, Prog.bind_ret, Prog.pure_eq_ret]
  refine step_back X K c (j := 2) (m := 3) rfl rfl rfl ?_
  refine step_back X K c (j := 2) (m := 4) rfl rfl rfl ?_
  refine step_back X K c (j := 2) (m := 5) rfl rfl rfl ?_
  refine step_back X K c (j := 2) (m := 6) rfl rfl rfl ?_
  refine step_back X K c (j := 2) (m := 7) rfl rfl rfl ?_
  exact wpc_end c (St_at X K c (by decide) (h _ trivial))

/-- The messages of chunk 2: await the sending of 8 and 9; chunk 3: await the sending of 0 and 1. -/
theorem part68 :
    Runs X K c (k0_part68 xM hx oM ho rM hr cc0_scratch1 cc0_scratch2 c) ![33, 33, 31, 23, 23, 23] ![33, 33, 33, 25, 23, 23] := by
  intro Q R h
  rw [k0_part68_eq_skeleton]; unfold k0_part68_skel
  simp only [Prog.lift, Prog.bind_op, Prog.bind_ret, Prog.pure_eq_ret]
  refine step_back X K c (j := 2) (m := 8) rfl rfl rfl ?_
  refine step_back X K c (j := 2) (m := 9) rfl rfl rfl ?_
  refine step_back X K c (j := 3) (m := 0) rfl rfl rfl ?_
  refine step_back X K c (j := 3) (m := 1) rfl rfl rfl ?_
  exact wpc_end c (St_at X K c (by decide) (h _ trivial))

/-- The messages of chunk 3: await the sending of 2, 3, 4, 5 and 6. -/
theorem part69 :
    Runs X K c (k0_part69 xM hx oM ho rM hr cc0_scratch1 cc0_scratch2 c) ![33, 33, 33, 25, 23, 23] ![33, 33, 33, 30, 23, 23] := by
  intro Q R h
  rw [k0_part69_eq_skeleton]; unfold k0_part69_skel
  simp only [Prog.lift, Prog.bind_op, Prog.bind_ret, Prog.pure_eq_ret]
  refine step_back X K c (j := 3) (m := 2) rfl rfl rfl ?_
  refine step_back X K c (j := 3) (m := 3) rfl rfl rfl ?_
  refine step_back X K c (j := 3) (m := 4) rfl rfl rfl ?_
  refine step_back X K c (j := 3) (m := 5) rfl rfl rfl ?_
  refine step_back X K c (j := 3) (m := 6) rfl rfl rfl ?_
  exact wpc_end c (St_at X K c (by decide) (h _ trivial))

/-- The messages of chunk 3: await the sending of 7, 8 and 9; chunk 4: await the sending of 0. -/
theorem part70 :
    Runs X K c (k0_part70 xM hx oM ho rM hr cc0_scratch1 cc0_scratch2 c) ![33, 33, 33, 30, 23, 23] ![33, 33, 33, 33, 24, 23] := by
  intro Q R h
  rw [k0_part70_eq_skeleton]; unfold k0_part70_skel
  simp only [Prog.lift, Prog.bind_op, Prog.bind_ret, Prog.pure_eq_ret]
  refine step_back X K c (j := 3) (m := 7) rfl rfl rfl ?_
  refine step_back X K c (j := 3) (m := 8) rfl rfl rfl ?_
  refine step_back X K c (j := 3) (m := 9) rfl rfl rfl ?_
  refine step_back X K c (j := 4) (m := 0) rfl rfl rfl ?_
  exact wpc_end c (St_at X K c (by decide) (h _ trivial))

/-- The messages of chunk 4: await the sending of 1, 2, 3, 4 and 5. -/
theorem part71 :
    Runs X K c (k0_part71 xM hx oM ho rM hr cc0_scratch1 cc0_scratch2 c) ![33, 33, 33, 33, 24, 23] ![33, 33, 33, 33, 29, 23] := by
  intro Q R h
  rw [k0_part71_eq_skeleton]; unfold k0_part71_skel
  simp only [Prog.lift, Prog.bind_op, Prog.bind_ret, Prog.pure_eq_ret]
  refine step_back X K c (j := 4) (m := 1) rfl rfl rfl ?_
  refine step_back X K c (j := 4) (m := 2) rfl rfl rfl ?_
  refine step_back X K c (j := 4) (m := 3) rfl rfl rfl ?_
  refine step_back X K c (j := 4) (m := 4) rfl rfl rfl ?_
  refine step_back X K c (j := 4) (m := 5) rfl rfl rfl ?_
  exact wpc_end c (St_at X K c (by decide) (h _ trivial))

/-- The messages of chunk 4: await the sending of 6, 7, 8 and 9. -/
theorem part72 :
    Runs X K c (k0_part72 xM hx oM ho rM hr cc0_scratch1 cc0_scratch2 c) ![33, 33, 33, 33, 29, 23] ![33, 33, 33, 33, 33, 23] := by
  intro Q R h
  rw [k0_part72_eq_skeleton]; unfold k0_part72_skel
  simp only [Prog.lift, Prog.bind_op, Prog.bind_ret, Prog.pure_eq_ret]
  refine step_back X K c (j := 4) (m := 6) rfl rfl rfl ?_
  refine step_back X K c (j := 4) (m := 7) rfl rfl rfl ?_
  refine step_back X K c (j := 4) (m := 8) rfl rfl rfl ?_
  refine step_back X K c (j := 4) (m := 9) rfl rfl rfl ?_
  exact wpc_end c (St_at X K c (by decide) (h _ trivial))

/-- The messages of chunk 5: await the sending of 0, 1, 2, 3 and 4. -/
theorem part73 :
    Runs X K c (k0_part73 xM hx oM ho rM hr cc0_scratch1 cc0_scratch2 c) ![33, 33, 33, 33, 33, 23] ![33, 33, 33, 33, 33, 28] := by
  intro Q R h
  rw [k0_part73_eq_skeleton]; unfold k0_part73_skel
  simp only [Prog.lift, Prog.bind_op, Prog.bind_ret, Prog.pure_eq_ret]
  refine step_back X K c (j := 5) (m := 0) rfl rfl rfl ?_
  refine step_back X K c (j := 5) (m := 1) rfl rfl rfl ?_
  refine step_back X K c (j := 5) (m := 2) rfl rfl rfl ?_
  refine step_back X K c (j := 5) (m := 3) rfl rfl rfl ?_
  refine step_back X K c (j := 5) (m := 4) rfl rfl rfl ?_
  exact wpc_end c (St_at X K c (by decide) (h _ trivial))

end Cert.AllReduceIdeal

end
-- ==== Proof.Ideal.Body.lean ====
/-
The whole body of the kernel, part after part, on one device.
-/
module

public import proofs.«01_k».proof.Proof.Ideal.Start
public import proofs.«01_k».proof.Proof.Ideal.First
public import proofs.«01_k».proof.Proof.Ideal.Second
public import proofs.«01_k».proof.Proof.Ideal.Third
public import proofs.«01_k».proof.Proof.Ideal.Gather
public import proofs.«01_k».proof.Proof.Ideal.Closing

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XBuf F) (K : Dev nD × Cell → ℕ) (c : Dev nD) {hx : xM.IsWhole} {ho : oM.IsWhole} {hr : rM.IsWhole}

set_option maxRecDepth 65536 in
/-- Parts 1 to 60: the handshake, the three halvings and most of the gather. The device they return is the one they run on. -/
theorem part74 {R : sProp 𝕄} {Q : _ → sProp 𝕄} (h : ∀ v2 v5 v11, iprop(St X K c ![23, 23, 23, 23, 23, 21] ∗ semVal (barCell c) 0 ∗ R) ⊢ Q ⟨c, v2, v5, v11⟩) :
    iprop(ctx X K ∗ owesBar (F := F) c Finset.univ ∗ signals c Finset.univ ∗ (atPos ER (barCell c) 0 ∅ 0 ∗ cred (tallyAt (barCell c) () 3)) ∗ kept X c ∗ R)
      ⊢ wpc c (k0_part74 xM hx oM ho rM hr cc0_scratch1 cc0_scratch2) Q := by
  rw [k0_part74_eq_skeleton]; unfold k0_part74_skel wpc
  rw [wp_bind]
  refine part1 X K c fun v2 v5 v8 v9 v10 v11 => ?_
  rw [wp_bind]
  refine part2 X K c ?_
  rintro ⟨_, _, _, _, _⟩
  refine (?_ : Runs X K c _ ![0, 0, 0, 0, 0, 0] ![23, 23, 23, 23, 23, 21] fun r : (Σ' (_ : Dev nD) (_ : BitVec 32) (_ : BitVec 32), BitVec 32) => r.1 = c) Q _ ?_
  rotate_left
  · rintro ⟨d, v2, v5, v11⟩ rfl; exact h v2 v5 v11
  refine Runs.bind X K c (part3 X K c) ?_; rintro ⟨_, _, _, _⟩ -
  refine Runs.bind X K c (part4 X K c) ?_; rintro ⟨_, _⟩ -
  refine Runs.bind X K c (part5 X K c) ?_; rintro ⟨_, _, _⟩ -
  refine Runs.bind X K c (part6 X K c) ?_; rintro ⟨_, _, _, _, _⟩ -
  refine Runs.bind X K c (part7 X K c) ?_; rintro ⟨_, _, _⟩ -
  refine Runs.bind X K c (part8 X K c) ?_; rintro ⟨_, _, _, _, _⟩ -
  refine Runs.bind X K c (part9 X K c) ?_; rintro ⟨_, _, _, _, _⟩ -
  refine Runs.bind X K c (part10 X K c) ?_; rintro ⟨⟩ -
  refine Runs.bind X K c (part11 X K c) ?_; rintro ⟨⟩ -
  refine Runs.bind X K c (part12 X K c) ?_; rintro ⟨⟩ -
  refine Runs.bind X K c (part13 X K c) ?_; rintro ⟨⟩ -
  refine Runs.bind X K c (part14 X K c) ?_; rintro ⟨_, _⟩ -
  refine Runs.bind X K c (part15 X K c) ?_; rintro ⟨⟩ -
  refine Runs.bind X K c (part16 X K c) ?_; rintro ⟨⟩ -
  refine Runs.bind X K c (part17 X K c) ?_; rintro ⟨_, _⟩ -
  refine Runs.bind X K c (part18 X K c) ?_; rintro w hw
  refine Runs.bind X K c (part19 X K c hw) ?_; rintro ⟨⟩ -
  refine Runs.bind X K c (part20 X K c) ?_; rintro ⟨⟩ -
  refine Runs.bind X K c (part21 X K c) ?_; rintro ⟨⟩ -
  refine Runs.bind X K c (part22 X K c) ?_; rintro ⟨_, _⟩ -
  refine Runs.bind X K c (part23 X K c) ?_; rintro ⟨_, _⟩ -
  refine Runs.bind X K c (part24 X K c) ?_; rintro _ -
  refine Runs.bind X K c (part25 X K c) ?_; rintro ⟨⟩ -
  refine Runs.bind X K c (part26 X K c) ?_; rintro ⟨⟩ -
  refine Runs.bind X K c (part27 X K c) ?_; rintro ⟨⟩ -
  refine Runs.bind X K c (part28 X K c) ?_; rintro ⟨_, _⟩ -
  refine Runs.bind X K c (part29 X K c) ?_; rintro ⟨_, _⟩ -
  refine Runs.bind X K c (part30 X K c) ?_; rintro ⟨⟩ -
  refine Runs.bind X K c (part31 X K c) ?_; rintro ⟨⟩ -
  refine Runs.bind X K c (part32 X K c) ?_; rintro w hw
  refine Runs.bind X K c (part33 X K c hw) ?_; rintro ⟨_, _⟩ -
  refine Runs.bind X K c (part34 X K c) ?_; rintro ⟨_, _⟩ -
  refine Runs.bind X K c (part35 X K c) ?_; rintro ⟨⟩ -
  refine Runs.bind X K c (part36 X K c) ?_; rintro ⟨⟩ -
  refine Runs.bind X K c (part37 X K c) ?_; rintro ⟨⟩ -
  refine Runs.bind X K c (part38 X K c) ?_; rintro ⟨_, _⟩ -
  refine Runs.bind X K c (part39 X K c) ?_; rintro ⟨⟩ -
  refine Runs.bind X K c (part40 X K c) ?_; rintro ⟨⟩ -
  refine Runs.bind X K c (part41 X K c) ?_; rintro _ -
  refine Runs.bind X K c (part42 X K c) ?_; rintro ⟨⟩ -
  refine Runs.bind X K c (part43 X K c) ?_; rintro ⟨⟩ -
  refine Runs.bind X K c (part44 X K c) ?_; rintro ⟨_, _⟩ -
  refine Runs.bind X K c (part45 X K c) ?_; rintro _ -
  refine Runs.bind X K c (part46 X K c) ?_; rintro ⟨⟩ -
  refine Runs.bind X K c (part47 X K c) ?_; rintro ⟨⟩ -
  refine Runs.bind X K c (part48 X K c) ?_; rintro ⟨_, _⟩ -
  refine Runs.bind X K c (part49 X K c) ?_; rintro _ -
  refine Runs.bind X K c (part50 X K c) ?_; rintro ⟨⟩ -
  refine Runs.bind X K c (part51 X K c) ?_; rintro ⟨⟩ -
  refine Runs.bind X K c (part52 X K c) ?_; rintro ⟨_, _⟩ -
  refine Runs.bind X K c (part53 X K c) ?_; rintro ⟨⟩ -
  refine Runs.bind X K c (part54 X K c) ?_; rintro ⟨⟩ -
  refine Runs.bind X K c (part55 X K c) ?_; rintro ⟨⟩ -
  refine Runs.bind X K c (part56 X K c) ?_; rintro ⟨⟩ -
  refine Runs.bind X K c (part57 X K c) ?_; rintro ⟨_, _⟩ -
  refine Runs.bind X K c (part58 X K c) ?_; rintro ⟨_, _⟩ -
  refine Runs.bind X K c (part59 X K c) ?_; rintro ⟨_, _⟩ -
  refine Runs.bind X K c (part60 X K c) ?_; rintro ⟨⟩ -
  intro Q R h
  exact wpc_end c (h _ rfl)

set_option maxRecDepth 65536 in
/-- Parts 61 to 73, the end of the gather, and the waits that follow. -/
theorem part75 {v2 v5 v11 : BitVec 32} :
    Runs X K c (k0_part75 xM hx oM ho rM hr cc0_scratch1 cc0_scratch2 c v2 v5 v11) ![23, 23, 23, 23, 23, 21] ![33, 33, 33, 33, 33, 32] := by
  rw [k0_part75_eq_skeleton]; unfold k0_part75_skel
  refine Runs.bind X K c (part61 X K c) ?_; rintro ⟨⟩ -
  refine Runs.bind X K c (part62 X K c) ?_; rintro ⟨⟩ -
  refine Runs.bind X K c (part63 X K c) ?_; rintro ⟨⟩ -
  refine Runs.bind X K c (part64 X K c) ?_; rintro ⟨⟩ -
  refine Runs.bind X K c (part65 X K c) ?_; rintro ⟨⟩ -
  refine Runs.bind X K c (part66 X K c) ?_; rintro ⟨⟩ -
  refine Runs.bind X K c (part67 X K c) ?_; rintro ⟨⟩ -
  refine Runs.bind X K c (part68 X K c) ?_; rintro ⟨⟩ -
  refine Runs.bind X K c (part69 X K c) ?_; rintro ⟨⟩ -
  refine Runs.bind X K c (part70 X K c) ?_; rintro ⟨⟩ -
  refine Runs.bind X K c (part71 X K c) ?_; rintro ⟨⟩ -
  refine Runs.bind X K c (part72 X K c) ?_; rintro ⟨⟩ -
  refine Runs.bind X K c (part73 X K c) ?_; rintro ⟨⟩ -
  intro Q R h
  simp only [Prog.lift, Prog.bind_op, Prog.bind_ret, Prog.pure_eq_ret]
  refine step_back X K c (j := 5) (m := 5) rfl rfl rfl ?_
  refine step_back X K c (j := 5) (m := 6) rfl rfl rfl ?_
  refine step_back X K c (j := 5) (m := 7) rfl rfl rfl ?_
  refine step_back X K c (j := 5) (m := 8) rfl rfl rfl ?_
  exact St_at X K c (by decide) (wpc_end c (h _ trivial))

set_option maxRecDepth 65536 in
/-- The body, from the handshake to the last wait. -/
theorem body {R : sProp 𝕄} {Q : PUnit → sProp 𝕄} (h : iprop(St X K c (fun _ => 33) ∗ semVal (barCell c) 0 ∗ R) ⊢ Q ⟨⟩) :
    iprop(ctx X K ∗ owesBar (F := F) c Finset.univ ∗ signals c Finset.univ ∗ (atPos ER (barCell c) 0 ∅ 0 ∗ cred (tallyAt (barCell c) () 3)) ∗ kept X c ∗ R)
      ⊢ wpc c (cc0_body xM hx oM ho rM hr cc0_scratch1 cc0_scratch2) Q := by
  rw [cc0_body_eq_skeleton]; unfold cc0_body_skel wpc
  rw [wp_bind]
  refine part74 X K c fun v2 v5 v11 => ?_
  rw [wp_bind]
  refine part75 X K c _ _ fun _ _ => ?_
  simp only [Prog.lift, Prog.bind_op, Prog.bind_ret, Prog.pure_eq_ret]
  refine step_back X K c (j := 5) (m := 9) rfl rfl rfl ?_
  exact St_at X K c (σ' := fun _ => 33) (by decide) (wpc_end c h)

end Cert.AllReduceIdeal

end
-- ==== Proof.Ideal.Launch.lean ====
/-
The launch: each device's body meets the pipeline's obligation, and the eight devices together run to the end: every
result array holds the sum the halvings made, every argument is unchanged and every semaphore is at zero.
-/
module

public import proofs.«01_k».proof.Proof.Ideal.Ghost
public import proofs.«01_k».proof.Proof.Ideal.Body
public import Idealize.ShloMosaic.Lib.Pipeline.Kit
public import Idealize.ShloMosaic.Lib.Pipeline.CollectiveSegs
public import Idealize.ShloMosaic.Lib.Tactic

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The proof data -/

/-- A device's argument, as the pipeline stages it. -/
def xs (c : Dev nD) : XBuf F := (win0_0.blk (0 : Fin 1)).view.read (Elt F) ((s₀ m ρ).mem ((c : Thread nD τ).loc main_arg0))

/-- Before the body: what it starts from, and the receive buffer. -/
def pre : sProp 𝕄 := iprop((∃ K, ctx (xs m ρ) K ∗ tokens c) ∗ ∃ f, rLoc c ↦{fullShare} f)
/-- After it: the receive buffer, and the semaphores at zero. -/
def post : sProp 𝕄 :=
  iprop((∃ f : RBuf F, rLoc c ↦{fullShare} f) ∗ (bigSep Finset.univ fun o : Own => semVal ((c : Thread nD τ), ownSem o) 0) ∗ semVal (barCell c) 0)

/-- The pipeline's data of the one region: the buffers before and after, what the body starts and ends with, and
    what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outAt (xs m ρ)
  Φ t := match t with
    | ⟨0, _⟩ => pre m ρ c
    | ⟨_ + 1, _⟩ => post c
  q _ := fullShare
  owed t := match t with
    | ⟨0, _⟩ => O₀ c
    | ⟨_ + 1, _⟩ => 0

omit [FloatOps F] in
/-- A whole buffer owned, spelt out. -/
theorem owns_buf (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-! ## The body -/

/-- A whole staging buffer with known contents. -/
abbrev held (b : Ref sig .tc) (f : b.ty.Contents (Elt F)) : sProp 𝕄 :=
  iprop(∃ g : Buf (Elt F) ((c : Thread nD τ).loc b), ⌜g = f⌝ ∗ (((c : Thread nD τ).loc b) ↦{fullShare} g))

/-- What the pipeline hands the body, -/
def entry : sProp 𝕄 :=
  iprop(pre m ρ c ∗ (dats m ρ 0 c).owesAt () t0_0.castSucc
    ∗ (∃ d, held c cc0_stg0_0 ((dats m ρ 0 c).before (0 : Fin 2) t0_0 d))
    ∗ ∃ d, held c cc0_stg1_0 ((dats m ρ 0 c).before (1 : Fin 2) t0_0 d))
/-- and what it gets back. -/
def exit : sProp 𝕄 :=
  iprop(post c ∗ (dats m ρ 0 c).owesAt () t0_0.succ ∗ held c cc0_stg0_0 (xs m ρ c) ∗ held c cc0_stg1_0 (outAt (xs m ρ)))

/-- What the body ends with is what the pipeline gets back. -/
theorem exit_intro (K : Dev nD × Cell → ℕ) : iprop(St (xs m ρ) K c (fun _ => 33) ∗ semVal (barCell c) 0 ∗ bigSep Finset.univ fun j => spare (F := F) j c) ⊢ exit m ρ c := by
  refine BIBase.Entails.trans (finish (xs m ρ) K c) ?_
  unfold exit post Dat.owesAt Pipeline.owesWithin
  rw [show (dats m ρ 0 c).owed t0_0.succ = 0 from rfl]
  iintro ⟨Hx, Ho, Hr, Hs, Hb, ⟨%W, HO⟩⟩
  isplitl [Hr Hs Hb]
  · isplitl [Hr]; · iexact Hr
    isplitl [Hs] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The body from what the pipeline hands it to what it gets back. -/
theorem body_run : entry m ρ c
    ⊢ wpc c (cc0_body xM (Memref.isWhole_whole _) oM (Memref.isWhole_whole _) rM (Memref.isWhole_whole _) cc0_scratch1 cc0_scratch2) fun _ => exit m ρ c := by
  unfold entry pre
  iintro ⟨⟨⟨%K, #Hctx, Htok⟩, ⟨%g, Hr⟩⟩, Ho, ⟨%d0, %f0, %h0, Hx⟩, ⟨%d1, %f1, -, Hout⟩⟩
  have hx : f0 = xs m ρ c := by rw [h0]; unfold Dat.before; rw [if_pos (show (cfg0.win (0 : Fin 2)).fetch t0_0 = true from rfl)]; rfl
  subst hx
  unfold Dat.owesAt Pipeline.owesWithin
  icases Ho with ⟨%W, -, HO⟩
  rw [show (dats m ρ 0 c).owed t0_0.castSucc = O₀ c from rfl]
  ihave H := (ready (xs m ρ) K c f1 g) $$ [Htok Hr HO Hx Hout]
  · isplitr; · iexact Hctx
    isplitl [HO]; · unfold owesBar; iexists W; iexact HO
    isplitl [Htok]; · iexact Htok
    isplitl [Hx]; · iexact Hx
    isplitl [Hout]; · iexact Hout
    iexact Hr
  iapply (body (xs m ρ) K c (exit_intro m ρ c K))
  iexact H

set_option maxRecDepth 100000 in
/-- The pipeline's obligation on the body, met. -/
theorem body_met : BodyObligation (dats (F := F) m ρ 0 c) (defs₀ (F := F)) 𝒱₀ () Set.univ := fun t => by
  rw [fin_N0 t, bigSep_W0, bigSep_W0]
  simp only [owns_buf]
  show entry m ρ c ⊢ wpc c (cc0_body xM (Memref.isWhole_whole _) oM (Memref.isWhole_whole _) rM (Memref.isWhole_whole _) cc0_scratch1 cc0_scratch2) fun _ => exit m ρ c
  exact body_run m ρ c

/-! ## The launch -/

set_option maxRecDepth 100000 in
/-- The scoped semaphores of a device are those the protocol names. -/
theorem own_facts : Pipeline.OwnSemFacts cfg0.spec ownSem := by decide +kernel

/-- The windows' arrays are owned whole. -/
theorem share_whole (w : Fin cfg0.W) : (dats m ρ 0 c).share w = fullShare := by unfold Dat.share; split <;> rfl

/-- The staging waits are below all that is owed. -/
theorem staging_waits : (levAts L lv : sProp 𝕄) ⊢ Pipeline.cellsWaits cfgs (dats m ρ) () 0 c :=
  Pipeline.cellsWaits_intro cfgs (dats m ρ) () 0 c fun w s t => mayWait_below c _ _ fun g u hg => by
    have h0 : lvS (.dma ((cfg0.win w).sem s)) = 0 := by fin_cases w <;> fin_cases s <;> decide +kernel
    rw [h0]
    rcases t with ⟨_ | _, ht⟩
    · have hg' : 0 < owedBar Finset.univ c g u + owed (fun _ => Finset.univ) c g u := hg
      rcases Nat.add_pos_iff_pos_or_pos.mp hg' with h | h
      · obtain ⟨a, -, rfl⟩ := owedBar_pos h
        exact ⟨rfl, by rw [lvS_bar]; decide⟩
      · obtain ⟨j, n, -, rfl⟩ := owed_pos h
        exact ⟨rfl, by rw [lvS_rcv]; exact Nat.succ_pos _⟩
    · exact absurd hg (lt_irrefl 0)

/-- What the body starts from, out of what the launch leaves a device. -/
theorem start_intro : iprop(Pipeline.unscopedRestP Pipeline.Prefetch.none cfg0.spec c (fun b => m ((c : Thread nD τ).loc b)) ∗ levAts L lv
      ∗ Pipeline.launchCred O₀ c ∗ prngReg c (ρ c) ∗ given (xs m ρ) c)
    ⊢ |={Set.univ}=> iprop((∃ K, ctx (xs m ρ) K ∗ tokens c) ∗ emp) := by
  unfold given
  iintro ⟨-, Hlev, Hcr, -, ⟨%K, Hrec, Hlin⟩⟩
  ihave Hc := (credits (F := F) c) $$ Hcr
  icases Hc with ⟨Hc1, Hc2⟩
  imodintro
  isplitl
  · iexists K
    isplitl [Hrec Hlev]
    · unfold ctx; isplitl [Hrec] <;> iassumption
    iapply (tokens_intro c)
    isplitl [Hlin]; · iexact Hlin
    isplitl [Hc1] <;> iassumption
  · iempintro

/-- What the body starts with, from what the launch hands it. -/
theorem enter : iprop((∃ K, ctx (xs m ρ) K ∗ tokens c) ∗ Pipeline.prefHeld Pipeline.Prefetch.none c (fun _ => fullShare.right) (fun k => k.elim0) ∗ Pipeline.scopedRest cfg0.spec c)
    ⊢ (dats m ρ 0 c).Φ 0 := by
  rw [show (dats m ρ 0 c).Φ 0 = pre m ρ c from rfl, scopedRest0_eq]
  unfold pre
  iintro ⟨Hs, -, Hr⟩
  isplitl [Hs] <;> iassumption

/-- What the body ends with has every semaphore at zero. -/
theorem leave : (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = post c from rfl, scopedRest0_eq, unscoped_eq]
  unfold post Pipeline.ownSems0
  iintro ⟨Hr, Hs, Hb⟩
  isplitl [Hb]; · iexact Hb
  isplitl [Hs] <;> iassumption

/-- An array after the run. -/
def final (w : Fin cfg0.W) : Buf (Elt F) ((cfg0.win w).arr.view.loc (c : Thread nD τ)) := (dats m ρ 0 c).arrAt w cfg0.N

set_option maxRecDepth 100000 in
/-- Every fair execution of the eight devices ends, with the arrays at their contents after the run and the semaphores at zero. -/
theorem run_main : θ_run defs (onTc (τ := τ) (main (F := F))) (s₀ m ρ) fun r =>
    (∀ (c : Dev nD) (w : Fin cfg0.W), r.2.mem ((cfg0.win w).arr.view.loc (c : Thread nD τ)) = final m ρ c w) ∧ r.2.sem = fun _ => 0 :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl) (hbody := body_met m ρ) (hne := block_pos0) (harr := arr_whole0) (hstage := stage_whole0)
    (hshare := share_whole m ρ) (hdistinct := winFacts0.arr_inj)
    (O₀ := O₀) (howed₀ := fun _ => rfl) (howedN := fun _ => rfl) (L := L) (lv := lv) (hL := L_of_ne) (hwaits := staging_waits m ρ)
    (G := dealt (xs m ρ)) (G' := given (xs m ρ)) (u₀ := u₀)
    (hu₀ := by
      unfold u₀
      iintro Hu
      ihave H := (ownU_pair _ _) $$ Hu
      icases H with ⟨HP, HX⟩
      imod (fund_cells (xs m ρ)) $$ HX with HG
      imodintro
      isplitl [HP] <;> iassumption)
    (hglob := glob (xs m ρ)) (hA := fun _ _ => rfl) (hpf := fun _ k => k.elim0)
    (X := fun c => iprop(∃ K, ctx (xs m ρ) K ∗ tokens c)) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is unchanged; -/
theorem final_x : final m ρ c (0 : Fin 2) = m ((c.tc : Thread nD τ).loc main_arg0) := (dats (F := F) m ρ 0 c).arrAt_in (0 : Fin 2) rfl _

/-- the result's holds the sum. -/
theorem final_o : (win0_1.blk (0 : Fin 1)).view.read (Elt F) (final m ρ c (1 : Fin 2)) = outAt (xs m ρ) := by
  unfold final
  rw [show cfg0.N = ((0 : Fin 1) : Fin cfg0.N).val + 1 from rfl, (dats m ρ 0 c).arrAt_succ (1 : Fin 2) (0 : Fin 1),
    show (cfg0.win (1 : Fin 2)).flush (0 : Fin 1) = true from rfl, if_pos rfl]
  exact View.read_write_univ _ _

end Cert.AllReduceIdeal

end
-- ==== Proof.Ideal.Value.lean ====
/-
The value: over the extended reals what the halvings sum, on every device and in every block of rows, is the sum of the
eight devices' arguments.
-/
module

public import proofs.«01_k».proof.Proof.Ideal.Launch
public import Idealize.ShloMosaic.PureOps.Ideal.Laws

@[expose] public section

noncomputable section

namespace Cert.AllReduceIdeal

open Cert.KernelIdeal Cert.KernelIdeal.Gen Cert.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The sum -/

/-- The devices whose arguments chunk `j`'s three halvings bring together on a device: all eight, each once. -/
theorem reached_all : ∀ (j : Fin 6) (c : Fin 8),
    [c, mate j 0 c, mate j 1 c, mate j 0 (mate j 1 c), mate j 2 c, mate j 0 (mate j 2 c), mate j 1 (mate j 2 c), mate j 0 (mate j 1 (mate j 2 c))].Perm (List.finRange 8) := by
  decide +kernel

/-- After the three halvings a partial sum is the sum over the devices. -/
theorem acc_sum (X : Dev nD → XBuf Ideal) (j : Fin 6) (c : Dev nD) (i : S1024x1024.Idx) :
    acc X j 3 c i = (∑ d : Fin 8, X d (lift5 i) : EReal) := by
  rw [Fin.sum_univ_def, ← ((reached_all j c).map fun d => (X d (lift5 i) : EReal)).sum_eq]
  simp only [List.map_cons, List.map_nil, List.sum_cons, List.sum_nil, add_zero]
  show ((X c (lift5 i) + X (mate j 0 c) (lift5 i)) + (X (mate j 1 c) (lift5 i) + X (mate j 0 (mate j 1 c)) (lift5 i))
    + ((X (mate j 2 c) (lift5 i) + X (mate j 0 (mate j 2 c)) (lift5 i)) + (X (mate j 1 (mate j 2 c)) (lift5 i) + X (mate j 0 (mate j 1 (mate j 2 c))) (lift5 i))) : EReal) = _
  simp only [add_assoc]

/-- So the result is that sum. -/
theorem outAt_sum (X : Dev nD → XBuf Ideal) : outAt X = fun i => (∑ d : Fin 8, X d (lift5 i) : EReal) :=
  funext fun i => acc_sum X _ _ i

/-! ## The arrays -/

variable (m : (ℓ : Loc nD τ sig) → Buf (Elt F) ℓ) (ρ : Dev nD → PrngReg) (c : Dev nD)

/-- The argument is staged whole. -/
theorem xs_eq : xs m ρ c = m ((c.tc : Thread nD τ).loc main_arg0) := by
  have hz : (fun a => (win0_0.index (0 : Fin 1)) a * main_arg0.ty.shape.size a) = fun _ => 0 := funext fun a => by fin_cases a <;> rfl
  exact Memref.read_access_unit_zero (Elt F) main_arg0 hz (fun a => by fin_cases a <;> decide) _

/-- The result is written back whole. -/
theorem final_out : final m ρ c (1 : Fin 2) = outAt (xs m ρ) := by
  have hz : (fun a => (win0_1.index (0 : Fin 1)) a * main_v1.ty.shape.size a) = fun _ => 0 := funext fun a => by fin_cases a <;> rfl
  exact (Memref.read_access_unit_zero (Elt F) main_v1 hz (fun a => by fin_cases a <;> decide) _).symm.trans (final_o m ρ c)

end Cert.AllReduceIdeal

end
-- ==== Proof.Value.Reference.lean ====
/-
  The reference: over the extended reals its result is the sum of the eight blocks of its argument, the block a device of
  the mesh holds among them.
-/
module

public import proofs.«01_k».proof.Proof.Gen.ReferenceIdeal.Run
public import Idealize.ShloMosaic.PureOps.Ideal.Laws
public import Idealize.ShloMosaic.Lib.Layout
public import Idealize.ShloMosaic.Lib.IdealHost
public import Idealize.ShloMosaic.Lib.Pointwise.Index

@[expose] public section

noncomputable section

namespace Cert.AllReduceReference

open Cert.ReferenceIdeal Cert.ReferenceIdeal.Gen
open Idealize.ShloMosaic

/-- Where row and column `i` of device `d`'s block is in the whole argument. -/
def place (d : Fin 8) (i : S1024x1024.Idx) : S2x2x2x1024x1024.Idx :=
  ix5 (⟨d.val / 4, by omega⟩ : Fin 2) (⟨d.val / 2 % 2, by omega⟩ : Fin 2) (⟨d.val % 2, by omega⟩ : Fin 2) (i 0) (i 1)

/-- The device whose block an index of the whole argument lies in. -/
def holder (x : S2x2x2x1024x1024.Idx) : Fin 8 :=
  ⟨(x 0).val * 4 + (x 1).val * 2 + (x 2).val, by
    have h0 : (x 0).val < 2 := (x 0).isLt
    have h1 : (x 1).val < 2 := (x 1).isLt
    have h2 : (x 2).val < 2 := (x 2).isLt
    omega⟩

/-- A place in the block of device `d` is held by `d`. -/
theorem holder_place (d : Fin 8) (i : S1024x1024.Idx) : holder (place d i) = d := by
  apply Fin.ext
  show d.val / 4 * 4 + d.val / 2 % 2 * 2 + d.val % 2 = d.val
  omega

/-- Dropping the three mesh coordinates leaves row and column. -/
theorem drop_place (h : S2x2x2x1024x1024.ReducesTo [0, 1, 2] S1024x1024) (d : Fin 8) (i : S1024x1024.Idx) : h.drop (place d i) = i :=
  funext fun b => Fin.ext (match b with
    | 0 => rfl
    | 1 => rfl)

/-- Every place is one in the block of the device that holds it. -/
theorem place_holder (h : S2x2x2x1024x1024.ReducesTo [0, 1, 2] S1024x1024) (x : S2x2x2x1024x1024.Idx) : place (holder x) (h.drop x) = x := by
  have h0 : (x 0).val < 2 := (x 0).isLt
  have h1 : (x 1).val < 2 := (x 1).isLt
  have h2 : (x 2).val < 2 := (x 2).isLt
  funext b
  apply Fin.ext
  match b with
  | 0 => show ((x 0).val * 4 + (x 1).val * 2 + (x 2).val) / 4 = (x 0).val; omega
  | 1 => show ((x 0).val * 4 + (x 1).val * 2 + (x 2).val) / 2 % 2 = (x 1).val; omega
  | 2 => show ((x 0).val * 4 + (x 1).val * 2 + (x 2).val) % 2 = (x 2).val; omega
  | 3 => rfl
  | 4 => rfl

/-- The reference's result at a row and column is the sum of the eight blocks there. -/
theorem reduce_sum (v : S2x2x2x1024x1024.Idx → Elt Ideal .f32) (h : S2x2x2x1024x1024.ReducesTo [0, 1, 2] S1024x1024) (hu : 0 < S_.numel) (i : S1024x1024.Idx) :
    Host.reduceAdd (F := Ideal) (φ := .f32) v (constant S_ .f32 0x00000000#32) h hu i = (∑ d : Fin 8, v (place d i) : EReal) := by
  rw [ValueIdx.hostReduceAdd_apply]
  unfold Ideal.hostReduceAdd
  refine (congrArg₂ (· + ·) Ideal.ofBits_zero_f32 rfl).trans ((zero_add _).trans ?_)
  refine Finset.sum_nbij' holder (fun d => place d i) (fun _ _ => Finset.mem_univ _)
    (fun d _ => Finset.mem_filter.mpr ⟨Finset.mem_univ _, drop_place h d i⟩) (fun x hx => ?_) (fun d _ => holder_place d i) (fun x hx => ?_)
  · rw [← (Finset.mem_filter.mp hx).2]; exact place_holder h x
  · rw [← (Finset.mem_filter.mp hx).2, place_holder h x]

/-- The block a device of the mesh holds, at a row and column. -/
theorem block_place {v : S2x2x2x1024x1024.Idx → Elt Ideal .f32} (c : Fin 8) (h : Layout.TilesN ⟨5, ![1, 1, 1, 1024, 1024]⟩ ⟨5, ![2, 2, 2, 1024, 1024]⟩ _) (i : S1024x1024.Idx) :
    Layout.blockN ⟨5, ![1, 1, 1, 1024, 1024]⟩ ⟨5, ![2, 2, 2, 1024, 1024]⟩ (Layout.meshBlock [2, 2, 2] ![[0], [1], [2], [], []] c) v h
      (ix5 (0 : Fin 1) (0 : Fin 1) (0 : Fin 1) (i 0) (i 1)) = v (place c i) := by
  rw [Layout.blockN_apply]
  refine congrArg v (funext fun b => Fin.ext ?_)
  have hc := c.isLt
  match b with
  | 0 => show (c.val / 4 % 2 * 1 + 0) * 1 + 0 = c.val / 4; omega
  | 1 => show (c.val / 2 % 2 * 1 + 0) * 1 + 0 = c.val / 2 % 2; omega
  | 2 => show (c.val / 1 % 2 * 1 + 0) * 1 + 0 = c.val % 2; omega
  | 3 => show 0 * 1024 + (i 0).val = (i 0).val; omega
  | 4 => show 0 * 1024 + (i 1).val = (i 1).val; omega

end Cert.AllReduceReference

end
-- ==== Proof.lean ====
/- The certificate's claim: the kernel runs on the eight devices at both readings of its floats, the reference on its one
   device, and over the extended reals every device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Launch
public import proofs.«01_k».proof.Proof.Ideal.Value
public import proofs.«01_k».proof.Proof.Value.Reference
public import Idealize.ShloMosaic.Adequacy
public import Idealize.ShloMosaic.Init

@[expose] public section

noncomputable section

namespace Cert.Proof

open Idealize.ShloMosaic Idealize.SL.Sem Cert.Kernel

/-- The kernel at the machine's floats: it runs, the arguments are unchanged, the semaphores end at zero. -/
theorem kernel_runs : Cert.quiescent_Kernel := fun m g _ =>
  (θ_run Cert.Kernel.defs _ _).mono (fun _ h => ⟨fun c => (h.1 c (0 : Fin 2)).trans (Cert.AllReduceBits.final_x m g c), h.2⟩)
    (Cert.AllReduceBits.run_main (F := Bits) m g)

/-- The kernel over the extended reals: the same. -/
theorem kernel_ideal_runs : Cert.quiescent_KernelIdeal := fun m g _ =>
  (θ_run Cert.KernelIdeal.defs _ _).mono (fun _ h => ⟨fun c => (h.1 c (0 : Fin 2)).trans (Cert.AllReduceIdeal.final_x m g c), h.2⟩)
    (Cert.AllReduceIdeal.run_main (F := Ideal) m g)

/-- The reference: the same; it has no semaphore. -/
theorem reference_runs : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals every device's result is the reference's: the sum of the eight blocks of the argument. -/
theorem results_agree : Cert.algebraic_KernelIdeal_ReferenceIdeal := by
  intro m g m' g' _ hagree
  refine ⟨_, ?_, (θ_run Cert.ReferenceIdeal.defs _ _).mono (fun _ h => h 0) (Cert.ReferenceIdeal.Value.run (F := Ideal) m' g')⟩
  refine (θ_run Cert.KernelIdeal.defs _ _).mono
    (fun _ h c => ⟨(h.1 c (1 : Fin 2)).trans ?_, (h.1 c (0 : Fin 2)).trans (Cert.AllReduceIdeal.final_x m g c)⟩)
    (Cert.AllReduceIdeal.run_main (F := Ideal) m g)
  rw [Cert.AllReduceIdeal.final_out, Cert.AllReduceIdeal.outAt_sum]
  funext i
  refine Eq.trans (Finset.sum_congr rfl fun d _ => ?_) (Cert.AllReduceReference.reduce_sum _ _ _ i).symm
  rw [Cert.AllReduceIdeal.xs_eq, hagree d]
  exact Cert.AllReduceReference.block_place d _ i

/-- The five claims: the three programs run, no rule was applied to the kernel, the results agree. -/
theorem claim : Cert.Claim := ⟨Cert.Kernel.Gen.facts, Cert.KernelIdeal.Gen.facts, Cert.ReferenceIdeal.Gen.facts,
  kernel_runs, kernel_ideal_runs, reference_runs, trivial, results_agree⟩

end Cert.Proof

end
